-- ==== Defs.lean ====
def Pre_Kernel [hPre_lens_fit : Cert.Pre_lens_fit.Facts] (m : (ℓ : Loc Cert.Kernel.nD Cert.Kernel.τ Cert.Kernel.sig) → Buf (Elt Bits) ℓ) : Prop :=
  ∀ c : Dev Cert.Kernel.nD,
    (Cert.Pre_lens_fit.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_lens_fit : Cert.Pre_lens_fit.Facts] (m : (ℓ : Loc Cert.KernelIdeal.nD Cert.KernelIdeal.τ Cert.KernelIdeal.sig) → Buf (Elt Ideal) ℓ) : Prop :=
  ∀ c : Dev Cert.KernelIdeal.nD,
    (Cert.Pre_lens_fit.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_lens_fit [hPre_lens_fit : Cert.Pre_lens_fit.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_lens_fit.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] [hPre_lens_fit : Cert.Pre_lens_fit.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] [hPre_lens_fit : Cert.Pre_lens_fit.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_lens_fit [hReferenceIdeal : Cert.ReferenceIdeal.Facts] [hPre_lens_fit : Cert.Pre_lens_fit.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_lens_fit m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_lens_fit : Cert.Pre_lens_fit.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_lens_fit : Cert.Pre_lens_fit.Facts),
    quiescent_Kernel (hKernel := hKernel) (hPre_lens_fit := hPre_lens_fit)
    ∧ quiescent_KernelIdeal (hKernelIdeal := hKernelIdeal) (hPre_lens_fit := hPre_lens_fit)
    ∧ quiescent_ReferenceIdeal (hReferenceIdeal := hReferenceIdeal)
    ∧ quiescent_ReferenceIdeal_pre_lens_fit (hReferenceIdeal := hReferenceIdeal) (hPre_lens_fit := hPre_lens_fit)
    ∧ preserves_Kernel_KernelIdeal
    ∧ algebraic_KernelIdeal_ReferenceIdeal (hKernelIdeal := hKernelIdeal) (hReferenceIdeal := hReferenceIdeal) (hPre_lens_fit := hPre_lens_fit)
-- ==== Pre_lens_fit.lean ====
abbrev S4 : Shape := ⟨1, ![4]⟩
abbrev S4x32x131072 : Shape := ⟨3, ![4, 32, 131072]⟩
abbrev S4x2x131072 : Shape := ⟨3, ![4, 2, 131072]⟩
abbrev S4x2x64x4096 : Shape := ⟨4, ![4, 2, 64, 4096]⟩
abbrev S4x2x1x4096 : Shape := ⟨4, ![4, 2, 1, 4096]⟩
abbrev S_ : Shape := ⟨0, ![]⟩

class Facts : Prop where
  bcast_S_S4 : S_.BroadcastsInDim S4 (![] : Fin 0 → Fin S4.rank)

variable [Facts]

def fn {F : FTy → Type} [FloatOps F] (main_arg0 : IVec S4 32) (main_arg1 : IVec S4 32) (main_arg2 : IVec S4x32x131072 32) (main_arg3 : IVec S4x32x131072 32) (main_arg4 : FVec F S4x2x131072 .f32) (main_arg5 : FVec F S4x2x131072 .f32) (main_arg6 : FVec F S4x2x64x4096 .bf16) (main_arg7 : FVec F S4x2x1x4096 .f32) (main_arg8 : FVec F S4x2x1x4096 .f32) (main_arg9 : FVec F S4x2x64x4096 .f32) : IVec S4 1 :=
  let main_c : IVec S_ 32 := constantI S_ 32 0#32
  let main_v0 : IVec S4 32 := broadcastInDim S4 ![] bcast_S_S4 main_c
  let main_v1 : IVec S4 1 := cmpi .sge main_arg0 main_v0
  let main_c_0 : IVec S_ 32 := constantI S_ 32 256#32
  let main_v2 : IVec S4 32 := broadcastInDim S4 ![] bcast_S_S4 main_c_0
  let main_v3 : IVec S4 1 := cmpi .sle main_arg0 main_v2
  let main_v4 : IVec S4 1 := andi main_v1 main_v3
  let main_c_1 : IVec S_ 32 := constantI S_ 32 1#32
  let main_v5 : IVec S4 32 := broadcastInDim S4 ![] bcast_S_S4 main_c_1
  let main_v6 : IVec S4 1 := cmpi .sge main_arg1 main_v5
  let main_v7 : IVec S4 1 := andi main_v4 main_v6
  let main_c_2 : IVec S_ 32 := constantI S_ 32 131072#32
  let main_v8 : IVec S4 32 := broadcastInDim S4 ![] bcast_S_S4 main_c_2
  let main_v9 : IVec S4 1 := cmpi .sle main_arg1 main_v8
  let main_v10 : IVec S4 1 := andi main_v7 main_v9
  main_v10
-- ==== Kernel.lean ====
abbrev S4 : Shape := ⟨1, ![4]⟩
abbrev S4x32x131072 : Shape := ⟨3, ![4, 32, 131072]⟩
abbrev S4x2x131072 : Shape := ⟨3, ![4, 2, 131072]⟩
abbrev S4x2x64x4096 : Shape := ⟨4, ![4, 2, 64, 4096]⟩
abbrev S4x2x1x4096 : Shape := ⟨4, ![4, 2, 1, 4096]⟩
abbrev S4x32x64x256 : Shape := ⟨4, ![4, 32, 64, 256]⟩
abbrev S1x32x1024 : Shape := ⟨3, ![1, 32, 1024]⟩
abbrev S1 : Shape := ⟨1, ![1]⟩
abbrev S1x2x1024 : Shape := ⟨3, ![1, 2, 1024]⟩
abbrev S1x2x64x4096 : Shape := ⟨4, ![1, 2, 64, 4096]⟩
abbrev S1x2x1x4096 : Shape := ⟨4, ![1, 2, 1, 4096]⟩
abbrev S1x32x64x256 : Shape := ⟨4, ![1, 32, 64, 256]⟩
abbrev S2x1x4096 : Shape := ⟨3, ![2, 1, 4096]⟩
abbrev S2x64x4352 : Shape := ⟨3, ![2, 64, 4352]⟩
abbrev S2x64x1024 : Shape := ⟨3, ![2, 64, 1024]⟩
abbrev S2x64x4096 : Shape := ⟨3, ![2, 64, 4096]⟩
abbrev S1x1024 : Shape := ⟨2, ![1, 1024]⟩
abbrev S1x16x1024 : Shape := ⟨3, ![1, 16, 1024]⟩
abbrev S16x1024 : Shape := ⟨2, ![16, 1024]⟩
abbrev S1x1x1024 : Shape := ⟨3, ![1, 1, 1024]⟩
abbrev S64x1024 : Shape := ⟨2, ![64, 1024]⟩
abbrev S1x64x1024 : Shape := ⟨3, ![1, 64, 1024]⟩
abbrev S8x1024 : Shape := ⟨2, ![8, 1024]⟩
abbrev S1024x8 : Shape := ⟨2, ![1024, 8]⟩
abbrev S1024x1 : Shape := ⟨2, ![1024, 1]⟩
abbrev S1x1x64x256 : Shape := ⟨4, ![1, 1, 64, 256]⟩
abbrev S64x256 : Shape := ⟨2, ![64, 256]⟩
abbrev S1024x256 : Shape := ⟨2, ![1024, 256]⟩
abbrev S1x1x256 : Shape := ⟨3, ![1, 1, 256]⟩
abbrev S1x256 : Shape := ⟨2, ![1, 256]⟩
abbrev S256 : Shape := ⟨1, ![256]⟩
abbrev S1x64x256 : Shape := ⟨3, ![1, 64, 256]⟩
abbrev S1x64x4096 : Shape := ⟨3, ![1, 64, 4096]⟩
abbrev S64x4096 : Shape := ⟨2, ![64, 4096]⟩
abbrev S1x1x4096 : Shape := ⟨3, ![1, 1, 4096]⟩
abbrev S1x4096 : Shape := ⟨2, ![1, 4096]⟩
abbrev S1x64x384 : Shape := ⟨3, ![1, 64, 384]⟩
abbrev S64x384 : Shape := ⟨2, ![64, 384]⟩

abbrev nBuf : Space → Nat
  | .hbm => 9
  | .vmem => 23
  | .smem => 2
  | _ => 0

abbrev bufTy : (tb : Table) → Fin (tcTables nBuf tb) → BufTy
  | .hbm, ⟨0, _⟩ => ⟨S4x32x131072, .i32⟩
  | .hbm, ⟨1, _⟩ => ⟨S4x32x131072, .i32⟩
  | .hbm, ⟨2, _⟩ => ⟨S4x2x131072, .f32⟩
  | .hbm, ⟨3, _⟩ => ⟨S4x2x131072, .f32⟩
  | .hbm, ⟨4, _⟩ => ⟨S4x2x64x4096, .bf16⟩
  | .hbm, ⟨5, _⟩ => ⟨S4x2x1x4096, .f32⟩
  | .hbm, ⟨6, _⟩ => ⟨S4x2x1x4096, .f32⟩
  | .hbm, ⟨7, _⟩ => ⟨S4x2x64x4096, .f32⟩
  | .hbm, ⟨8, _⟩ => ⟨S4x32x64x256, .bf16⟩
  | .local _ .vmem, ⟨0, _⟩ => ⟨S1x32x1024, .i32⟩
  | .local _ .vmem, ⟨1, _⟩ => ⟨S1x32x1024, .i32⟩
  | .local _ .vmem, ⟨2, _⟩ => ⟨S1x32x1024, .i32⟩
  | .local _ .vmem, ⟨3, _⟩ => ⟨S1x32x1024, .i32⟩
  | .local _ .vmem, ⟨4, _⟩ => ⟨S1x2x1024, .f32⟩
  | .local _ .vmem, ⟨5, _⟩ => ⟨S1x2x1024, .f32⟩
  | .local _ .vmem, ⟨6, _⟩ => ⟨S1x2x1024, .f32⟩
  | .local _ .vmem, ⟨7, _⟩ => ⟨S1x2x1024, .f32⟩
  | .local _ .vmem, ⟨8, _⟩ => ⟨S1x2x64x4096, .bf16⟩
  | .local _ .vmem, ⟨9, _⟩ => ⟨S1x2x64x4096, .bf16⟩
  | .local _ .vmem, ⟨10, _⟩ => ⟨S1x2x1x4096, .f32⟩
  | .local _ .vmem, ⟨11, _⟩ => ⟨S1x2x1x4096, .f32⟩
  | .local _ .vmem, ⟨12, _⟩ => ⟨S1x2x1x4096, .f32⟩
  | .local _ .vmem, ⟨13, _⟩ => ⟨S1x2x1x4096, .f32⟩
  | .local _ .vmem, ⟨14, _⟩ => ⟨S1x2x64x4096, .f32⟩
  | .local _ .vmem, ⟨15, _⟩ => ⟨S1x2x64x4096, .f32⟩
  | .local _ .vmem, ⟨16, _⟩ => ⟨S1x32x64x256, .bf16⟩
  | .local _ .vmem, ⟨17, _⟩ => ⟨S1x32x64x256, .bf16⟩
  | .local _ .vmem, ⟨18, _⟩ => ⟨S2x1x4096, .f32⟩
  | .local _ .vmem, ⟨19, _⟩ => ⟨S2x1x4096, .f32⟩
  | .local _ .vmem, ⟨20, _⟩ => ⟨S2x64x4352, .f32⟩
  | .local _ .vmem, ⟨21, _⟩ => ⟨S2x64x1024, .bf16⟩
  | .local _ .vmem, ⟨22, _⟩ => ⟨S2x64x1024, .bf16⟩
  | .local _ .smem, ⟨0, _⟩ => ⟨S4, .i32⟩
  | .local _ .smem, ⟨1, _⟩ => ⟨S4, .i32⟩
  | _, _ => ⟨S4x32x131072, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_arg7 : Ref sig .tc := ⟨.hbm, 5, rfl⟩
abbrev main_arg8 : Ref sig .tc := ⟨.hbm, 6, rfl⟩
abbrev main_arg9 : Ref sig .tc := ⟨.hbm, 7, rfl⟩
abbrev main_v0 : Ref sig .tc := ⟨.hbm, 8, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 128], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
@[reducible] def k0_t1_loop (v1 : BitVec 32) : Scf.Loop 32 :=
  let c0_i32_85 : BitVec 32 := 0#32
  let c15_i32 : BitVec 32 := 15#32
  let v24 : BitVec 32 := Scalar.addi v1 c15_i32
  let c0_i32_6 : BitVec 32 := 0#32
  let v26 : BitVec 1 := Scalar.cmpi .sgt v24 c0_i32_6
  let v27 : BitVec 32 := Scalar.extui v26
  let c0_i32_7 : BitVec 32 := 0#32
  let v28 : BitVec 1 := Scalar.cmpi .slt v24 c0_i32_7
  let v29 : BitVec 32 := Scalar.extui v28
  let v30 : BitVec 32 := Scalar.subi v27 v29
  let c16_i32 : BitVec 32 := 16#32
  let c0_i32_8 : BitVec 32 := 0#32
  let v31 : BitVec 1 := Scalar.cmpi .sgt c16_i32 c0_i32_8
  let v32 : BitVec 32 := Scalar.extui v31
  let c0_i32_9 : BitVec 32 := 0#32
  let v33 : BitVec 1 := Scalar.cmpi .slt c16_i32 c0_i32_9
  let v34 : BitVec 32 := Scalar.extui v33
  let v35 : BitVec 32 := Scalar.subi v32 v34
  let v36 : BitVec 1 := Scalar.cmpi .ne v30 v35
  let v37 : BitVec 32 := Scalar.remsi v24 c16_i32
  let c0_i32_10 : BitVec 32 := 0#32
  let v38 : BitVec 1 := Scalar.cmpi .ne v37 c0_i32_10
  let v39 : BitVec 1 := Scalar.andi v36 v38
  let v25 : BitVec 32 := Scalar.divsi v24 c16_i32
  let c1_i32_11 : BitVec 32 := 1#32
  let v40 : BitVec 32 := Scalar.subi v25 c1_i32_11
  let v41 : BitVec 32 := Scalar.select v39 v40 v25
  let c16_i32_12 : BitVec 32 := 16#32
  let v42 : BitVec 32 := Scalar.muli v41 c16_i32_12
  let c0_i32_73 : BitVec 32 := 0#32
  let v175 : BitVec 1 := Scalar.cmpi .sgt v42 c0_i32_73
  let v176 : BitVec 32 := Scalar.extui v175
  let c0_i32_74 : BitVec 32 := 0#32
  let v177 : BitVec 1 := Scalar.cmpi .slt v42 c0_i32_74
  let v178 : BitVec 32 := Scalar.extui v177
  let v179 : BitVec 32 := Scalar.subi v176 v178
  let c16_i32_72 : BitVec 32 := 16#32
  let c0_i32_75 : BitVec 32 := 0#32
  let v180 : BitVec 1 := Scalar.cmpi .sgt c16_i32_72 c0_i32_75
  let v181 : BitVec 32 := Scalar.extui v180
  let c0_i32_76 : BitVec 32 := 0#32
  let v182 : BitVec 1 := Scalar.cmpi .slt c16_i32_72 c0_i32_76
  let v183 : BitVec 32 := Scalar.extui v182
  let v184 : BitVec 32 := Scalar.subi v181 v183
  let v185 : BitVec 1 := Scalar.cmpi .ne v179 v184
  let v186 : BitVec 32 := Scalar.remsi v42 c16_i32_72
  let c0_i32_77 : BitVec 32 := 0#32
  let v187 : BitVec 1 := Scalar.cmpi .ne v186 c0_i32_77
  let v188 : BitVec 1 := Scalar.andi v185 v187
  let v174 : BitVec 32 := Scalar.divsi v42 c16_i32_72
  let c1_i32_78 : BitVec 32 := 1#32
  let v189 : BitVec 32 := Scalar.subi v174 c1_i32_78
  let v190 : BitVec 32 := Scalar.select v188 v189 v174
  let c0_i32_79 : BitVec 32 := 0#32
  let v191 : BitVec 32 := Scalar.subi v190 c0_i32_79
  let c1_i32_80 : BitVec 32 := 1#32
  let c1_i32_81 : BitVec 32 := 1#32
  let v192 : BitVec 32 := Scalar.subi c1_i32_80 c1_i32_81
  let v193 : BitVec 32 := Scalar.addi v191 v192
  let c1_i32_82 : BitVec 32 := 1#32
  let v194 : BitVec 32 := Scalar.divsi v193 c1_i32_82
  let v195 : BitVec 32 := Scalar.subi v194 c0_i32_85
  let c1_i32_86 : BitVec 32 := 1#32
  let v197 : BitVec 32 := Scalar.divsi v195 c1_i32_86
  let v198 : BitVec 32 := Scalar.muli v197 c1_i32_86
  let v199 : BitVec 32 := Scalar.addi c0_i32_85 v198
  let c1_i32_87 : BitVec 32 := 1#32
  ⟨c0_i32_85, v199, c1_i32_87⟩
def k0_cond2 (i : grid0.Coords) (v3 : BitVec 32) : BitVec 1 :=
  let arg1 : BitVec 32 := BitVec.ofNat 32 (i 1).val
  let c16_i32_13 : BitVec 32 := 16#32
  let c2048_i32 : BitVec 32 := 2048#32
  let v4 : BitVec 32 := Scalar.addi v3 c2048_i32
  let c1_i32 : BitVec 32 := 1#32
  let v5 : BitVec 32 := Scalar.subi v4 c1_i32
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c2048_i32_0 : BitVec 32 := 2048#32
  let c0_i32_2 : BitVec 32 := 0#32
  let v12 : BitVec 1 := Scalar.cmpi .sgt c2048_i32_0 c0_i32_2
  let v13 : BitVec 32 := Scalar.extui v12
  let c0_i32_3 : BitVec 32 := 0#32
  let v14 : BitVec 1 := Scalar.cmpi .slt c2048_i32_0 c0_i32_3
  let v15 : BitVec 32 := Scalar.extui v14
  let v16 : BitVec 32 := Scalar.subi v13 v15
  let v17 : BitVec 1 := Scalar.cmpi .ne v11 v16
  let v18 : BitVec 32 := Scalar.remsi v5 c2048_i32_0
  let c0_i32_4 : BitVec 32 := 0#32
  let v19 : BitVec 1 := Scalar.cmpi .ne v18 c0_i32_4
  let v20 : BitVec 1 := Scalar.andi v17 v19
  let v6 : BitVec 32 := Scalar.divsi v5 c2048_i32_0
  let c1_i32_5 : BitVec 32 := 1#32
  let v21 : BitVec 32 := Scalar.subi v6 c1_i32_5
  let v22 : BitVec 32 := Scalar.select v20 v21 v6
  let c128_i32 : BitVec 32 := 128#32
  let v23 : BitVec 32 := Scalar.muli v22 c128_i32
  let v43 : BitVec 32 := Scalar.muli c16_i32_13 v23
  let c1024_i32 : BitVec 32 := 1024#32
  let v44 : BitVec 32 := Scalar.addi v43 c1024_i32
  let c1_i32_14 : BitVec 32 := 1#32
  let v45 : BitVec 32 := Scalar.subi v44 c1_i32_14
  let c0_i32_16 : BitVec 32 := 0#32
  let v47 : BitVec 1 := Scalar.cmpi .sgt v45 c0_i32_16
  let v48 : BitVec 32 := Scalar.extui v47
  let c0_i32_17 : BitVec 32 := 0#32
  let v49 : BitVec 1 := Scalar.cmpi .slt v45 c0_i32_17
  let v50 : BitVec 32 := Scalar.extui v49
  let v51 : BitVec 32 := Scalar.subi v48 v50
  let c1024_i32_15 : BitVec 32 := 1024#32
  let c0_i32_18 : BitVec 32 := 0#32
  let v52 : BitVec 1 := Scalar.cmpi .sgt c1024_i32_15 c0_i32_18
  let v53 : BitVec 32 := Scalar.extui v52
  let c0_i32_19 : BitVec 32 := 0#32
  let v54 : BitVec 1 := Scalar.cmpi .slt c1024_i32_15 c0_i32_19
  let v55 : BitVec 32 := Scalar.extui v54
  let v56 : BitVec 32 := Scalar.subi v53 v55
  let v57 : BitVec 1 := Scalar.cmpi .ne v51 v56
  let v58 : BitVec 32 := Scalar.remsi v45 c1024_i32_15
  let c0_i32_20 : BitVec 32 := 0#32
  let v59 : BitVec 1 := Scalar.cmpi .ne v58 c0_i32_20
  let v60 : BitVec 1 := Scalar.andi v57 v59
  let v46 : BitVec 32 := Scalar.divsi v45 c1024_i32_15
  let c1_i32_21 : BitVec 32 := 1#32
  let v61 : BitVec 32 := Scalar.subi v46 c1_i32_21
  let v62 : BitVec 32 := Scalar.select v60 v61 v46
  let v66 : BitVec 1 := Scalar.cmpi .slt arg1 v62
  let v67 : BitVec 32 := Scalar.extui v66
  let c0_i32_24 : BitVec 32 := 0#32
  let v68 : BitVec 1 := Scalar.cmpi .ne v67 c0_i32_24
  v68

def k0_mult1 (v1 : BitVec 32) (k0_t1 : Fin (k0_t1_loop v1).trips) : BitVec 32 :=
  let c0_i32_84 : BitVec 32 := 0#32
  let c0_i32_85 : BitVec 32 := 0#32
  let c1_i32_87 : BitVec 32 := 1#32
  let arg18 : BitVec 32 := Scf.iv c0_i32_85 c1_i32_87 k0_t1
  let c1_i32_83 : BitVec 32 := 1#32
  let v226 : BitVec 32 := Scalar.muli arg18 c1_i32_83
  let v227 : BitVec 32 := Scalar.addi c0_i32_84 v226
  let c256_i32 : BitVec 32 := 256#32
  let v228 : BitVec 32 := Scalar.muli v227 c256_i32
  v228
def k0_off2 (v1 : BitVec 32) (k0_t1 : Fin (k0_t1_loop v1).trips) : Fin 4 → Nat :=
  let c0_109 : Index := 0#32
  let c0_110 : Index := 0#32
  let c0_111 : Index := 0#32
  let c0_i32_84 : BitVec 32 := 0#32
  let c0_i32_85 : BitVec 32 := 0#32
  let c1_i32_87 : BitVec 32 := 1#32
  let arg18 : BitVec 32 := Scf.iv c0_i32_85 c1_i32_87 k0_t1
  let c1_i32_83 : BitVec 32 := 1#32
  let v226 : BitVec 32 := Scalar.muli arg18 c1_i32_83
  let v227 : BitVec 32 := Scalar.addi c0_i32_84 v226
  let c256_i32 : BitVec 32 := 256#32
  let v228 : BitVec 32 := Scalar.muli v227 c256_i32
  let v229 : BitVec 32 := v228
  let v232 : Index := Scalar.indexCast v229
  ![0, 0, 0, v232.toNat]
def k0_off3 (v1 : BitVec 32) (k0_t1 : Fin (k0_t1_loop v1).trips) : Fin 3 → Nat :=
  let c0_113 : Index := 0#32
  let c0_114 : Index := 0#32
  let c0_i32_84 : BitVec 32 := 0#32
  let c0_i32_85 : BitVec 32 := 0#32
  let c1_i32_87 : BitVec 32 := 1#32
  let arg18 : BitVec 32 := Scf.iv c0_i32_85 c1_i32_87 k0_t1
  let c1_i32_83 : BitVec 32 := 1#32
  let v226 : BitVec 32 := Scalar.muli arg18 c1_i32_83
  let v227 : BitVec 32 := Scalar.addi c0_i32_84 v226
  let c256_i32 : BitVec 32 := 256#32
  let v228 : BitVec 32 := Scalar.muli v227 c256_i32
  let v229 : BitVec 32 := v228
  let v238 : Index := Scalar.indexCast v229
  ![0, 0, v238.toNat]
def k0_off4 (v1 : BitVec 32) (k0_t1 : Fin (k0_t1_loop v1).trips) : Fin 3 → Nat :=
  let c0_127 : Index := 0#32
  let c0_128 : Index := 0#32
  let c0_i32_84 : BitVec 32 := 0#32
  let c0_i32_85 : BitVec 32 := 0#32
  let c1_i32_87 : BitVec 32 := 1#32
  let arg18 : BitVec 32 := Scf.iv c0_i32_85 c1_i32_87 k0_t1
  let c1_i32_83 : BitVec 32 := 1#32
  let v226 : BitVec 32 := Scalar.muli arg18 c1_i32_83
  let v227 : BitVec 32 := Scalar.addi c0_i32_84 v226
  let c256_i32 : BitVec 32 := 256#32
  let v228 : BitVec 32 := Scalar.muli v227 c256_i32
  let v229 : BitVec 32 := v228
  let v268 : Index := Scalar.indexCast v229
  ![0, 0, v268.toNat]
@[reducible] def k0_t2_loop (v1 : BitVec 32) : Scf.Loop 32 :=
  let c0_i32_85 : BitVec 32 := 0#32
  let c15_i32 : BitVec 32 := 15#32
  let v24 : BitVec 32 := Scalar.addi v1 c15_i32
  let c0_i32_6 : BitVec 32 := 0#32
  let v26 : BitVec 1 := Scalar.cmpi .sgt v24 c0_i32_6
  let v27 : BitVec 32 := Scalar.extui v26
  let c0_i32_7 : BitVec 32 := 0#32
  let v28 : BitVec 1 := Scalar.cmpi .slt v24 c0_i32_7
  let v29 : BitVec 32 := Scalar.extui v28
  let v30 : BitVec 32 := Scalar.subi v27 v29
  let c16_i32 : BitVec 32 := 16#32
  let c0_i32_8 : BitVec 32 := 0#32
  let v31 : BitVec 1 := Scalar.cmpi .sgt c16_i32 c0_i32_8
  let v32 : BitVec 32 := Scalar.extui v31
  let c0_i32_9 : BitVec 32 := 0#32
  let v33 : BitVec 1 := Scalar.cmpi .slt c16_i32 c0_i32_9
  let v34 : BitVec 32 := Scalar.extui v33
  let v35 : BitVec 32 := Scalar.subi v32 v34
  let v36 : BitVec 1 := Scalar.cmpi .ne v30 v35
  let v37 : BitVec 32 := Scalar.remsi v24 c16_i32
  let c0_i32_10 : BitVec 32 := 0#32
  let v38 : BitVec 1 := Scalar.cmpi .ne v37 c0_i32_10
  let v39 : BitVec 1 := Scalar.andi v36 v38
  let v25 : BitVec 32 := Scalar.divsi v24 c16_i32
  let c1_i32_11 : BitVec 32 := 1#32
  let v40 : BitVec 32 := Scalar.subi v25 c1_i32_11
  let v41 : BitVec 32 := Scalar.select v39 v40 v25
  let c16_i32_12 : BitVec 32 := 16#32
  let v42 : BitVec 32 := Scalar.muli v41 c16_i32_12
  let c0_i32_73 : BitVec 32 := 0#32
  let v175 : BitVec 1 := Scalar.cmpi .sgt v42 c0_i32_73
  let v176 : BitVec 32 := Scalar.extui v175
  let c0_i32_74 : BitVec 32 := 0#32
  let v177 : BitVec 1 := Scalar.cmpi .slt v42 c0_i32_74
  let v178 : BitVec 32 := Scalar.extui v177
  let v179 : BitVec 32 := Scalar.subi v176 v178
  let c16_i32_72 : BitVec 32 := 16#32
  let c0_i32_75 : BitVec 32 := 0#32
  let v180 : BitVec 1 := Scalar.cmpi .sgt c16_i32_72 c0_i32_75
  let v181 : BitVec 32 := Scalar.extui v180
  let c0_i32_76 : BitVec 32 := 0#32
  let v182 : BitVec 1 := Scalar.cmpi .slt c16_i32_72 c0_i32_76
  let v183 : BitVec 32 := Scalar.extui v182
  let v184 : BitVec 32 := Scalar.subi v181 v183
  let v185 : BitVec 1 := Scalar.cmpi .ne v179 v184
  let v186 : BitVec 32 := Scalar.remsi v42 c16_i32_72
  let c0_i32_77 : BitVec 32 := 0#32
  let v187 : BitVec 1 := Scalar.cmpi .ne v186 c0_i32_77
  let v188 : BitVec 1 := Scalar.andi v185 v187
  let v174 : BitVec 32 := Scalar.divsi v42 c16_i32_72
  let c1_i32_78 : BitVec 32 := 1#32
  let v189 : BitVec 32 := Scalar.subi v174 c1_i32_78
  let v190 : BitVec 32 := Scalar.select v188 v189 v174
  let c0_i32_79 : BitVec 32 := 0#32
  let v191 : BitVec 32 := Scalar.subi v190 c0_i32_79
  let c1_i32_80 : BitVec 32 := 1#32
  let c1_i32_81 : BitVec 32 := 1#32
  let v192 : BitVec 32 := Scalar.subi c1_i32_80 c1_i32_81
  let v193 : BitVec 32 := Scalar.addi v191 v192
  let c1_i32_82 : BitVec 32 := 1#32
  let v194 : BitVec 32 := Scalar.divsi v193 c1_i32_82
  let v195 : BitVec 32 := Scalar.subi v194 c0_i32_85
  let c1_i32_86 : BitVec 32 := 1#32
  let v197 : BitVec 32 := Scalar.divsi v195 c1_i32_86
  let v198 : BitVec 32 := Scalar.muli v197 c1_i32_86
  let v199 : BitVec 32 := Scalar.addi c0_i32_85 v198
  let v196 : BitVec 32 := Scalar.addi c0_i32_85 v195
  let c1_i32_88 : BitVec 32 := 1#32
  ⟨v199, v196, c1_i32_88⟩
def k0_mult2 (v1 : BitVec 32) (k0_t2 : Fin (k0_t2_loop v1).trips) : BitVec 32 :=
  let c0_i32_84 : BitVec 32 := 0#32
  let c0_i32_85 : BitVec 32 := 0#32
  let c15_i32 : BitVec 32 := 15#32
  let v24 : BitVec 32 := Scalar.addi v1 c15_i32
  let c0_i32_6 : BitVec 32 := 0#32
  let v26 : BitVec 1 := Scalar.cmpi .sgt v24 c0_i32_6
  let v27 : BitVec 32 := Scalar.extui v26
  let c0_i32_7 : BitVec 32 := 0#32
  let v28 : BitVec 1 := Scalar.cmpi .slt v24 c0_i32_7
  let v29 : BitVec 32 := Scalar.extui v28
  let v30 : BitVec 32 := Scalar.subi v27 v29
  let c16_i32 : BitVec 32 := 16#32
  let c0_i32_8 : BitVec 32 := 0#32
  let v31 : BitVec 1 := Scalar.cmpi .sgt c16_i32 c0_i32_8
  let v32 : BitVec 32 := Scalar.extui v31
  let c0_i32_9 : BitVec 32 := 0#32
  let v33 : BitVec 1 := Scalar.cmpi .slt c16_i32 c0_i32_9
  let v34 : BitVec 32 := Scalar.extui v33
  let v35 : BitVec 32 := Scalar.subi v32 v34
  let v36 : BitVec 1 := Scalar.cmpi .ne v30 v35
  let v37 : BitVec 32 := Scalar.remsi v24 c16_i32
  let c0_i32_10 : BitVec 32 := 0#32
  let v38 : BitVec 1 := Scalar.cmpi .ne v37 c0_i32_10
  let v39 : BitVec 1 := Scalar.andi v36 v38
  let v25 : BitVec 32 := Scalar.divsi v24 c16_i32
  let c1_i32_11 : BitVec 32 := 1#32
  let v40 : BitVec 32 := Scalar.subi v25 c1_i32_11
  let v41 : BitVec 32 := Scalar.select v39 v40 v25
  let c16_i32_12 : BitVec 32 := 16#32
  let v42 : BitVec 32 := Scalar.muli v41 c16_i32_12
  let c0_i32_73 : BitVec 32 := 0#32
  let v175 : BitVec 1 := Scalar.cmpi .sgt v42 c0_i32_73
  let v176 : BitVec 32 := Scalar.extui v175
  let c0_i32_74 : BitVec 32 := 0#32
  let v177 : BitVec 1 := Scalar.cmpi .slt v42 c0_i32_74
  let v178 : BitVec 32 := Scalar.extui v177
  let v179 : BitVec 32 := Scalar.subi v176 v178
  let c16_i32_72 : BitVec 32 := 16#32
  let c0_i32_75 : BitVec 32 := 0#32
  let v180 : BitVec 1 := Scalar.cmpi .sgt c16_i32_72 c0_i32_75
  let v181 : BitVec 32 := Scalar.extui v180
  let c0_i32_76 : BitVec 32 := 0#32
  let v182 : BitVec 1 := Scalar.cmpi .slt c16_i32_72 c0_i32_76
  let v183 : BitVec 32 := Scalar.extui v182
  let v184 : BitVec 32 := Scalar.subi v181 v183
  let v185 : BitVec 1 := Scalar.cmpi .ne v179 v184
  let v186 : BitVec 32 := Scalar.remsi v42 c16_i32_72
  let c0_i32_77 : BitVec 32 := 0#32
  let v187 : BitVec 1 := Scalar.cmpi .ne v186 c0_i32_77
  let v188 : BitVec 1 := Scalar.andi v185 v187
  let v174 : BitVec 32 := Scalar.divsi v42 c16_i32_72
  let c1_i32_78 : BitVec 32 := 1#32
  let v189 : BitVec 32 := Scalar.subi v174 c1_i32_78
  let v190 : BitVec 32 := Scalar.select v188 v189 v174
  let c0_i32_79 : BitVec 32 := 0#32
  let v191 : BitVec 32 := Scalar.subi v190 c0_i32_79
  let c1_i32_80 : BitVec 32 := 1#32
  let c1_i32_81 : BitVec 32 := 1#32
  let v192 : BitVec 32 := Scalar.subi c1_i32_80 c1_i32_81
  let v193 : BitVec 32 := Scalar.addi v191 v192
  let c1_i32_82 : BitVec 32 := 1#32
  let v194 : BitVec 32 := Scalar.divsi v193 c1_i32_82
  let v195 : BitVec 32 := Scalar.subi v194 c0_i32_85
  let c1_i32_86 : BitVec 32 := 1#32
  let v197 : BitVec 32 := Scalar.divsi v195 c1_i32_86
  let v198 : BitVec 32 := Scalar.muli v197 c1_i32_86
  let v199 : BitVec 32 := Scalar.addi c0_i32_85 v198
  let c1_i32_88 : BitVec 32 := 1#32
  let arg18 : BitVec 32 := Scf.iv v199 c1_i32_88 k0_t2
  let c1_i32_83 : BitVec 32 := 1#32
  let v226 : BitVec 32 := Scalar.muli arg18 c1_i32_83
  let v227 : BitVec 32 := Scalar.addi c0_i32_84 v226
  let c256_i32 : BitVec 32 := 256#32
  let v228 : BitVec 32 := Scalar.muli v227 c256_i32
  v228
def k0_off5 (v1 : BitVec 32) (k0_t2 : Fin (k0_t2_loop v1).trips) : Fin 4 → Nat :=
  let c0_109 : Index := 0#32
  let c0_110 : Index := 0#32
  let c0_111 : Index := 0#32
  let c0_i32_84 : BitVec 32 := 0#32
  let c0_i32_85 : BitVec 32 := 0#32
  let c15_i32 : BitVec 32 := 15#32
  let v24 : BitVec 32 := Scalar.addi v1 c15_i32
  let c0_i32_6 : BitVec 32 := 0#32
  let v26 : BitVec 1 := Scalar.cmpi .sgt v24 c0_i32_6
  let v27 : BitVec 32 := Scalar.extui v26
  let c0_i32_7 : BitVec 32 := 0#32
  let v28 : BitVec 1 := Scalar.cmpi .slt v24 c0_i32_7
  let v29 : BitVec 32 := Scalar.extui v28
  let v30 : BitVec 32 := Scalar.subi v27 v29
  let c16_i32 : BitVec 32 := 16#32
  let c0_i32_8 : BitVec 32 := 0#32
  let v31 : BitVec 1 := Scalar.cmpi .sgt c16_i32 c0_i32_8
  let v32 : BitVec 32 := Scalar.extui v31
  let c0_i32_9 : BitVec 32 := 0#32
  let v33 : BitVec 1 := Scalar.cmpi .slt c16_i32 c0_i32_9
  let v34 : BitVec 32 := Scalar.extui v33
  let v35 : BitVec 32 := Scalar.subi v32 v34
  let v36 : BitVec 1 := Scalar.cmpi .ne v30 v35
  let v37 : BitVec 32 := Scalar.remsi v24 c16_i32
  let c0_i32_10 : BitVec 32 := 0#32
  let v38 : BitVec 1 := Scalar.cmpi .ne v37 c0_i32_10
  let v39 : BitVec 1 := Scalar.andi v36 v38
  let v25 : BitVec 32 := Scalar.divsi v24 c16_i32
  let c1_i32_11 : BitVec 32 := 1#32
  let v40 : BitVec 32 := Scalar.subi v25 c1_i32_11
  let v41 : BitVec 32 := Scalar.select v39 v40 v25
  let c16_i32_12 : BitVec 32 := 16#32
  let v42 : BitVec 32 := Scalar.muli v41 c16_i32_12
  let c0_i32_73 : BitVec 32 := 0#32
  let v175 : BitVec 1 := Scalar.cmpi .sgt v42 c0_i32_73
  let v176 : BitVec 32 := Scalar.extui v175
  let c0_i32_74 : BitVec 32 := 0#32
  let v177 : BitVec 1 := Scalar.cmpi .slt v42 c0_i32_74
  let v178 : BitVec 32 := Scalar.extui v177
  let v179 : BitVec 32 := Scalar.subi v176 v178
  let c16_i32_72 : BitVec 32 := 16#32
  let c0_i32_75 : BitVec 32 := 0#32
  let v180 : BitVec 1 := Scalar.cmpi .sgt c16_i32_72 c0_i32_75
  let v181 : BitVec 32 := Scalar.extui v180
  let c0_i32_76 : BitVec 32 := 0#32
  let v182 : BitVec 1 := Scalar.cmpi .slt c16_i32_72 c0_i32_76
  let v183 : BitVec 32 := Scalar.extui v182
  let v184 : BitVec 32 := Scalar.subi v181 v183
  let v185 : BitVec 1 := Scalar.cmpi .ne v179 v184
  let v186 : BitVec 32 := Scalar.remsi v42 c16_i32_72
  let c0_i32_77 : BitVec 32 := 0#32
  let v187 : BitVec 1 := Scalar.cmpi .ne v186 c0_i32_77
  let v188 : BitVec 1 := Scalar.andi v185 v187
  let v174 : BitVec 32 := Scalar.divsi v42 c16_i32_72
  let c1_i32_78 : BitVec 32 := 1#32
  let v189 : BitVec 32 := Scalar.subi v174 c1_i32_78
  let v190 : BitVec 32 := Scalar.select v188 v189 v174
  let c0_i32_79 : BitVec 32 := 0#32
  let v191 : BitVec 32 := Scalar.subi v190 c0_i32_79
  let c1_i32_80 : BitVec 32 := 1#32
  let c1_i32_81 : BitVec 32 := 1#32
  let v192 : BitVec 32 := Scalar.subi c1_i32_80 c1_i32_81
  let v193 : BitVec 32 := Scalar.addi v191 v192
  let c1_i32_82 : BitVec 32 := 1#32
  let v194 : BitVec 32 := Scalar.divsi v193 c1_i32_82
  let v195 : BitVec 32 := Scalar.subi v194 c0_i32_85
  let c1_i32_86 : BitVec 32 := 1#32
  let v197 : BitVec 32 := Scalar.divsi v195 c1_i32_86
  let v198 : BitVec 32 := Scalar.muli v197 c1_i32_86
  let v199 : BitVec 32 := Scalar.addi c0_i32_85 v198
  let c1_i32_88 : BitVec 32 := 1#32
  let arg18 : BitVec 32 := Scf.iv v199 c1_i32_88 k0_t2
  let c1_i32_83 : BitVec 32 := 1#32
  let v226 : BitVec 32 := Scalar.muli arg18 c1_i32_83
  let v227 : BitVec 32 := Scalar.addi c0_i32_84 v226
  let c256_i32 : BitVec 32 := 256#32
  let v228 : BitVec 32 := Scalar.muli v227 c256_i32
  let v229 : BitVec 32 := v228
  let v232 : Index := Scalar.indexCast v229
  ![0, 0, 0, v232.toNat]
def k0_off6 (v1 : BitVec 32) (k0_t2 : Fin (k0_t2_loop v1).trips) : Fin 3 → Nat :=
  let c0_113 : Index := 0#32
  let c0_114 : Index := 0#32
  let c0_i32_84 : BitVec 32 := 0#32
  let c0_i32_85 : BitVec 32 := 0#32
  let c15_i32 : BitVec 32 := 15#32
  let v24 : BitVec 32 := Scalar.addi v1 c15_i32
  let c0_i32_6 : BitVec 32 := 0#32
  let v26 : BitVec 1 := Scalar.cmpi .sgt v24 c0_i32_6
  let v27 : BitVec 32 := Scalar.extui v26
  let c0_i32_7 : BitVec 32 := 0#32
  let v28 : BitVec 1 := Scalar.cmpi .slt v24 c0_i32_7
  let v29 : BitVec 32 := Scalar.extui v28
  let v30 : BitVec 32 := Scalar.subi v27 v29
  let c16_i32 : BitVec 32 := 16#32
  let c0_i32_8 : BitVec 32 := 0#32
  let v31 : BitVec 1 := Scalar.cmpi .sgt c16_i32 c0_i32_8
  let v32 : BitVec 32 := Scalar.extui v31
  let c0_i32_9 : BitVec 32 := 0#32
  let v33 : BitVec 1 := Scalar.cmpi .slt c16_i32 c0_i32_9
  let v34 : BitVec 32 := Scalar.extui v33
  let v35 : BitVec 32 := Scalar.subi v32 v34
  let v36 : BitVec 1 := Scalar.cmpi .ne v30 v35
  let v37 : BitVec 32 := Scalar.remsi v24 c16_i32
  let c0_i32_10 : BitVec 32 := 0#32
  let v38 : BitVec 1 := Scalar.cmpi .ne v37 c0_i32_10
  let v39 : BitVec 1 := Scalar.andi v36 v38
  let v25 : BitVec 32 := Scalar.divsi v24 c16_i32
  let c1_i32_11 : BitVec 32 := 1#32
  let v40 : BitVec 32 := Scalar.subi v25 c1_i32_11
  let v41 : BitVec 32 := Scalar.select v39 v40 v25
  let c16_i32_12 : BitVec 32 := 16#32
  let v42 : BitVec 32 := Scalar.muli v41 c16_i32_12
  let c0_i32_73 : BitVec 32 := 0#32
  let v175 : BitVec 1 := Scalar.cmpi .sgt v42 c0_i32_73
  let v176 : BitVec 32 := Scalar.extui v175
  let c0_i32_74 : BitVec 32 := 0#32
  let v177 : BitVec 1 := Scalar.cmpi .slt v42 c0_i32_74
  let v178 : BitVec 32 := Scalar.extui v177
  let v179 : BitVec 32 := Scalar.subi v176 v178
  let c16_i32_72 : BitVec 32 := 16#32
  let c0_i32_75 : BitVec 32 := 0#32
  let v180 : BitVec 1 := Scalar.cmpi .sgt c16_i32_72 c0_i32_75
  let v181 : BitVec 32 := Scalar.extui v180
  let c0_i32_76 : BitVec 32 := 0#32
  let v182 : BitVec 1 := Scalar.cmpi .slt c16_i32_72 c0_i32_76
  let v183 : BitVec 32 := Scalar.extui v182
  let v184 : BitVec 32 := Scalar.subi v181 v183
  let v185 : BitVec 1 := Scalar.cmpi .ne v179 v184
  let v186 : BitVec 32 := Scalar.remsi v42 c16_i32_72
  let c0_i32_77 : BitVec 32 := 0#32
  let v187 : BitVec 1 := Scalar.cmpi .ne v186 c0_i32_77
  let v188 : BitVec 1 := Scalar.andi v185 v187
  let v174 : BitVec 32 := Scalar.divsi v42 c16_i32_72
  let c1_i32_78 : BitVec 32 := 1#32
  let v189 : BitVec 32 := Scalar.subi v174 c1_i32_78
  let v190 : BitVec 32 := Scalar.select v188 v189 v174
  let c0_i32_79 : BitVec 32 := 0#32
  let v191 : BitVec 32 := Scalar.subi v190 c0_i32_79
  let c1_i32_80 : BitVec 32 := 1#32
  let c1_i32_81 : BitVec 32 := 1#32
  let v192 : BitVec 32 := Scalar.subi c1_i32_80 c1_i32_81
  let v193 : BitVec 32 := Scalar.addi v191 v192
  let c1_i32_82 : BitVec 32 := 1#32
  let v194 : BitVec 32 := Scalar.divsi v193 c1_i32_82
  let v195 : BitVec 32 := Scalar.subi v194 c0_i32_85
  let c1_i32_86 : BitVec 32 := 1#32
  let v197 : BitVec 32 := Scalar.divsi v195 c1_i32_86
  let v198 : BitVec 32 := Scalar.muli v197 c1_i32_86
  let v199 : BitVec 32 := Scalar.addi c0_i32_85 v198
  let c1_i32_88 : BitVec 32 := 1#32
  let arg18 : BitVec 32 := Scf.iv v199 c1_i32_88 k0_t2
  let c1_i32_83 : BitVec 32 := 1#32
  let v226 : BitVec 32 := Scalar.muli arg18 c1_i32_83
  let v227 : BitVec 32 := Scalar.addi c0_i32_84 v226
  let c256_i32 : BitVec 32 := 256#32
  let v228 : BitVec 32 := Scalar.muli v227 c256_i32
  let v229 : BitVec 32 := v228
  let v238 : Index := Scalar.indexCast v229
  ![0, 0, v238.toNat]
def k0_off7 (v1 : BitVec 32) (k0_t2 : Fin (k0_t2_loop v1).trips) : Fin 3 → Nat :=
  let c0_127 : Index := 0#32
  let c0_128 : Index := 0#32
  let c0_i32_84 : BitVec 32 := 0#32
  let c0_i32_85 : BitVec 32 := 0#32
  let c15_i32 : BitVec 32 := 15#32
  let v24 : BitVec 32 := Scalar.addi v1 c15_i32
  let c0_i32_6 : BitVec 32 := 0#32
  let v26 : BitVec 1 := Scalar.cmpi .sgt v24 c0_i32_6
  let v27 : BitVec 32 := Scalar.extui v26
  let c0_i32_7 : BitVec 32 := 0#32
  let v28 : BitVec 1 := Scalar.cmpi .slt v24 c0_i32_7
  let v29 : BitVec 32 := Scalar.extui v28
  let v30 : BitVec 32 := Scalar.subi v27 v29
  let c16_i32 : BitVec 32 := 16#32
  let c0_i32_8 : BitVec 32 := 0#32
  let v31 : BitVec 1 := Scalar.cmpi .sgt c16_i32 c0_i32_8
  let v32 : BitVec 32 := Scalar.extui v31
  let c0_i32_9 : BitVec 32 := 0#32
  let v33 : BitVec 1 := Scalar.cmpi .slt c16_i32 c0_i32_9
  let v34 : BitVec 32 := Scalar.extui v33
  let v35 : BitVec 32 := Scalar.subi v32 v34
  let v36 : BitVec 1 := Scalar.cmpi .ne v30 v35
  let v37 : BitVec 32 := Scalar.remsi v24 c16_i32
  let c0_i32_10 : BitVec 32 := 0#32
  let v38 : BitVec 1 := Scalar.cmpi .ne v37 c0_i32_10
  let v39 : BitVec 1 := Scalar.andi v36 v38
  let v25 : BitVec 32 := Scalar.divsi v24 c16_i32
  let c1_i32_11 : BitVec 32 := 1#32
  let v40 : BitVec 32 := Scalar.subi v25 c1_i32_11
  let v41 : BitVec 32 := Scalar.select v39 v40 v25
  let c16_i32_12 : BitVec 32 := 16#32
  let v42 : BitVec 32 := Scalar.muli v41 c16_i32_12
  let c0_i32_73 : BitVec 32 := 0#32
  let v175 : BitVec 1 := Scalar.cmpi .sgt v42 c0_i32_73
  let v176 : BitVec 32 := Scalar.extui v175
  let c0_i32_74 : BitVec 32 := 0#32
  let v177 : BitVec 1 := Scalar.cmpi .slt v42 c0_i32_74
  let v178 : BitVec 32 := Scalar.extui v177
  let v179 : BitVec 32 := Scalar.subi v176 v178
  let c16_i32_72 : BitVec 32 := 16#32
  let c0_i32_75 : BitVec 32 := 0#32
  let v180 : BitVec 1 := Scalar.cmpi .sgt c16_i32_72 c0_i32_75
  let v181 : BitVec 32 := Scalar.extui v180
  let c0_i32_76 : BitVec 32 := 0#32
  let v182 : BitVec 1 := Scalar.cmpi .slt c16_i32_72 c0_i32_76
  let v183 : BitVec 32 := Scalar.extui v182
  let v184 : BitVec 32 := Scalar.subi v181 v183
  let v185 : BitVec 1 := Scalar.cmpi .ne v179 v184
  let v186 : BitVec 32 := Scalar.remsi v42 c16_i32_72
  let c0_i32_77 : BitVec 32 := 0#32
  let v187 : BitVec 1 := Scalar.cmpi .ne v186 c0_i32_77
  let v188 : BitVec 1 := Scalar.andi v185 v187
  let v174 : BitVec 32 := Scalar.divsi v42 c16_i32_72
  let c1_i32_78 : BitVec 32 := 1#32
  let v189 : BitVec 32 := Scalar.subi v174 c1_i32_78
  let v190 : BitVec 32 := Scalar.select v188 v189 v174
  let c0_i32_79 : BitVec 32 := 0#32
  let v191 : BitVec 32 := Scalar.subi v190 c0_i32_79
  let c1_i32_80 : BitVec 32 := 1#32
  let c1_i32_81 : BitVec 32 := 1#32
  let v192 : BitVec 32 := Scalar.subi c1_i32_80 c1_i32_81
  let v193 : BitVec 32 := Scalar.addi v191 v192
  let c1_i32_82 : BitVec 32 := 1#32
  let v194 : BitVec 32 := Scalar.divsi v193 c1_i32_82
  let v195 : BitVec 32 := Scalar.subi v194 c0_i32_85
  let c1_i32_86 : BitVec 32 := 1#32
  let v197 : BitVec 32 := Scalar.divsi v195 c1_i32_86
  let v198 : BitVec 32 := Scalar.muli v197 c1_i32_86
  let v199 : BitVec 32 := Scalar.addi c0_i32_85 v198
  let c1_i32_88 : BitVec 32 := 1#32
  let arg18 : BitVec 32 := Scf.iv v199 c1_i32_88 k0_t2
  let c1_i32_83 : BitVec 32 := 1#32
  let v226 : BitVec 32 := Scalar.muli arg18 c1_i32_83
  let v227 : BitVec 32 := Scalar.addi c0_i32_84 v226
  let c256_i32 : BitVec 32 := 256#32
  let v228 : BitVec 32 := Scalar.muli v227 c256_i32
  let v229 : BitVec 32 := v228
  let v268 : Index := Scalar.indexCast v229
  ![0, 0, v268.toNat]
@[reducible] def k0_t3_loop (v1 : BitVec 32) : Scf.Loop 32 :=
  let c0_i32_102 : BitVec 32 := 0#32
  let c15_i32 : BitVec 32 := 15#32
  let v24 : BitVec 32 := Scalar.addi v1 c15_i32
  let c0_i32_6 : BitVec 32 := 0#32
  let v26 : BitVec 1 := Scalar.cmpi .sgt v24 c0_i32_6
  let v27 : BitVec 32 := Scalar.extui v26
  let c0_i32_7 : BitVec 32 := 0#32
  let v28 : BitVec 1 := Scalar.cmpi .slt v24 c0_i32_7
  let v29 : BitVec 32 := Scalar.extui v28
  let v30 : BitVec 32 := Scalar.subi v27 v29
  let c16_i32 : BitVec 32 := 16#32
  let c0_i32_8 : BitVec 32 := 0#32
  let v31 : BitVec 1 := Scalar.cmpi .sgt c16_i32 c0_i32_8
  let v32 : BitVec 32 := Scalar.extui v31
  let c0_i32_9 : BitVec 32 := 0#32
  let v33 : BitVec 1 := Scalar.cmpi .slt c16_i32 c0_i32_9
  let v34 : BitVec 32 := Scalar.extui v33
  let v35 : BitVec 32 := Scalar.subi v32 v34
  let v36 : BitVec 1 := Scalar.cmpi .ne v30 v35
  let v37 : BitVec 32 := Scalar.remsi v24 c16_i32
  let c0_i32_10 : BitVec 32 := 0#32
  let v38 : BitVec 1 := Scalar.cmpi .ne v37 c0_i32_10
  let v39 : BitVec 1 := Scalar.andi v36 v38
  let v25 : BitVec 32 := Scalar.divsi v24 c16_i32
  let c1_i32_11 : BitVec 32 := 1#32
  let v40 : BitVec 32 := Scalar.subi v25 c1_i32_11
  let v41 : BitVec 32 := Scalar.select v39 v40 v25
  let c16_i32_12 : BitVec 32 := 16#32
  let v42 : BitVec 32 := Scalar.muli v41 c16_i32_12
  let c0_i32_90 : BitVec 32 := 0#32
  let v201 : BitVec 1 := Scalar.cmpi .sgt v42 c0_i32_90
  let v202 : BitVec 32 := Scalar.extui v201
  let c0_i32_91 : BitVec 32 := 0#32
  let v203 : BitVec 1 := Scalar.cmpi .slt v42 c0_i32_91
  let v204 : BitVec 32 := Scalar.extui v203
  let v205 : BitVec 32 := Scalar.subi v202 v204
  let c16_i32_89 : BitVec 32 := 16#32
  let c0_i32_92 : BitVec 32 := 0#32
  let v206 : BitVec 1 := Scalar.cmpi .sgt c16_i32_89 c0_i32_92
  let v207 : BitVec 32 := Scalar.extui v206
  let c0_i32_93 : BitVec 32 := 0#32
  let v208 : BitVec 1 := Scalar.cmpi .slt c16_i32_89 c0_i32_93
  let v209 : BitVec 32 := Scalar.extui v208
  let v210 : BitVec 32 := Scalar.subi v207 v209
  let v211 : BitVec 1 := Scalar.cmpi .ne v205 v210
  let v212 : BitVec 32 := Scalar.remsi v42 c16_i32_89
  let c0_i32_94 : BitVec 32 := 0#32
  let v213 : BitVec 1 := Scalar.cmpi .ne v212 c0_i32_94
  let v214 : BitVec 1 := Scalar.andi v211 v213
  let v200 : BitVec 32 := Scalar.divsi v42 c16_i32_89
  let c1_i32_95 : BitVec 32 := 1#32
  let v215 : BitVec 32 := Scalar.subi v200 c1_i32_95
  let v216 : BitVec 32 := Scalar.select v214 v215 v200
  let c0_i32_96 : BitVec 32 := 0#32
  let v217 : BitVec 32 := Scalar.subi v216 c0_i32_96
  let c1_i32_97 : BitVec 32 := 1#32
  let c1_i32_98 : BitVec 32 := 1#32
  let v218 : BitVec 32 := Scalar.subi c1_i32_97 c1_i32_98
  let v219 : BitVec 32 := Scalar.addi v217 v218
  let c1_i32_99 : BitVec 32 := 1#32
  let v220 : BitVec 32 := Scalar.divsi v219 c1_i32_99
  let v221 : BitVec 32 := Scalar.subi v220 c0_i32_102
  let c1_i32_103 : BitVec 32 := 1#32
  let v223 : BitVec 32 := Scalar.divsi v221 c1_i32_103
  let v224 : BitVec 32 := Scalar.muli v223 c1_i32_103
  let v225 : BitVec 32 := Scalar.addi c0_i32_102 v224
  let c1_i32_104 : BitVec 32 := 1#32
  ⟨c0_i32_102, v225, c1_i32_104⟩
def k0_mult3 (v1 : BitVec 32) (k0_t3 : Fin (k0_t3_loop v1).trips) : BitVec 32 :=
  let c0_i32_101 : BitVec 32 := 0#32
  let c0_i32_102 : BitVec 32 := 0#32
  let c1_i32_104 : BitVec 32 := 1#32
  let arg18 : BitVec 32 := Scf.iv c0_i32_102 c1_i32_104 k0_t3
  let c1_i32_100 : BitVec 32 := 1#32
  let v226 : BitVec 32 := Scalar.muli arg18 c1_i32_100
  let v227 : BitVec 32 := Scalar.addi c0_i32_101 v226
  let c256_i32 : BitVec 32 := 256#32
  let v228 : BitVec 32 := Scalar.muli v227 c256_i32
  v228
def k0_off8 (v1 : BitVec 32) (k0_t3 : Fin (k0_t3_loop v1).trips) : Fin 4 → Nat :=
  let c0_109 : Index := 0#32
  let c1_110 : Index := 1#32
  let c0_111 : Index := 0#32
  let c0_i32_101 : BitVec 32 := 0#32
  let c0_i32_102 : BitVec 32 := 0#32
  let c1_i32_104 : BitVec 32 := 1#32
  let arg18 : BitVec 32 := Scf.iv c0_i32_102 c1_i32_104 k0_t3
  let c1_i32_100 : BitVec 32 := 1#32
  let v226 : BitVec 32 := Scalar.muli arg18 c1_i32_100
  let v227 : BitVec 32 := Scalar.addi c0_i32_101 v226
  let c256_i32 : BitVec 32 := 256#32
  let v228 : BitVec 32 := Scalar.muli v227 c256_i32
  let v229 : BitVec 32 := v228
  let v232 : Index := Scalar.indexCast v229
  ![0, 1, 0, v232.toNat]
def k0_off9 (v1 : BitVec 32) (k0_t3 : Fin (k0_t3_loop v1).trips) : Fin 3 → Nat :=
  let c1_113 : Index := 1#32
  let c0_114 : Index := 0#32
  let c0_i32_101 : BitVec 32 := 0#32
  let c0_i32_102 : BitVec 32 := 0#32
  let c1_i32_104 : BitVec 32 := 1#32
  let arg18 : BitVec 32 := Scf.iv c0_i32_102 c1_i32_104 k0_t3
  let c1_i32_100 : BitVec 32 := 1#32
  let v226 : BitVec 32 := Scalar.muli arg18 c1_i32_100
  let v227 : BitVec 32 := Scalar.addi c0_i32_101 v226
  let c256_i32 : BitVec 32 := 256#32
  let v228 : BitVec 32 := Scalar.muli v227 c256_i32
  let v229 : BitVec 32 := v228
  let v238 : Index := Scalar.indexCast v229
  ![1, 0, v238.toNat]
def k0_off10 (v1 : BitVec 32) (k0_t3 : Fin (k0_t3_loop v1).trips) : Fin 3 → Nat :=
  let c1_127 : Index := 1#32
  let c0_128 : Index := 0#32
  let c0_i32_101 : BitVec 32 := 0#32
  let c0_i32_102 : BitVec 32 := 0#32
  let c1_i32_104 : BitVec 32 := 1#32
  let arg18 : BitVec 32 := Scf.iv c0_i32_102 c1_i32_104 k0_t3
  let c1_i32_100 : BitVec 32 := 1#32
  let v226 : BitVec 32 := Scalar.muli arg18 c1_i32_100
  let v227 : BitVec 32 := Scalar.addi c0_i32_101 v226
  let c256_i32 : BitVec 32 := 256#32
  let v228 : BitVec 32 := Scalar.muli v227 c256_i32
  let v229 : BitVec 32 := v228
  let v268 : Index := Scalar.indexCast v229
  ![1, 0, v268.toNat]
@[reducible] def k0_t4_loop (v1 : BitVec 32) : Scf.Loop 32 :=
  let c0_i32_102 : BitVec 32 := 0#32
  let c15_i32 : BitVec 32 := 15#32
  let v24 : BitVec 32 := Scalar.addi v1 c15_i32
  let c0_i32_6 : BitVec 32 := 0#32
  let v26 : BitVec 1 := Scalar.cmpi .sgt v24 c0_i32_6
  let v27 : BitVec 32 := Scalar.extui v26
  let c0_i32_7 : BitVec 32 := 0#32
  let v28 : BitVec 1 := Scalar.cmpi .slt v24 c0_i32_7
  let v29 : BitVec 32 := Scalar.extui v28
  let v30 : BitVec 32 := Scalar.subi v27 v29
  let c16_i32 : BitVec 32 := 16#32
  let c0_i32_8 : BitVec 32 := 0#32
  let v31 : BitVec 1 := Scalar.cmpi .sgt c16_i32 c0_i32_8
  let v32 : BitVec 32 := Scalar.extui v31
  let c0_i32_9 : BitVec 32 := 0#32
  let v33 : BitVec 1 := Scalar.cmpi .slt c16_i32 c0_i32_9
  let v34 : BitVec 32 := Scalar.extui v33
  let v35 : BitVec 32 := Scalar.subi v32 v34
  let v36 : BitVec 1 := Scalar.cmpi .ne v30 v35
  let v37 : BitVec 32 := Scalar.remsi v24 c16_i32
  let c0_i32_10 : BitVec 32 := 0#32
  let v38 : BitVec 1 := Scalar.cmpi .ne v37 c0_i32_10
  let v39 : BitVec 1 := Scalar.andi v36 v38
  let v25 : BitVec 32 := Scalar.divsi v24 c16_i32
  let c1_i32_11 : BitVec 32 := 1#32
  let v40 : BitVec 32 := Scalar.subi v25 c1_i32_11
  let v41 : BitVec 32 := Scalar.select v39 v40 v25
  let c16_i32_12 : BitVec 32 := 16#32
  let v42 : BitVec 32 := Scalar.muli v41 c16_i32_12
  let c0_i32_90 : BitVec 32 := 0#32
  let v201 : BitVec 1 := Scalar.cmpi .sgt v42 c0_i32_90
  let v202 : BitVec 32 := Scalar.extui v201
  let c0_i32_91 : BitVec 32 := 0#32
  let v203 : BitVec 1 := Scalar.cmpi .slt v42 c0_i32_91
  let v204 : BitVec 32 := Scalar.extui v203
  let v205 : BitVec 32 := Scalar.subi v202 v204
  let c16_i32_89 : BitVec 32 := 16#32
  let c0_i32_92 : BitVec 32 := 0#32
  let v206 : BitVec 1 := Scalar.cmpi .sgt c16_i32_89 c0_i32_92
  let v207 : BitVec 32 := Scalar.extui v206
  let c0_i32_93 : BitVec 32 := 0#32
  let v208 : BitVec 1 := Scalar.cmpi .slt c16_i32_89 c0_i32_93
  let v209 : BitVec 32 := Scalar.extui v208
  let v210 : BitVec 32 := Scalar.subi v207 v209
  let v211 : BitVec 1 := Scalar.cmpi .ne v205 v210
  let v212 : BitVec 32 := Scalar.remsi v42 c16_i32_89
  let c0_i32_94 : BitVec 32 := 0#32
  let v213 : BitVec 1 := Scalar.cmpi .ne v212 c0_i32_94
  let v214 : BitVec 1 := Scalar.andi v211 v213
  let v200 : BitVec 32 := Scalar.divsi v42 c16_i32_89
  let c1_i32_95 : BitVec 32 := 1#32
  let v215 : BitVec 32 := Scalar.subi v200 c1_i32_95
  let v216 : BitVec 32 := Scalar.select v214 v215 v200
  let c0_i32_96 : BitVec 32 := 0#32
  let v217 : BitVec 32 := Scalar.subi v216 c0_i32_96
  let c1_i32_97 : BitVec 32 := 1#32
  let c1_i32_98 : BitVec 32 := 1#32
  let v218 : BitVec 32 := Scalar.subi c1_i32_97 c1_i32_98
  let v219 : BitVec 32 := Scalar.addi v217 v218
  let c1_i32_99 : BitVec 32 := 1#32
  let v220 : BitVec 32 := Scalar.divsi v219 c1_i32_99
  let v221 : BitVec 32 := Scalar.subi v220 c0_i32_102
  let c1_i32_103 : BitVec 32 := 1#32
  let v223 : BitVec 32 := Scalar.divsi v221 c1_i32_103
  let v224 : BitVec 32 := Scalar.muli v223 c1_i32_103
  let v225 : BitVec 32 := Scalar.addi c0_i32_102 v224
  let v222 : BitVec 32 := Scalar.addi c0_i32_102 v221
  let c1_i32_105 : BitVec 32 := 1#32
  ⟨v225, v222, c1_i32_105⟩
def k0_mult4 (v1 : BitVec 32) (k0_t4 : Fin (k0_t4_loop v1).trips) : BitVec 32 :=
  let c0_i32_101 : BitVec 32 := 0#32
  let c0_i32_102 : BitVec 32 := 0#32
  let c15_i32 : BitVec 32 := 15#32
  let v24 : BitVec 32 := Scalar.addi v1 c15_i32
  let c0_i32_6 : BitVec 32 := 0#32
  let v26 : BitVec 1 := Scalar.cmpi .sgt v24 c0_i32_6
  let v27 : BitVec 32 := Scalar.extui v26
  let c0_i32_7 : BitVec 32 := 0#32
  let v28 : BitVec 1 := Scalar.cmpi .slt v24 c0_i32_7
  let v29 : BitVec 32 := Scalar.extui v28
  let v30 : BitVec 32 := Scalar.subi v27 v29
  let c16_i32 : BitVec 32 := 16#32
  let c0_i32_8 : BitVec 32 := 0#32
  let v31 : BitVec 1 := Scalar.cmpi .sgt c16_i32 c0_i32_8
  let v32 : BitVec 32 := Scalar.extui v31
  let c0_i32_9 : BitVec 32 := 0#32
  let v33 : BitVec 1 := Scalar.cmpi .slt c16_i32 c0_i32_9
  let v34 : BitVec 32 := Scalar.extui v33
  let v35 : BitVec 32 := Scalar.subi v32 v34
  let v36 : BitVec 1 := Scalar.cmpi .ne v30 v35
  let v37 : BitVec 32 := Scalar.remsi v24 c16_i32
  let c0_i32_10 : BitVec 32 := 0#32
  let v38 : BitVec 1 := Scalar.cmpi .ne v37 c0_i32_10
  let v39 : BitVec 1 := Scalar.andi v36 v38
  let v25 : BitVec 32 := Scalar.divsi v24 c16_i32
  let c1_i32_11 : BitVec 32 := 1#32
  let v40 : BitVec 32 := Scalar.subi v25 c1_i32_11
  let v41 : BitVec 32 := Scalar.select v39 v40 v25
  let c16_i32_12 : BitVec 32 := 16#32
  let v42 : BitVec 32 := Scalar.muli v41 c16_i32_12
  let c0_i32_90 : BitVec 32 := 0#32
  let v201 : BitVec 1 := Scalar.cmpi .sgt v42 c0_i32_90
  let v202 : BitVec 32 := Scalar.extui v201
  let c0_i32_91 : BitVec 32 := 0#32
  let v203 : BitVec 1 := Scalar.cmpi .slt v42 c0_i32_91
  let v204 : BitVec 32 := Scalar.extui v203
  let v205 : BitVec 32 := Scalar.subi v202 v204
  let c16_i32_89 : BitVec 32 := 16#32
  let c0_i32_92 : BitVec 32 := 0#32
  let v206 : BitVec 1 := Scalar.cmpi .sgt c16_i32_89 c0_i32_92
  let v207 : BitVec 32 := Scalar.extui v206
  let c0_i32_93 : BitVec 32 := 0#32
  let v208 : BitVec 1 := Scalar.cmpi .slt c16_i32_89 c0_i32_93
  let v209 : BitVec 32 := Scalar.extui v208
  let v210 : BitVec 32 := Scalar.subi v207 v209
  let v211 : BitVec 1 := Scalar.cmpi .ne v205 v210
  let v212 : BitVec 32 := Scalar.remsi v42 c16_i32_89
  let c0_i32_94 : BitVec 32 := 0#32
  let v213 : BitVec 1 := Scalar.cmpi .ne v212 c0_i32_94
  let v214 : BitVec 1 := Scalar.andi v211 v213
  let v200 : BitVec 32 := Scalar.divsi v42 c16_i32_89
  let c1_i32_95 : BitVec 32 := 1#32
  let v215 : BitVec 32 := Scalar.subi v200 c1_i32_95
  let v216 : BitVec 32 := Scalar.select v214 v215 v200
  let c0_i32_96 : BitVec 32 := 0#32
  let v217 : BitVec 32 := Scalar.subi v216 c0_i32_96
  let c1_i32_97 : BitVec 32 := 1#32
  let c1_i32_98 : BitVec 32 := 1#32
  let v218 : BitVec 32 := Scalar.subi c1_i32_97 c1_i32_98
  let v219 : BitVec 32 := Scalar.addi v217 v218
  let c1_i32_99 : BitVec 32 := 1#32
  let v220 : BitVec 32 := Scalar.divsi v219 c1_i32_99
  let v221 : BitVec 32 := Scalar.subi v220 c0_i32_102
  let c1_i32_103 : BitVec 32 := 1#32
  let v223 : BitVec 32 := Scalar.divsi v221 c1_i32_103
  let v224 : BitVec 32 := Scalar.muli v223 c1_i32_103
  let v225 : BitVec 32 := Scalar.addi c0_i32_102 v224
  let c1_i32_105 : BitVec 32 := 1#32
  let arg18 : BitVec 32 := Scf.iv v225 c1_i32_105 k0_t4
  let c1_i32_100 : BitVec 32 := 1#32
  let v226 : BitVec 32 := Scalar.muli arg18 c1_i32_100
  let v227 : BitVec 32 := Scalar.addi c0_i32_101 v226
  let c256_i32 : BitVec 32 := 256#32
  let v228 : BitVec 32 := Scalar.muli v227 c256_i32
  v228
def k0_off11 (v1 : BitVec 32) (k0_t4 : Fin (k0_t4_loop v1).trips) : Fin 4 → Nat :=
  let c0_109 : Index := 0#32
  let c1_110 : Index := 1#32
  let c0_111 : Index := 0#32
  let c0_i32_101 : BitVec 32 := 0#32
  let c0_i32_102 : BitVec 32 := 0#32
  let c15_i32 : BitVec 32 := 15#32
  let v24 : BitVec 32 := Scalar.addi v1 c15_i32
  let c0_i32_6 : BitVec 32 := 0#32
  let v26 : BitVec 1 := Scalar.cmpi .sgt v24 c0_i32_6
  let v27 : BitVec 32 := Scalar.extui v26
  let c0_i32_7 : BitVec 32 := 0#32
  let v28 : BitVec 1 := Scalar.cmpi .slt v24 c0_i32_7
  let v29 : BitVec 32 := Scalar.extui v28
  let v30 : BitVec 32 := Scalar.subi v27 v29
  let c16_i32 : BitVec 32 := 16#32
  let c0_i32_8 : BitVec 32 := 0#32
  let v31 : BitVec 1 := Scalar.cmpi .sgt c16_i32 c0_i32_8
  let v32 : BitVec 32 := Scalar.extui v31
  let c0_i32_9 : BitVec 32 := 0#32
  let v33 : BitVec 1 := Scalar.cmpi .slt c16_i32 c0_i32_9
  let v34 : BitVec 32 := Scalar.extui v33
  let v35 : BitVec 32 := Scalar.subi v32 v34
  let v36 : BitVec 1 := Scalar.cmpi .ne v30 v35
  let v37 : BitVec 32 := Scalar.remsi v24 c16_i32
  let c0_i32_10 : BitVec 32 := 0#32
  let v38 : BitVec 1 := Scalar.cmpi .ne v37 c0_i32_10
  let v39 : BitVec 1 := Scalar.andi v36 v38
  let v25 : BitVec 32 := Scalar.divsi v24 c16_i32
  let c1_i32_11 : BitVec 32 := 1#32
  let v40 : BitVec 32 := Scalar.subi v25 c1_i32_11
  let v41 : BitVec 32 := Scalar.select v39 v40 v25
  let c16_i32_12 : BitVec 32 := 16#32
  let v42 : BitVec 32 := Scalar.muli v41 c16_i32_12
  let c0_i32_90 : BitVec 32 := 0#32
  let v201 : BitVec 1 := Scalar.cmpi .sgt v42 c0_i32_90
  let v202 : BitVec 32 := Scalar.extui v201
  let c0_i32_91 : BitVec 32 := 0#32
  let v203 : BitVec 1 := Scalar.cmpi .slt v42 c0_i32_91
  let v204 : BitVec 32 := Scalar.extui v203
  let v205 : BitVec 32 := Scalar.subi v202 v204
  let c16_i32_89 : BitVec 32 := 16#32
  let c0_i32_92 : BitVec 32 := 0#32
  let v206 : BitVec 1 := Scalar.cmpi .sgt c16_i32_89 c0_i32_92
  let v207 : BitVec 32 := Scalar.extui v206
  let c0_i32_93 : BitVec 32 := 0#32
  let v208 : BitVec 1 := Scalar.cmpi .slt c16_i32_89 c0_i32_93
  let v209 : BitVec 32 := Scalar.extui v208
  let v210 : BitVec 32 := Scalar.subi v207 v209
  let v211 : BitVec 1 := Scalar.cmpi .ne v205 v210
  let v212 : BitVec 32 := Scalar.remsi v42 c16_i32_89
  let c0_i32_94 : BitVec 32 := 0#32
  let v213 : BitVec 1 := Scalar.cmpi .ne v212 c0_i32_94
  let v214 : BitVec 1 := Scalar.andi v211 v213
  let v200 : BitVec 32 := Scalar.divsi v42 c16_i32_89
  let c1_i32_95 : BitVec 32 := 1#32
  let v215 : BitVec 32 := Scalar.subi v200 c1_i32_95
  let v216 : BitVec 32 := Scalar.select v214 v215 v200
  let c0_i32_96 : BitVec 32 := 0#32
  let v217 : BitVec 32 := Scalar.subi v216 c0_i32_96
  let c1_i32_97 : BitVec 32 := 1#32
  let c1_i32_98 : BitVec 32 := 1#32
  let v218 : BitVec 32 := Scalar.subi c1_i32_97 c1_i32_98
  let v219 : BitVec 32 := Scalar.addi v217 v218
  let c1_i32_99 : BitVec 32 := 1#32
  let v220 : BitVec 32 := Scalar.divsi v219 c1_i32_99
  let v221 : BitVec 32 := Scalar.subi v220 c0_i32_102
  let c1_i32_103 : BitVec 32 := 1#32
  let v223 : BitVec 32 := Scalar.divsi v221 c1_i32_103
  let v224 : BitVec 32 := Scalar.muli v223 c1_i32_103
  let v225 : BitVec 32 := Scalar.addi c0_i32_102 v224
  let c1_i32_105 : BitVec 32 := 1#32
  let arg18 : BitVec 32 := Scf.iv v225 c1_i32_105 k0_t4
  let c1_i32_100 : BitVec 32 := 1#32
  let v226 : BitVec 32 := Scalar.muli arg18 c1_i32_100
  let v227 : BitVec 32 := Scalar.addi c0_i32_101 v226
  let c256_i32 : BitVec 32 := 256#32
  let v228 : BitVec 32 := Scalar.muli v227 c256_i32
  let v229 : BitVec 32 := v228
  let v232 : Index := Scalar.indexCast v229
  ![0, 1, 0, v232.toNat]
def k0_off12 (v1 : BitVec 32) (k0_t4 : Fin (k0_t4_loop v1).trips) : Fin 3 → Nat :=
  let c1_113 : Index := 1#32
  let c0_114 : Index := 0#32
  let c0_i32_101 : BitVec 32 := 0#32
  let c0_i32_102 : BitVec 32 := 0#32
  let c15_i32 : BitVec 32 := 15#32
  let v24 : BitVec 32 := Scalar.addi v1 c15_i32
  let c0_i32_6 : BitVec 32 := 0#32
  let v26 : BitVec 1 := Scalar.cmpi .sgt v24 c0_i32_6
  let v27 : BitVec 32 := Scalar.extui v26
  let c0_i32_7 : BitVec 32 := 0#32
  let v28 : BitVec 1 := Scalar.cmpi .slt v24 c0_i32_7
  let v29 : BitVec 32 := Scalar.extui v28
  let v30 : BitVec 32 := Scalar.subi v27 v29
  let c16_i32 : BitVec 32 := 16#32
  let c0_i32_8 : BitVec 32 := 0#32
  let v31 : BitVec 1 := Scalar.cmpi .sgt c16_i32 c0_i32_8
  let v32 : BitVec 32 := Scalar.extui v31
  let c0_i32_9 : BitVec 32 := 0#32
  let v33 : BitVec 1 := Scalar.cmpi .slt c16_i32 c0_i32_9
  let v34 : BitVec 32 := Scalar.extui v33
  let v35 : BitVec 32 := Scalar.subi v32 v34
  let v36 : BitVec 1 := Scalar.cmpi .ne v30 v35
  let v37 : BitVec 32 := Scalar.remsi v24 c16_i32
  let c0_i32_10 : BitVec 32 := 0#32
  let v38 : BitVec 1 := Scalar.cmpi .ne v37 c0_i32_10
  let v39 : BitVec 1 := Scalar.andi v36 v38
  let v25 : BitVec 32 := Scalar.divsi v24 c16_i32
  let c1_i32_11 : BitVec 32 := 1#32
  let v40 : BitVec 32 := Scalar.subi v25 c1_i32_11
  let v41 : BitVec 32 := Scalar.select v39 v40 v25
  let c16_i32_12 : BitVec 32 := 16#32
  let v42 : BitVec 32 := Scalar.muli v41 c16_i32_12
  let c0_i32_90 : BitVec 32 := 0#32
  let v201 : BitVec 1 := Scalar.cmpi .sgt v42 c0_i32_90
  let v202 : BitVec 32 := Scalar.extui v201
  let c0_i32_91 : BitVec 32 := 0#32
  let v203 : BitVec 1 := Scalar.cmpi .slt v42 c0_i32_91
  let v204 : BitVec 32 := Scalar.extui v203
  let v205 : BitVec 32 := Scalar.subi v202 v204
  let c16_i32_89 : BitVec 32 := 16#32
  let c0_i32_92 : BitVec 32 := 0#32
  let v206 : BitVec 1 := Scalar.cmpi .sgt c16_i32_89 c0_i32_92
  let v207 : BitVec 32 := Scalar.extui v206
  let c0_i32_93 : BitVec 32 := 0#32
  let v208 : BitVec 1 := Scalar.cmpi .slt c16_i32_89 c0_i32_93
  let v209 : BitVec 32 := Scalar.extui v208
  let v210 : BitVec 32 := Scalar.subi v207 v209
  let v211 : BitVec 1 := Scalar.cmpi .ne v205 v210
  let v212 : BitVec 32 := Scalar.remsi v42 c16_i32_89
  let c0_i32_94 : BitVec 32 := 0#32
  let v213 : BitVec 1 := Scalar.cmpi .ne v212 c0_i32_94
  let v214 : BitVec 1 := Scalar.andi v211 v213
  let v200 : BitVec 32 := Scalar.divsi v42 c16_i32_89
  let c1_i32_95 : BitVec 32 := 1#32
  let v215 : BitVec 32 := Scalar.subi v200 c1_i32_95
  let v216 : BitVec 32 := Scalar.select v214 v215 v200
  let c0_i32_96 : BitVec 32 := 0#32
  let v217 : BitVec 32 := Scalar.subi v216 c0_i32_96
  let c1_i32_97 : BitVec 32 := 1#32
  let c1_i32_98 : BitVec 32 := 1#32
  let v218 : BitVec 32 := Scalar.subi c1_i32_97 c1_i32_98
  let v219 : BitVec 32 := Scalar.addi v217 v218
  let c1_i32_99 : BitVec 32 := 1#32
  let v220 : BitVec 32 := Scalar.divsi v219 c1_i32_99
  let v221 : BitVec 32 := Scalar.subi v220 c0_i32_102
  let c1_i32_103 : BitVec 32 := 1#32
  let v223 : BitVec 32 := Scalar.divsi v221 c1_i32_103
  let v224 : BitVec 32 := Scalar.muli v223 c1_i32_103
  let v225 : BitVec 32 := Scalar.addi c0_i32_102 v224
  let c1_i32_105 : BitVec 32 := 1#32
  let arg18 : BitVec 32 := Scf.iv v225 c1_i32_105 k0_t4
  let c1_i32_100 : BitVec 32 := 1#32
  let v226 : BitVec 32 := Scalar.muli arg18 c1_i32_100
  let v227 : BitVec 32 := Scalar.addi c0_i32_101 v226
  let c256_i32 : BitVec 32 := 256#32
  let v228 : BitVec 32 := Scalar.muli v227 c256_i32
  let v229 : BitVec 32 := v228
  let v238 : Index := Scalar.indexCast v229
  ![1, 0, v238.toNat]
def k0_off13 (v1 : BitVec 32) (k0_t4 : Fin (k0_t4_loop v1).trips) : Fin 3 → Nat :=
  let c1_127 : Index := 1#32
  let c0_128 : Index := 0#32
  let c0_i32_101 : BitVec 32 := 0#32
  let c0_i32_102 : BitVec 32 := 0#32
  let c15_i32 : BitVec 32 := 15#32
  let v24 : BitVec 32 := Scalar.addi v1 c15_i32
  let c0_i32_6 : BitVec 32 := 0#32
  let v26 : BitVec 1 := Scalar.cmpi .sgt v24 c0_i32_6
  let v27 : BitVec 32 := Scalar.extui v26
  let c0_i32_7 : BitVec 32 := 0#32
  let v28 : BitVec 1 := Scalar.cmpi .slt v24 c0_i32_7
  let v29 : BitVec 32 := Scalar.extui v28
  let v30 : BitVec 32 := Scalar.subi v27 v29
  let c16_i32 : BitVec 32 := 16#32
  let c0_i32_8 : BitVec 32 := 0#32
  let v31 : BitVec 1 := Scalar.cmpi .sgt c16_i32 c0_i32_8
  let v32 : BitVec 32 := Scalar.extui v31
  let c0_i32_9 : BitVec 32 := 0#32
  let v33 : BitVec 1 := Scalar.cmpi .slt c16_i32 c0_i32_9
  let v34 : BitVec 32 := Scalar.extui v33
  let v35 : BitVec 32 := Scalar.subi v32 v34
  let v36 : BitVec 1 := Scalar.cmpi .ne v30 v35
  let v37 : BitVec 32 := Scalar.remsi v24 c16_i32
  let c0_i32_10 : BitVec 32 := 0#32
  let v38 : BitVec 1 := Scalar.cmpi .ne v37 c0_i32_10
  let v39 : BitVec 1 := Scalar.andi v36 v38
  let v25 : BitVec 32 := Scalar.divsi v24 c16_i32
  let c1_i32_11 : BitVec 32 := 1#32
  let v40 : BitVec 32 := Scalar.subi v25 c1_i32_11
  let v41 : BitVec 32 := Scalar.select v39 v40 v25
  let c16_i32_12 : BitVec 32 := 16#32
  let v42 : BitVec 32 := Scalar.muli v41 c16_i32_12
  let c0_i32_90 : BitVec 32 := 0#32
  let v201 : BitVec 1 := Scalar.cmpi .sgt v42 c0_i32_90
  let v202 : BitVec 32 := Scalar.extui v201
  let c0_i32_91 : BitVec 32 := 0#32
  let v203 : BitVec 1 := Scalar.cmpi .slt v42 c0_i32_91
  let v204 : BitVec 32 := Scalar.extui v203
  let v205 : BitVec 32 := Scalar.subi v202 v204
  let c16_i32_89 : BitVec 32 := 16#32
  let c0_i32_92 : BitVec 32 := 0#32
  let v206 : BitVec 1 := Scalar.cmpi .sgt c16_i32_89 c0_i32_92
  let v207 : BitVec 32 := Scalar.extui v206
  let c0_i32_93 : BitVec 32 := 0#32
  let v208 : BitVec 1 := Scalar.cmpi .slt c16_i32_89 c0_i32_93
  let v209 : BitVec 32 := Scalar.extui v208
  let v210 : BitVec 32 := Scalar.subi v207 v209
  let v211 : BitVec 1 := Scalar.cmpi .ne v205 v210
  let v212 : BitVec 32 := Scalar.remsi v42 c16_i32_89
  let c0_i32_94 : BitVec 32 := 0#32
  let v213 : BitVec 1 := Scalar.cmpi .ne v212 c0_i32_94
  let v214 : BitVec 1 := Scalar.andi v211 v213
  let v200 : BitVec 32 := Scalar.divsi v42 c16_i32_89
  let c1_i32_95 : BitVec 32 := 1#32
  let v215 : BitVec 32 := Scalar.subi v200 c1_i32_95
  let v216 : BitVec 32 := Scalar.select v214 v215 v200
  let c0_i32_96 : BitVec 32 := 0#32
  let v217 : BitVec 32 := Scalar.subi v216 c0_i32_96
  let c1_i32_97 : BitVec 32 := 1#32
  let c1_i32_98 : BitVec 32 := 1#32
  let v218 : BitVec 32 := Scalar.subi c1_i32_97 c1_i32_98
  let v219 : BitVec 32 := Scalar.addi v217 v218
  let c1_i32_99 : BitVec 32 := 1#32
  let v220 : BitVec 32 := Scalar.divsi v219 c1_i32_99
  let v221 : BitVec 32 := Scalar.subi v220 c0_i32_102
  let c1_i32_103 : BitVec 32 := 1#32
  let v223 : BitVec 32 := Scalar.divsi v221 c1_i32_103
  let v224 : BitVec 32 := Scalar.muli v223 c1_i32_103
  let v225 : BitVec 32 := Scalar.addi c0_i32_102 v224
  let c1_i32_105 : BitVec 32 := 1#32
  let arg18 : BitVec 32 := Scf.iv v225 c1_i32_105 k0_t4
  let c1_i32_100 : BitVec 32 := 1#32
  let v226 : BitVec 32 := Scalar.muli arg18 c1_i32_100
  let v227 : BitVec 32 := Scalar.addi c0_i32_101 v226
  let c256_i32 : BitVec 32 := 256#32
  let v228 : BitVec 32 := Scalar.muli v227 c256_i32
  let v229 : BitVec 32 := v228
  let v268 : Index := Scalar.indexCast v229
  ![1, 0, v268.toNat]

def k0_chk1 (i : grid0.Coords) (v1 : BitVec 32) (v3 : BitVec 32) : Prop :=
  (∀ (k0_h2 : k0_cond2 i v3 = 1#1), (k0_t1_loop v1).OK) ∧
  (∀ k0_t1 : Fin (k0_t1_loop v1).trips, ∀ (k0_h2 : k0_cond2 i v3 = 1#1), 256 ∣ (k0_mult1 v1 k0_t1).toNat) ∧
  (∀ k0_t1 : Fin (k0_t1_loop v1).trips, ∀ (k0_h2 : k0_cond2 i v3 = 1#1), ∀ a, (k0_off2 v1 k0_t1) a + S1x1x64x256.size a ≤ S1x2x64x4096.size a) ∧
  (∀ k0_t1 : Fin (k0_t1_loop v1).trips, ∀ (k0_h2 : k0_cond2 i v3 = 1#1), ∀ a, (k0_off3 v1 k0_t1) a + S1x1x256.size a ≤ S2x1x4096.size a) ∧
  (∀ k0_t1 : Fin (k0_t1_loop v1).trips, ∀ (k0_h2 : k0_cond2 i v3 = 1#1), ∀ a, (k0_off4 v1 k0_t1) a + S1x64x256.size a ≤ S2x64x4352.size a) ∧
  (∀ (k0_h2 : k0_cond2 i v3 = 1#1), (k0_t2_loop v1).OK) ∧
  (∀ k0_t2 : Fin (k0_t2_loop v1).trips, ∀ (k0_h2 : k0_cond2 i v3 = 1#1), 256 ∣ (k0_mult2 v1 k0_t2).toNat) ∧
  (∀ k0_t2 : Fin (k0_t2_loop v1).trips, ∀ (k0_h2 : k0_cond2 i v3 = 1#1), ∀ a, (k0_off5 v1 k0_t2) a + S1x1x64x256.size a ≤ S1x2x64x4096.size a) ∧
  (∀ k0_t2 : Fin (k0_t2_loop v1).trips, ∀ (k0_h2 : k0_cond2 i v3 = 1#1), ∀ a, (k0_off6 v1 k0_t2) a + S1x1x256.size a ≤ S2x1x4096.size a) ∧
  (∀ k0_t2 : Fin (k0_t2_loop v1).trips, ∀ (k0_h2 : k0_cond2 i v3 = 1#1), ∀ a, (k0_off7 v1 k0_t2) a + S1x64x256.size a ≤ S2x64x4352.size a) ∧
  (∀ (k0_h2 : k0_cond2 i v3 = 1#1), (k0_t3_loop v1).OK) ∧
  (∀ k0_t3 : Fin (k0_t3_loop v1).trips, ∀ (k0_h2 : k0_cond2 i v3 = 1#1), 256 ∣ (k0_mult3 v1 k0_t3).toNat) ∧
  (∀ k0_t3 : Fin (k0_t3_loop v1).trips, ∀ (k0_h2 : k0_cond2 i v3 = 1#1), ∀ a, (k0_off8 v1 k0_t3) a + S1x1x64x256.size a ≤ S1x2x64x4096.size a) ∧
  (∀ k0_t3 : Fin (k0_t3_loop v1).trips, ∀ (k0_h2 : k0_cond2 i v3 = 1#1), ∀ a, (k0_off9 v1 k0_t3) a + S1x1x256.size a ≤ S2x1x4096.size a) ∧
  (∀ k0_t3 : Fin (k0_t3_loop v1).trips, ∀ (k0_h2 : k0_cond2 i v3 = 1#1), ∀ a, (k0_off10 v1 k0_t3) a + S1x64x256.size a ≤ S2x64x4352.size a) ∧
  (∀ (k0_h2 : k0_cond2 i v3 = 1#1), (k0_t4_loop v1).OK) ∧
  (∀ k0_t4 : Fin (k0_t4_loop v1).trips, ∀ (k0_h2 : k0_cond2 i v3 = 1#1), 256 ∣ (k0_mult4 v1 k0_t4).toNat) ∧
  (∀ k0_t4 : Fin (k0_t4_loop v1).trips, ∀ (k0_h2 : k0_cond2 i v3 = 1#1), ∀ a, (k0_off11 v1 k0_t4) a + S1x1x64x256.size a ≤ S1x2x64x4096.size a) ∧
  (∀ k0_t4 : Fin (k0_t4_loop v1).trips, ∀ (k0_h2 : k0_cond2 i v3 = 1#1), ∀ a, (k0_off12 v1 k0_t4) a + S1x1x256.size a ≤ S2x1x4096.size a) ∧
  (∀ k0_t4 : Fin (k0_t4_loop v1).trips, ∀ (k0_h2 : k0_cond2 i v3 = 1#1), ∀ a, (k0_off13 v1 k0_t4) a + S1x64x256.size a ≤ S2x64x4352.size a)
theorem k0_t1_ok : ∀ (i : grid0.Coords) (v1 : BitVec 32) (v3 : BitVec 32) (k0_hw1 : k0_chk1 i v1 v3), ∀ (k0_h2 : k0_cond2 i v3 = 1#1), (k0_t1_loop v1).OK := fun i v1 v3 k0_hw1 k0_h2 => k0_hw1.1 k0_h2
theorem k0_mult1_dvd : ∀ (i : grid0.Coords) (v1 : BitVec 32) (v3 : BitVec 32) (k0_hw1 : k0_chk1 i v1 v3) (k0_t1 : Fin (k0_t1_loop v1).trips), ∀ (k0_h2 : k0_cond2 i v3 = 1#1), 256 ∣ (k0_mult1 v1 k0_t1).toNat := fun i v1 v3 k0_hw1 k0_t1 k0_h2 => k0_hw1.2.1 k0_t1 k0_h2
theorem k0_off2_inb : ∀ (i : grid0.Coords) (v1 : BitVec 32) (v3 : BitVec 32) (k0_hw1 : k0_chk1 i v1 v3) (k0_t1 : Fin (k0_t1_loop v1).trips), ∀ (k0_h2 : k0_cond2 i v3 = 1#1), ∀ a, (k0_off2 v1 k0_t1) a + S1x1x64x256.size a ≤ S1x2x64x4096.size a := fun i v1 v3 k0_hw1 k0_t1 k0_h2 => k0_hw1.2.2.1 k0_t1 k0_h2
theorem k0_off3_inb : ∀ (i : grid0.Coords) (v1 : BitVec 32) (v3 : BitVec 32) (k0_hw1 : k0_chk1 i v1 v3) (k0_t1 : Fin (k0_t1_loop v1).trips), ∀ (k0_h2 : k0_cond2 i v3 = 1#1), ∀ a, (k0_off3 v1 k0_t1) a + S1x1x256.size a ≤ S2x1x4096.size a := fun i v1 v3 k0_hw1 k0_t1 k0_h2 => k0_hw1.2.2.2.1 k0_t1 k0_h2
theorem k0_off4_inb : ∀ (i : grid0.Coords) (v1 : BitVec 32) (v3 : BitVec 32) (k0_hw1 : k0_chk1 i v1 v3) (k0_t1 : Fin (k0_t1_loop v1).trips), ∀ (k0_h2 : k0_cond2 i v3 = 1#1), ∀ a, (k0_off4 v1 k0_t1) a + S1x64x256.size a ≤ S2x64x4352.size a := fun i v1 v3 k0_hw1 k0_t1 k0_h2 => k0_hw1.2.2.2.2.1 k0_t1 k0_h2
theorem k0_t2_ok : ∀ (i : grid0.Coords) (v1 : BitVec 32) (v3 : BitVec 32) (k0_hw1 : k0_chk1 i v1 v3), ∀ (k0_h2 : k0_cond2 i v3 = 1#1), (k0_t2_loop v1).OK := fun i v1 v3 k0_hw1 k0_h2 => k0_hw1.2.2.2.2.2.1 k0_h2
theorem k0_mult2_dvd : ∀ (i : grid0.Coords) (v1 : BitVec 32) (v3 : BitVec 32) (k0_hw1 : k0_chk1 i v1 v3) (k0_t2 : Fin (k0_t2_loop v1).trips), ∀ (k0_h2 : k0_cond2 i v3 = 1#1), 256 ∣ (k0_mult2 v1 k0_t2).toNat := fun i v1 v3 k0_hw1 k0_t2 k0_h2 => k0_hw1.2.2.2.2.2.2.1 k0_t2 k0_h2
theorem k0_off5_inb : ∀ (i : grid0.Coords) (v1 : BitVec 32) (v3 : BitVec 32) (k0_hw1 : k0_chk1 i v1 v3) (k0_t2 : Fin (k0_t2_loop v1).trips), ∀ (k0_h2 : k0_cond2 i v3 = 1#1), ∀ a, (k0_off5 v1 k0_t2) a + S1x1x64x256.size a ≤ S1x2x64x4096.size a := fun i v1 v3 k0_hw1 k0_t2 k0_h2 => k0_hw1.2.2.2.2.2.2.2.1 k0_t2 k0_h2
theorem k0_off6_inb : ∀ (i : grid0.Coords) (v1 : BitVec 32) (v3 : BitVec 32) (k0_hw1 : k0_chk1 i v1 v3) (k0_t2 : Fin (k0_t2_loop v1).trips), ∀ (k0_h2 : k0_cond2 i v3 = 1#1), ∀ a, (k0_off6 v1 k0_t2) a + S1x1x256.size a ≤ S2x1x4096.size a := fun i v1 v3 k0_hw1 k0_t2 k0_h2 => k0_hw1.2.2.2.2.2.2.2.2.1 k0_t2 k0_h2
theorem k0_off7_inb : ∀ (i : grid0.Coords) (v1 : BitVec 32) (v3 : BitVec 32) (k0_hw1 : k0_chk1 i v1 v3) (k0_t2 : Fin (k0_t2_loop v1).trips), ∀ (k0_h2 : k0_cond2 i v3 = 1#1), ∀ a, (k0_off7 v1 k0_t2) a + S1x64x256.size a ≤ S2x64x4352.size a := fun i v1 v3 k0_hw1 k0_t2 k0_h2 => k0_hw1.2.2.2.2.2.2.2.2.2.1 k0_t2 k0_h2
theorem k0_t3_ok : ∀ (i : grid0.Coords) (v1 : BitVec 32) (v3 : BitVec 32) (k0_hw1 : k0_chk1 i v1 v3), ∀ (k0_h2 : k0_cond2 i v3 = 1#1), (k0_t3_loop v1).OK := fun i v1 v3 k0_hw1 k0_h2 => k0_hw1.2.2.2.2.2.2.2.2.2.2.1 k0_h2
theorem k0_mult3_dvd : ∀ (i : grid0.Coords) (v1 : BitVec 32) (v3 : BitVec 32) (k0_hw1 : k0_chk1 i v1 v3) (k0_t3 : Fin (k0_t3_loop v1).trips), ∀ (k0_h2 : k0_cond2 i v3 = 1#1), 256 ∣ (k0_mult3 v1 k0_t3).toNat := fun i v1 v3 k0_hw1 k0_t3 k0_h2 => k0_hw1.2.2.2.2.2.2.2.2.2.2.2.1 k0_t3 k0_h2
theorem k0_off8_inb : ∀ (i : grid0.Coords) (v1 : BitVec 32) (v3 : BitVec 32) (k0_hw1 : k0_chk1 i v1 v3) (k0_t3 : Fin (k0_t3_loop v1).trips), ∀ (k0_h2 : k0_cond2 i v3 = 1#1), ∀ a, (k0_off8 v1 k0_t3) a + S1x1x64x256.size a ≤ S1x2x64x4096.size a := fun i v1 v3 k0_hw1 k0_t3 k0_h2 => k0_hw1.2.2.2.2.2.2.2.2.2.2.2.2.1 k0_t3 k0_h2
theorem k0_off9_inb : ∀ (i : grid0.Coords) (v1 : BitVec 32) (v3 : BitVec 32) (k0_hw1 : k0_chk1 i v1 v3) (k0_t3 : Fin (k0_t3_loop v1).trips), ∀ (k0_h2 : k0_cond2 i v3 = 1#1), ∀ a, (k0_off9 v1 k0_t3) a + S1x1x256.size a ≤ S2x1x4096.size a := fun i v1 v3 k0_hw1 k0_t3 k0_h2 => k0_hw1.2.2.2.2.2.2.2.2.2.2.2.2.2.1 k0_t3 k0_h2
theorem k0_off10_inb : ∀ (i : grid0.Coords) (v1 : BitVec 32) (v3 : BitVec 32) (k0_hw1 : k0_chk1 i v1 v3) (k0_t3 : Fin (k0_t3_loop v1).trips), ∀ (k0_h2 : k0_cond2 i v3 = 1#1), ∀ a, (k0_off10 v1 k0_t3) a + S1x64x256.size a ≤ S2x64x4352.size a := fun i v1 v3 k0_hw1 k0_t3 k0_h2 => k0_hw1.2.2.2.2.2.2.2.2.2.2.2.2.2.2.1 k0_t3 k0_h2
theorem k0_t4_ok : ∀ (i : grid0.Coords) (v1 : BitVec 32) (v3 : BitVec 32) (k0_hw1 : k0_chk1 i v1 v3), ∀ (k0_h2 : k0_cond2 i v3 = 1#1), (k0_t4_loop v1).OK := fun i v1 v3 k0_hw1 k0_h2 => k0_hw1.2.2.2.2.2.2.2.2.2.2.2.2.2.2.2.1 k0_h2
theorem k0_mult4_dvd : ∀ (i : grid0.Coords) (v1 : BitVec 32) (v3 : BitVec 32) (k0_hw1 : k0_chk1 i v1 v3) (k0_t4 : Fin (k0_t4_loop v1).trips), ∀ (k0_h2 : k0_cond2 i v3 = 1#1), 256 ∣ (k0_mult4 v1 k0_t4).toNat := fun i v1 v3 k0_hw1 k0_t4 k0_h2 => k0_hw1.2.2.2.2.2.2.2.2.2.2.2.2.2.2.2.2.1 k0_t4 k0_h2
theorem k0_off11_inb : ∀ (i : grid0.Coords) (v1 : BitVec 32) (v3 : BitVec 32) (k0_hw1 : k0_chk1 i v1 v3) (k0_t4 : Fin (k0_t4_loop v1).trips), ∀ (k0_h2 : k0_cond2 i v3 = 1#1), ∀ a, (k0_off11 v1 k0_t4) a + S1x1x64x256.size a ≤ S1x2x64x4096.size a := fun i v1 v3 k0_hw1 k0_t4 k0_h2 => k0_hw1.2.2.2.2.2.2.2.2.2.2.2.2.2.2.2.2.2.1 k0_t4 k0_h2
theorem k0_off12_inb : ∀ (i : grid0.Coords) (v1 : BitVec 32) (v3 : BitVec 32) (k0_hw1 : k0_chk1 i v1 v3) (k0_t4 : Fin (k0_t4_loop v1).trips), ∀ (k0_h2 : k0_cond2 i v3 = 1#1), ∀ a, (k0_off12 v1 k0_t4) a + S1x1x256.size a ≤ S2x1x4096.size a := fun i v1 v3 k0_hw1 k0_t4 k0_h2 => k0_hw1.2.2.2.2.2.2.2.2.2.2.2.2.2.2.2.2.2.2.1 k0_t4 k0_h2
theorem k0_off13_inb : ∀ (i : grid0.Coords) (v1 : BitVec 32) (v3 : BitVec 32) (k0_hw1 : k0_chk1 i v1 v3) (k0_t4 : Fin (k0_t4_loop v1).trips), ∀ (k0_h2 : k0_cond2 i v3 = 1#1), ∀ a, (k0_off13 v1 k0_t4) a + S1x64x256.size a ≤ S2x64x4352.size a := fun i v1 v3 k0_hw1 k0_t4 k0_h2 => k0_hw1.2.2.2.2.2.2.2.2.2.2.2.2.2.2.2.2.2.2.2 k0_t4 k0_h2

def k0_cond3 (i : grid0.Coords) : BitVec 1 :=
  let arg1 : BitVec 32 := BitVec.ofNat 32 (i 1).val
  let c127_i32 : BitVec 32 := 127#32
  let v69 : BitVec 1 := Scalar.cmpi .eq arg1 c127_i32
  let v70 : BitVec 32 := Scalar.extui v69
  let c0_i32_25 : BitVec 32 := 0#32
  let v71 : BitVec 1 := Scalar.cmpi .ne v70 c0_i32_25
  v71

@[reducible] def k0_t5_loop : Scf.Loop 32 :=
  let c0_i32_34 : BitVec 32 := 0#32
  let c16_i32_35 : BitVec 32 := 16#32
  let v84 : BitVec 32 := Scalar.addi c0_i32_34 c16_i32_35
  let c1_i32_36 : BitVec 32 := 1#32
  ⟨c0_i32_34, v84, c1_i32_36⟩
def k0_mult5 (v1 : BitVec 32) (k0_t5 : Fin k0_t5_loop.trips) : BitVec 32 :=
  let c0_i32_52 : BitVec 32 := 0#32
  let c0_i32_34 : BitVec 32 := 0#32
  let c1_i32_36 : BitVec 32 := 1#32
  let arg18 : BitVec 32 := Scf.iv c0_i32_34 c1_i32_36 k0_t5
  let c1_i32_51 : BitVec 32 := 1#32
  let v97 : BitVec 32 := Scalar.muli arg18 c1_i32_51
  let v98 : BitVec 32 := Scalar.addi c0_i32_52 v97
  let c15_i32 : BitVec 32 := 15#32
  let v24 : BitVec 32 := Scalar.addi v1 c15_i32
  let c0_i32_6 : BitVec 32 := 0#32
  let v26 : BitVec 1 := Scalar.cmpi .sgt v24 c0_i32_6
  let v27 : BitVec 32 := Scalar.extui v26
  let c0_i32_7 : BitVec 32 := 0#32
  let v28 : BitVec 1 := Scalar.cmpi .slt v24 c0_i32_7
  let v29 : BitVec 32 := Scalar.extui v28
  let v30 : BitVec 32 := Scalar.subi v27 v29
  let c16_i32 : BitVec 32 := 16#32
  let c0_i32_8 : BitVec 32 := 0#32
  let v31 : BitVec 1 := Scalar.cmpi .sgt c16_i32 c0_i32_8
  let v32 : BitVec 32 := Scalar.extui v31
  let c0_i32_9 : BitVec 32 := 0#32
  let v33 : BitVec 1 := Scalar.cmpi .slt c16_i32 c0_i32_9
  let v34 : BitVec 32 := Scalar.extui v33
  let v35 : BitVec 32 := Scalar.subi v32 v34
  let v36 : BitVec 1 := Scalar.cmpi .ne v30 v35
  let v37 : BitVec 32 := Scalar.remsi v24 c16_i32
  let c0_i32_10 : BitVec 32 := 0#32
  let v38 : BitVec 1 := Scalar.cmpi .ne v37 c0_i32_10
  let v39 : BitVec 1 := Scalar.andi v36 v38
  let v25 : BitVec 32 := Scalar.divsi v24 c16_i32
  let c1_i32_11 : BitVec 32 := 1#32
  let v40 : BitVec 32 := Scalar.subi v25 c1_i32_11
  let v41 : BitVec 32 := Scalar.select v39 v40 v25
  let c16_i32_12 : BitVec 32 := 16#32
  let v42 : BitVec 32 := Scalar.muli v41 c16_i32_12
  let v99 : BitVec 32 := Scalar.muli v98 v42
  let c0_i32_54 : BitVec 32 := 0#32
  let v101 : BitVec 1 := Scalar.cmpi .sgt v99 c0_i32_54
  let v102 : BitVec 32 := Scalar.extui v101
  let c0_i32_55 : BitVec 32 := 0#32
  let v103 : BitVec 1 := Scalar.cmpi .slt v99 c0_i32_55
  let v104 : BitVec 32 := Scalar.extui v103
  let v105 : BitVec 32 := Scalar.subi v102 v104
  let c128_i32_53 : BitVec 32 := 128#32
  let c0_i32_56 : BitVec 32 := 0#32
  let v106 : BitVec 1 := Scalar.cmpi .sgt c128_i32_53 c0_i32_56
  let v107 : BitVec 32 := Scalar.extui v106
  let c0_i32_57 : BitVec 32 := 0#32
  let v108 : BitVec 1 := Scalar.cmpi .slt c128_i32_53 c0_i32_57
  let v109 : BitVec 32 := Scalar.extui v108
  let v110 : BitVec 32 := Scalar.subi v107 v109
  let v111 : BitVec 1 := Scalar.cmpi .ne v105 v110
  let v112 : BitVec 32 := Scalar.remsi v99 c128_i32_53
  let c0_i32_58 : BitVec 32 := 0#32
  let v113 : BitVec 1 := Scalar.cmpi .ne v112 c0_i32_58
  let v114 : BitVec 1 := Scalar.andi v111 v113
  let v100 : BitVec 32 := Scalar.divsi v99 c128_i32_53
  let c1_i32_59 : BitVec 32 := 1#32
  let v115 : BitVec 32 := Scalar.subi v100 c1_i32_59
  let v116 : BitVec 32 := Scalar.select v114 v115 v100
  let c128_i32_60 : BitVec 32 := 128#32
  let v117 : BitVec 32 := Scalar.muli v116 c128_i32_60
  v117

def k0_off14 (v1 : BitVec 32) (k0_t5 : Fin k0_t5_loop.trips) : Fin 3 → Nat :=
  let c0_61 : Index := 0#32
  let c0_62 : Index := 0#32
  let c0_i32_52 : BitVec 32 := 0#32
  let c0_i32_34 : BitVec 32 := 0#32
  let c1_i32_36 : BitVec 32 := 1#32
  let arg18 : BitVec 32 := Scf.iv c0_i32_34 c1_i32_36 k0_t5
  let c1_i32_51 : BitVec 32 := 1#32
  let v97 : BitVec 32 := Scalar.muli arg18 c1_i32_51
  let v98 : BitVec 32 := Scalar.addi c0_i32_52 v97
  let c15_i32 : BitVec 32 := 15#32
  let v24 : BitVec 32 := Scalar.addi v1 c15_i32
  let c0_i32_6 : BitVec 32 := 0#32
  let v26 : BitVec 1 := Scalar.cmpi .sgt v24 c0_i32_6
  let v27 : BitVec 32 := Scalar.extui v26
  let c0_i32_7 : BitVec 32 := 0#32
  let v28 : BitVec 1 := Scalar.cmpi .slt v24 c0_i32_7
  let v29 : BitVec 32 := Scalar.extui v28
  let v30 : BitVec 32 := Scalar.subi v27 v29
  let c16_i32 : BitVec 32 := 16#32
  let c0_i32_8 : BitVec 32 := 0#32
  let v31 : BitVec 1 := Scalar.cmpi .sgt c16_i32 c0_i32_8
  let v32 : BitVec 32 := Scalar.extui v31
  let c0_i32_9 : BitVec 32 := 0#32
  let v33 : BitVec 1 := Scalar.cmpi .slt c16_i32 c0_i32_9
  let v34 : BitVec 32 := Scalar.extui v33
  let v35 : BitVec 32 := Scalar.subi v32 v34
  let v36 : BitVec 1 := Scalar.cmpi .ne v30 v35
  let v37 : BitVec 32 := Scalar.remsi v24 c16_i32
  let c0_i32_10 : BitVec 32 := 0#32
  let v38 : BitVec 1 := Scalar.cmpi .ne v37 c0_i32_10
  let v39 : BitVec 1 := Scalar.andi v36 v38
  let v25 : BitVec 32 := Scalar.divsi v24 c16_i32
  let c1_i32_11 : BitVec 32 := 1#32
  let v40 : BitVec 32 := Scalar.subi v25 c1_i32_11
  let v41 : BitVec 32 := Scalar.select v39 v40 v25
  let c16_i32_12 : BitVec 32 := 16#32
  let v42 : BitVec 32 := Scalar.muli v41 c16_i32_12
  let v99 : BitVec 32 := Scalar.muli v98 v42
  let c0_i32_54 : BitVec 32 := 0#32
  let v101 : BitVec 1 := Scalar.cmpi .sgt v99 c0_i32_54
  let v102 : BitVec 32 := Scalar.extui v101
  let c0_i32_55 : BitVec 32 := 0#32
  let v103 : BitVec 1 := Scalar.cmpi .slt v99 c0_i32_55
  let v104 : BitVec 32 := Scalar.extui v103
  let v105 : BitVec 32 := Scalar.subi v102 v104
  let c128_i32_53 : BitVec 32 := 128#32
  let c0_i32_56 : BitVec 32 := 0#32
  let v106 : BitVec 1 := Scalar.cmpi .sgt c128_i32_53 c0_i32_56
  let v107 : BitVec 32 := Scalar.extui v106
  let c0_i32_57 : BitVec 32 := 0#32
  let v108 : BitVec 1 := Scalar.cmpi .slt c128_i32_53 c0_i32_57
  let v109 : BitVec 32 := Scalar.extui v108
  let v110 : BitVec 32 := Scalar.subi v107 v109
  let v111 : BitVec 1 := Scalar.cmpi .ne v105 v110
  let v112 : BitVec 32 := Scalar.remsi v99 c128_i32_53
  let c0_i32_58 : BitVec 32 := 0#32
  let v113 : BitVec 1 := Scalar.cmpi .ne v112 c0_i32_58
  let v114 : BitVec 1 := Scalar.andi v111 v113
  let v100 : BitVec 32 := Scalar.divsi v99 c128_i32_53
  let c1_i32_59 : BitVec 32 := 1#32
  let v115 : BitVec 32 := Scalar.subi v100 c1_i32_59
  let v116 : BitVec 32 := Scalar.select v114 v115 v100
  let c128_i32_60 : BitVec 32 := 128#32
  let v117 : BitVec 32 := Scalar.muli v116 c128_i32_60
  let v118 : BitVec 32 := v117
  let v120 : Index := Scalar.indexCast v118
  ![0, 0, v120.toNat]
def k0_off15 (k0_t5 : Fin k0_t5_loop.trips) : Fin 4 → Nat :=
  let c0_65 : Index := 0#32
  let c0_i32_64 : BitVec 32 := 0#32
  let c0_i32_52 : BitVec 32 := 0#32
  let c0_i32_34 : BitVec 32 := 0#32
  let c1_i32_36 : BitVec 32 := 1#32
  let arg18 : BitVec 32 := Scf.iv c0_i32_34 c1_i32_36 k0_t5
  let c1_i32_51 : BitVec 32 := 1#32
  let v97 : BitVec 32 := Scalar.muli arg18 c1_i32_51
  let v98 : BitVec 32 := Scalar.addi c0_i32_52 v97
  let v131 : BitVec 32 := Scalar.addi c0_i32_64 v98
  let v132 : Index := Scalar.indexCast v131
  let c0_66 : Index := 0#32
  let c0_67 : Index := 0#32
  ![0, v132.toNat, 0, 0]
@[reducible] def k0_t6_loop : Scf.Loop 32 :=
  let c0_i32_47 : BitVec 32 := 0#32
  let c16_i32_48 : BitVec 32 := 16#32
  let v96 : BitVec 32 := Scalar.addi c0_i32_47 c16_i32_48
  let c1_i32_49 : BitVec 32 := 1#32
  ⟨c0_i32_47, v96, c1_i32_49⟩
def k0_mult6 (v1 : BitVec 32) (k0_t6 : Fin k0_t6_loop.trips) : BitVec 32 :=
  let c0_i32_52 : BitVec 32 := 0#32
  let c0_i32_47 : BitVec 32 := 0#32
  let c1_i32_49 : BitVec 32 := 1#32
  let arg18 : BitVec 32 := Scf.iv c0_i32_47 c1_i32_49 k0_t6
  let c1_i32_51 : BitVec 32 := 1#32
  let v97 : BitVec 32 := Scalar.muli arg18 c1_i32_51
  let v98 : BitVec 32 := Scalar.addi c0_i32_52 v97
  let c15_i32 : BitVec 32 := 15#32
  let v24 : BitVec 32 := Scalar.addi v1 c15_i32
  let c0_i32_6 : BitVec 32 := 0#32
  let v26 : BitVec 1 := Scalar.cmpi .sgt v24 c0_i32_6
  let v27 : BitVec 32 := Scalar.extui v26
  let c0_i32_7 : BitVec 32 := 0#32
  let v28 : BitVec 1 := Scalar.cmpi .slt v24 c0_i32_7
  let v29 : BitVec 32 := Scalar.extui v28
  let v30 : BitVec 32 := Scalar.subi v27 v29
  let c16_i32 : BitVec 32 := 16#32
  let c0_i32_8 : BitVec 32 := 0#32
  let v31 : BitVec 1 := Scalar.cmpi .sgt c16_i32 c0_i32_8
  let v32 : BitVec 32 := Scalar.extui v31
  let c0_i32_9 : BitVec 32 := 0#32
  let v33 : BitVec 1 := Scalar.cmpi .slt c16_i32 c0_i32_9
  let v34 : BitVec 32 := Scalar.extui v33
  let v35 : BitVec 32 := Scalar.subi v32 v34
  let v36 : BitVec 1 := Scalar.cmpi .ne v30 v35
  let v37 : BitVec 32 := Scalar.remsi v24 c16_i32
  let c0_i32_10 : BitVec 32 := 0#32
  let v38 : BitVec 1 := Scalar.cmpi .ne v37 c0_i32_10
  let v39 : BitVec 1 := Scalar.andi v36 v38
  let v25 : BitVec 32 := Scalar.divsi v24 c16_i32
  let c1_i32_11 : BitVec 32 := 1#32
  let v40 : BitVec 32 := Scalar.subi v25 c1_i32_11
  let v41 : BitVec 32 := Scalar.select v39 v40 v25
  let c16_i32_12 : BitVec 32 := 16#32
  let v42 : BitVec 32 := Scalar.muli v41 c16_i32_12
  let v99 : BitVec 32 := Scalar.muli v98 v42
  let c0_i32_54 : BitVec 32 := 0#32
  let v101 : BitVec 1 := Scalar.cmpi .sgt v99 c0_i32_54
  let v102 : BitVec 32 := Scalar.extui v101
  let c0_i32_55 : BitVec 32 := 0#32
  let v103 : BitVec 1 := Scalar.cmpi .slt v99 c0_i32_55
  let v104 : BitVec 32 := Scalar.extui v103
  let v105 : BitVec 32 := Scalar.subi v102 v104
  let c128_i32_53 : BitVec 32 := 128#32
  let c0_i32_56 : BitVec 32 := 0#32
  let v106 : BitVec 1 := Scalar.cmpi .sgt c128_i32_53 c0_i32_56
  let v107 : BitVec 32 := Scalar.extui v106
  let c0_i32_57 : BitVec 32 := 0#32
  let v108 : BitVec 1 := Scalar.cmpi .slt c128_i32_53 c0_i32_57
  let v109 : BitVec 32 := Scalar.extui v108
  let v110 : BitVec 32 := Scalar.subi v107 v109
  let v111 : BitVec 1 := Scalar.cmpi .ne v105 v110
  let v112 : BitVec 32 := Scalar.remsi v99 c128_i32_53
  let c0_i32_58 : BitVec 32 := 0#32
  let v113 : BitVec 1 := Scalar.cmpi .ne v112 c0_i32_58
  let v114 : BitVec 1 := Scalar.andi v111 v113
  let v100 : BitVec 32 := Scalar.divsi v99 c128_i32_53
  let c1_i32_59 : BitVec 32 := 1#32
  let v115 : BitVec 32 := Scalar.subi v100 c1_i32_59
  let v116 : BitVec 32 := Scalar.select v114 v115 v100
  let c128_i32_60 : BitVec 32 := 128#32
  let v117 : BitVec 32 := Scalar.muli v116 c128_i32_60
  v117
def k0_off16 (v1 : BitVec 32) (k0_t6 : Fin k0_t6_loop.trips) : Fin 3 → Nat :=
  let c1_61 : Index := 1#32
  let c0_62 : Index := 0#32
  let c0_i32_52 : BitVec 32 := 0#32
  let c0_i32_47 : BitVec 32 := 0#32
  let c1_i32_49 : BitVec 32 := 1#32
  let arg18 : BitVec 32 := Scf.iv c0_i32_47 c1_i32_49 k0_t6
  let c1_i32_51 : BitVec 32 := 1#32
  let v97 : BitVec 32 := Scalar.muli arg18 c1_i32_51
  let v98 : BitVec 32 := Scalar.addi c0_i32_52 v97
  let c15_i32 : BitVec 32 := 15#32
  let v24 : BitVec 32 := Scalar.addi v1 c15_i32
  let c0_i32_6 : BitVec 32 := 0#32
  let v26 : BitVec 1 := Scalar.cmpi .sgt v24 c0_i32_6
  let v27 : BitVec 32 := Scalar.extui v26
  let c0_i32_7 : BitVec 32 := 0#32
  let v28 : BitVec 1 := Scalar.cmpi .slt v24 c0_i32_7
  let v29 : BitVec 32 := Scalar.extui v28
  let v30 : BitVec 32 := Scalar.subi v27 v29
  let c16_i32 : BitVec 32 := 16#32
  let c0_i32_8 : BitVec 32 := 0#32
  let v31 : BitVec 1 := Scalar.cmpi .sgt c16_i32 c0_i32_8
  let v32 : BitVec 32 := Scalar.extui v31
  let c0_i32_9 : BitVec 32 := 0#32
  let v33 : BitVec 1 := Scalar.cmpi .slt c16_i32 c0_i32_9
  let v34 : BitVec 32 := Scalar.extui v33
  let v35 : BitVec 32 := Scalar.subi v32 v34
  let v36 : BitVec 1 := Scalar.cmpi .ne v30 v35
  let v37 : BitVec 32 := Scalar.remsi v24 c16_i32
  let c0_i32_10 : BitVec 32 := 0#32
  let v38 : BitVec 1 := Scalar.cmpi .ne v37 c0_i32_10
  let v39 : BitVec 1 := Scalar.andi v36 v38
  let v25 : BitVec 32 := Scalar.divsi v24 c16_i32
  let c1_i32_11 : BitVec 32 := 1#32
  let v40 : BitVec 32 := Scalar.subi v25 c1_i32_11
  let v41 : BitVec 32 := Scalar.select v39 v40 v25
  let c16_i32_12 : BitVec 32 := 16#32
  let v42 : BitVec 32 := Scalar.muli v41 c16_i32_12
  let v99 : BitVec 32 := Scalar.muli v98 v42
  let c0_i32_54 : BitVec 32 := 0#32
  let v101 : BitVec 1 := Scalar.cmpi .sgt v99 c0_i32_54
  let v102 : BitVec 32 := Scalar.extui v101
  let c0_i32_55 : BitVec 32 := 0#32
  let v103 : BitVec 1 := Scalar.cmpi .slt v99 c0_i32_55
  let v104 : BitVec 32 := Scalar.extui v103
  let v105 : BitVec 32 := Scalar.subi v102 v104
  let c128_i32_53 : BitVec 32 := 128#32
  let c0_i32_56 : BitVec 32 := 0#32
  let v106 : BitVec 1 := Scalar.cmpi .sgt c128_i32_53 c0_i32_56
  let v107 : BitVec 32 := Scalar.extui v106
  let c0_i32_57 : BitVec 32 := 0#32
  let v108 : BitVec 1 := Scalar.cmpi .slt c128_i32_53 c0_i32_57
  let v109 : BitVec 32 := Scalar.extui v108
  let v110 : BitVec 32 := Scalar.subi v107 v109
  let v111 : BitVec 1 := Scalar.cmpi .ne v105 v110
  let v112 : BitVec 32 := Scalar.remsi v99 c128_i32_53
  let c0_i32_58 : BitVec 32 := 0#32
  let v113 : BitVec 1 := Scalar.cmpi .ne v112 c0_i32_58
  let v114 : BitVec 1 := Scalar.andi v111 v113
  let v100 : BitVec 32 := Scalar.divsi v99 c128_i32_53
  let c1_i32_59 : BitVec 32 := 1#32
  let v115 : BitVec 32 := Scalar.subi v100 c1_i32_59
  let v116 : BitVec 32 := Scalar.select v114 v115 v100
  let c128_i32_60 : BitVec 32 := 128#32
  let v117 : BitVec 32 := Scalar.muli v116 c128_i32_60
  let v118 : BitVec 32 := v117
  let v120 : Index := Scalar.indexCast v118
  ![1, 0, v120.toNat]

def k0_chk2 (i : grid0.Coords) (v1 : BitVec 32) : Prop :=
  (∀ k0_t5 : Fin k0_t5_loop.trips, ∀ (k0_h3 : k0_cond3 i = 1#1), 128 ∣ (k0_mult5 v1 k0_t5).toNat) ∧
  (∀ k0_t5 : Fin k0_t5_loop.trips, ∀ (k0_h3 : k0_cond3 i = 1#1), ∀ a, (k0_off14 v1 k0_t5) a + S1x64x384.size a ≤ S2x64x4352.size a) ∧
  (∀ k0_t6 : Fin k0_t6_loop.trips, ∀ (k0_h3 : k0_cond3 i = 1#1), 128 ∣ (k0_mult6 v1 k0_t6).toNat) ∧
  (∀ k0_t6 : Fin k0_t6_loop.trips, ∀ (k0_h3 : k0_cond3 i = 1#1), ∀ a, (k0_off16 v1 k0_t6) a + S1x64x384.size a ≤ S2x64x4352.size a)
theorem k0_mult5_dvd : ∀ (i : grid0.Coords) (v1 : BitVec 32) (k0_hw2 : k0_chk2 i v1) (k0_t5 : Fin k0_t5_loop.trips), ∀ (k0_h3 : k0_cond3 i = 1#1), 128 ∣ (k0_mult5 v1 k0_t5).toNat := fun i v1 k0_hw2 k0_t5 k0_h3 => k0_hw2.1 k0_t5 k0_h3
theorem k0_off14_inb : ∀ (i : grid0.Coords) (v1 : BitVec 32) (k0_hw2 : k0_chk2 i v1) (k0_t5 : Fin k0_t5_loop.trips), ∀ (k0_h3 : k0_cond3 i = 1#1), ∀ a, (k0_off14 v1 k0_t5) a + S1x64x384.size a ≤ S2x64x4352.size a := fun i v1 k0_hw2 k0_t5 k0_h3 => k0_hw2.2.1 k0_t5 k0_h3
theorem k0_mult6_dvd : ∀ (i : grid0.Coords) (v1 : BitVec 32) (k0_hw2 : k0_chk2 i v1) (k0_t6 : Fin k0_t6_loop.trips), ∀ (k0_h3 : k0_cond3 i = 1#1), 128 ∣ (k0_mult6 v1 k0_t6).toNat := fun i v1 k0_hw2 k0_t6 k0_h3 => k0_hw2.2.2.1 k0_t6 k0_h3
theorem k0_off16_inb : ∀ (i : grid0.Coords) (v1 : BitVec 32) (k0_hw2 : k0_chk2 i v1) (k0_t6 : Fin k0_t6_loop.trips), ∀ (k0_h3 : k0_cond3 i = 1#1), ∀ a, (k0_off16 v1 k0_t6) a + S1x64x384.size a ≤ S2x64x4352.size a := fun i v1 k0_hw2 k0_t6 k0_h3 => k0_hw2.2.2.2 k0_t6 k0_h3

def k0_off17 (k0_t6 : Fin k0_t6_loop.trips) : Fin 4 → Nat :=
  let c0_65 : Index := 0#32
  let c16_i32_64 : BitVec 32 := 16#32
  let c0_i32_52 : BitVec 32 := 0#32
  let c0_i32_47 : BitVec 32 := 0#32
  let c1_i32_49 : BitVec 32 := 1#32
  let arg18 : BitVec 32 := Scf.iv c0_i32_47 c1_i32_49 k0_t6
  let c1_i32_51 : BitVec 32 := 1#32
  let v97 : BitVec 32 := Scalar.muli arg18 c1_i32_51
  let v98 : BitVec 32 := Scalar.addi c0_i32_52 v97
  let v131 : BitVec 32 := Scalar.addi c16_i32_64 v98
  let v132 : Index := Scalar.indexCast v131
  let c0_66 : Index := 0#32
  let c0_67 : Index := 0#32
  ![0, v132.toNat, 0, 0]
def cc0_transform_0 (k0_off1_inb : ∀ i : grid0.Coords, ∀ a, (k0_off1 i) a + S1.size a ≤ S4.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 1 (Rect.unit (s := S4) ![v0.toNat] S1.size (k0_off1_inb i)) numel1_S1
  let c2048_i32 : BitVec 32 := 2048#32
  let v2 : BitVec 32 := Scalar.addi v1 c2048_i32
  let c1_i32 : BitVec 32 := 1#32
  let v3 : BitVec 32 := Scalar.subi v2 c1_i32
  let c2048_i32_0 : BitVec 32 := 2048#32
  let v4 : BitVec 32 := Scalar.divsi v3 c2048_i32_0
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c2048_i32_0 c0_i32_2
  let v11 : BitVec 32 := Scalar.extui v10
  let c0_i32_3 : BitVec 32 := 0#32
  let v12 : BitVec 1 := Scalar.cmpi .slt c2048_i32_0 c0_i32_3
  let v13 : BitVec 32 := Scalar.extui v12
  let v14 : BitVec 32 := Scalar.subi v11 v13
  let v15 : BitVec 1 := Scalar.cmpi .ne v9 v14
  let v16 : BitVec 32 := Scalar.remsi v3 c2048_i32_0
  let c0_i32_4 : BitVec 32 := 0#32
  let v17 : BitVec 1 := Scalar.cmpi .ne v16 c0_i32_4
  let v18 : BitVec 1 := Scalar.andi v15 v17
  let c1_i32_5 : BitVec 32 := 1#32
  let v19 : BitVec 32 := Scalar.subi v4 c1_i32_5
  let v20 : BitVec 32 := Scalar.select v18 v19 v4
  let c128_i32 : BitVec 32 := 128#32
  let v21 : BitVec 32 := Scalar.muli v20 c128_i32
  let c16_i32 : BitVec 32 := 16#32
  let v22 : BitVec 32 := Scalar.muli c16_i32 v21
  let c1024_i32 : BitVec 32 := 1024#32
  let v23 : BitVec 32 := Scalar.addi v22 c1024_i32
  let c1_i32_6 : BitVec 32 := 1#32
  let v24 : BitVec 32 := Scalar.subi v23 c1_i32_6
  let c1024_i32_7 : BitVec 32 := 1024#32
  let v25 : BitVec 32 := Scalar.divsi v24 c1024_i32_7
  let c0_i32_8 : BitVec 32 := 0#32
  let v26 : BitVec 1 := Scalar.cmpi .sgt v24 c0_i32_8
  let v27 : BitVec 32 := Scalar.extui v26
  let c0_i32_9 : BitVec 32 := 0#32
  let v28 : BitVec 1 := Scalar.cmpi .slt v24 c0_i32_9
  let v29 : BitVec 32 := Scalar.extui v28
  let v30 : BitVec 32 := Scalar.subi v27 v29
  let c0_i32_10 : BitVec 32 := 0#32
  let v31 : BitVec 1 := Scalar.cmpi .sgt c1024_i32_7 c0_i32_10
  let v32 : BitVec 32 := Scalar.extui v31
  let c0_i32_11 : BitVec 32 := 0#32
  let v33 : BitVec 1 := Scalar.cmpi .slt c1024_i32_7 c0_i32_11
  let v34 : BitVec 32 := Scalar.extui v33
  let v35 : BitVec 32 := Scalar.subi v32 v34
  let v36 : BitVec 1 := Scalar.cmpi .ne v30 v35
  let v37 : BitVec 32 := Scalar.remsi v24 c1024_i32_7
  let c0_i32_12 : BitVec 32 := 0#32
  let v38 : BitVec 1 := Scalar.cmpi .ne v37 c0_i32_12
  let v39 : BitVec 1 := Scalar.andi v36 v38
  let c1_i32_13 : BitVec 32 := 1#32
  let v40 : BitVec 32 := Scalar.subi v25 c1_i32_13
  let v41 : BitVec 32 := Scalar.select v39 v40 v25
  let c1_i32_14 : BitVec 32 := 1#32
  let v42 : BitVec 32 := Scalar.subi v41 c1_i32_14
  let v43 : BitVec 32 := Scalar.minsi arg1 v42
  let c0_i32_15 : BitVec 32 := 0#32
  let c0_i32_16 : BitVec 32 := 0#32
  ![arg0.toNat, c0_i32_15.toNat, v43.toNat]

def cc0_transform_1 (k0_off1_inb : ∀ i : grid0.Coords, ∀ a, (k0_off1 i) a + S1.size a ≤ S4.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 1 (Rect.unit (s := S4) ![v0.toNat] S1.size (k0_off1_inb i)) numel1_S1
  let c2048_i32 : BitVec 32 := 2048#32
  let v2 : BitVec 32 := Scalar.addi v1 c2048_i32
  let c1_i32 : BitVec 32 := 1#32
  let v3 : BitVec 32 := Scalar.subi v2 c1_i32
  let c2048_i32_0 : BitVec 32 := 2048#32
  let v4 : BitVec 32 := Scalar.divsi v3 c2048_i32_0
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c2048_i32_0 c0_i32_2
  let v11 : BitVec 32 := Scalar.extui v10
  let c0_i32_3 : BitVec 32 := 0#32
  let v12 : BitVec 1 := Scalar.cmpi .slt c2048_i32_0 c0_i32_3
  let v13 : BitVec 32 := Scalar.extui v12
  let v14 : BitVec 32 := Scalar.subi v11 v13
  let v15 : BitVec 1 := Scalar.cmpi .ne v9 v14
  let v16 : BitVec 32 := Scalar.remsi v3 c2048_i32_0
  let c0_i32_4 : BitVec 32 := 0#32
  let v17 : BitVec 1 := Scalar.cmpi .ne v16 c0_i32_4
  let v18 : BitVec 1 := Scalar.andi v15 v17
  let c1_i32_5 : BitVec 32 := 1#32
  let v19 : BitVec 32 := Scalar.subi v4 c1_i32_5
  let v20 : BitVec 32 := Scalar.select v18 v19 v4
  let c128_i32 : BitVec 32 := 128#32
  let v21 : BitVec 32 := Scalar.muli v20 c128_i32
  let c16_i32 : BitVec 32 := 16#32
  let v22 : BitVec 32 := Scalar.muli c16_i32 v21
  let c1024_i32 : BitVec 32 := 1024#32
  let v23 : BitVec 32 := Scalar.addi v22 c1024_i32
  let c1_i32_6 : BitVec 32 := 1#32
  let v24 : BitVec 32 := Scalar.subi v23 c1_i32_6
  let c1024_i32_7 : BitVec 32 := 1024#32
  let v25 : BitVec 32 := Scalar.divsi v24 c1024_i32_7
  let c0_i32_8 : BitVec 32 := 0#32
  let v26 : BitVec 1 := Scalar.cmpi .sgt v24 c0_i32_8
  let v27 : BitVec 32 := Scalar.extui v26
  let c0_i32_9 : BitVec 32 := 0#32
  let v28 : BitVec 1 := Scalar.cmpi .slt v24 c0_i32_9
  let v29 : BitVec 32 := Scalar.extui v28
  let v30 : BitVec 32 := Scalar.subi v27 v29
  let c0_i32_10 : BitVec 32 := 0#32
  let v31 : BitVec 1 := Scalar.cmpi .sgt c1024_i32_7 c0_i32_10
  let v32 : BitVec 32 := Scalar.extui v31
  let c0_i32_11 : BitVec 32 := 0#32
  let v33 : BitVec 1 := Scalar.cmpi .slt c1024_i32_7 c0_i32_11
  let v34 : BitVec 32 := Scalar.extui v33
  let v35 : BitVec 32 := Scalar.subi v32 v34
  let v36 : BitVec 1 := Scalar.cmpi .ne v30 v35
  let v37 : BitVec 32 := Scalar.remsi v24 c1024_i32_7
  let c0_i32_12 : BitVec 32 := 0#32
  let v38 : BitVec 1 := Scalar.cmpi .ne v37 c0_i32_12
  let v39 : BitVec 1 := Scalar.andi v36 v38
  let c1_i32_13 : BitVec 32 := 1#32
  let v40 : BitVec 32 := Scalar.subi v25 c1_i32_13
  let v41 : BitVec 32 := Scalar.select v39 v40 v25
  let c1_i32_14 : BitVec 32 := 1#32
  let v42 : BitVec 32 := Scalar.subi v41 c1_i32_14
  let v43 : BitVec 32 := Scalar.minsi arg1 v42
  let c0_i32_15 : BitVec 32 := 0#32
  let c0_i32_16 : BitVec 32 := 0#32
  ![arg0.toNat, c0_i32_15.toNat, v43.toNat]

def cc0_transform_2 (k0_off1_inb : ∀ i : grid0.Coords, ∀ a, (k0_off1 i) a + S1.size a ≤ S4.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 1 (Rect.unit (s := S4) ![v0.toNat] S1.size (k0_off1_inb i)) numel1_S1
  let c2048_i32 : BitVec 32 := 2048#32
  let v2 : BitVec 32 := Scalar.addi v1 c2048_i32
  let c1_i32 : BitVec 32 := 1#32
  let v3 : BitVec 32 := Scalar.subi v2 c1_i32
  let c2048_i32_0 : BitVec 32 := 2048#32
  let v4 : BitVec 32 := Scalar.divsi v3 c2048_i32_0
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c2048_i32_0 c0_i32_2
  let v11 : BitVec 32 := Scalar.extui v10
  let c0_i32_3 : BitVec 32 := 0#32
  let v12 : BitVec 1 := Scalar.cmpi .slt c2048_i32_0 c0_i32_3
  let v13 : BitVec 32 := Scalar.extui v12
  let v14 : BitVec 32 := Scalar.subi v11 v13
  let v15 : BitVec 1 := Scalar.cmpi .ne v9 v14
  let v16 : BitVec 32 := Scalar.remsi v3 c2048_i32_0
  let c0_i32_4 : BitVec 32 := 0#32
  let v17 : BitVec 1 := Scalar.cmpi .ne v16 c0_i32_4
  let v18 : BitVec 1 := Scalar.andi v15 v17
  let c1_i32_5 : BitVec 32 := 1#32
  let v19 : BitVec 32 := Scalar.subi v4 c1_i32_5
  let v20 : BitVec 32 := Scalar.select v18 v19 v4
  let c128_i32 : BitVec 32 := 128#32
  let v21 : BitVec 32 := Scalar.muli v20 c128_i32
  let c16_i32 : BitVec 32 := 16#32
  let v22 : BitVec 32 := Scalar.muli c16_i32 v21
  let c1024_i32 : BitVec 32 := 1024#32
  let v23 : BitVec 32 := Scalar.addi v22 c1024_i32
  let c1_i32_6 : BitVec 32 := 1#32
  let v24 : BitVec 32 := Scalar.subi v23 c1_i32_6
  let c1024_i32_7 : BitVec 32 := 1024#32
  let v25 : BitVec 32 := Scalar.divsi v24 c1024_i32_7
  let c0_i32_8 : BitVec 32 := 0#32
  let v26 : BitVec 1 := Scalar.cmpi .sgt v24 c0_i32_8
  let v27 : BitVec 32 := Scalar.extui v26
  let c0_i32_9 : BitVec 32 := 0#32
  let v28 : BitVec 1 := Scalar.cmpi .slt v24 c0_i32_9
  let v29 : BitVec 32 := Scalar.extui v28
  let v30 : BitVec 32 := Scalar.subi v27 v29
  let c0_i32_10 : BitVec 32 := 0#32
  let v31 : BitVec 1 := Scalar.cmpi .sgt c1024_i32_7 c0_i32_10
  let v32 : BitVec 32 := Scalar.extui v31
  let c0_i32_11 : BitVec 32 := 0#32
  let v33 : BitVec 1 := Scalar.cmpi .slt c1024_i32_7 c0_i32_11
  let v34 : BitVec 32 := Scalar.extui v33
  let v35 : BitVec 32 := Scalar.subi v32 v34
  let v36 : BitVec 1 := Scalar.cmpi .ne v30 v35
  let v37 : BitVec 32 := Scalar.remsi v24 c1024_i32_7
  let c0_i32_12 : BitVec 32 := 0#32
  let v38 : BitVec 1 := Scalar.cmpi .ne v37 c0_i32_12
  let v39 : BitVec 1 := Scalar.andi v36 v38
  let c1_i32_13 : BitVec 32 := 1#32
  let v40 : BitVec 32 := Scalar.subi v25 c1_i32_13
  let v41 : BitVec 32 := Scalar.select v39 v40 v25
  let c1_i32_14 : BitVec 32 := 1#32
  let v42 : BitVec 32 := Scalar.subi v41 c1_i32_14
  let v43 : BitVec 32 := Scalar.minsi arg1 v42
  let c0_i32_15 : BitVec 32 := 0#32
  let c0_i32_16 : BitVec 32 := 0#32
  ![arg0.toNat, c0_i32_15.toNat, v43.toNat]

def cc0_transform_3 (k0_off1_inb : ∀ i : grid0.Coords, ∀ a, (k0_off1 i) a + S1.size a ≤ S4.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 1 (Rect.unit (s := S4) ![v0.toNat] S1.size (k0_off1_inb i)) numel1_S1
  let c2048_i32 : BitVec 32 := 2048#32
  let v2 : BitVec 32 := Scalar.addi v1 c2048_i32
  let c1_i32 : BitVec 32 := 1#32
  let v3 : BitVec 32 := Scalar.subi v2 c1_i32
  let c2048_i32_0 : BitVec 32 := 2048#32
  let v4 : BitVec 32 := Scalar.divsi v3 c2048_i32_0
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c2048_i32_0 c0_i32_2
  let v11 : BitVec 32 := Scalar.extui v10
  let c0_i32_3 : BitVec 32 := 0#32
  let v12 : BitVec 1 := Scalar.cmpi .slt c2048_i32_0 c0_i32_3
  let v13 : BitVec 32 := Scalar.extui v12
  let v14 : BitVec 32 := Scalar.subi v11 v13
  let v15 : BitVec 1 := Scalar.cmpi .ne v9 v14
  let v16 : BitVec 32 := Scalar.remsi v3 c2048_i32_0
  let c0_i32_4 : BitVec 32 := 0#32
  let v17 : BitVec 1 := Scalar.cmpi .ne v16 c0_i32_4
  let v18 : BitVec 1 := Scalar.andi v15 v17
  let c1_i32_5 : BitVec 32 := 1#32
  let v19 : BitVec 32 := Scalar.subi v4 c1_i32_5
  let v20 : BitVec 32 := Scalar.select v18 v19 v4
  let c128_i32 : BitVec 32 := 128#32
  let v21 : BitVec 32 := Scalar.muli v20 c128_i32
  let c16_i32 : BitVec 32 := 16#32
  let v22 : BitVec 32 := Scalar.muli c16_i32 v21
  let c1024_i32 : BitVec 32 := 1024#32
  let v23 : BitVec 32 := Scalar.addi v22 c1024_i32
  let c1_i32_6 : BitVec 32 := 1#32
  let v24 : BitVec 32 := Scalar.subi v23 c1_i32_6
  let c1024_i32_7 : BitVec 32 := 1024#32
  let v25 : BitVec 32 := Scalar.divsi v24 c1024_i32_7
  let c0_i32_8 : BitVec 32 := 0#32
  let v26 : BitVec 1 := Scalar.cmpi .sgt v24 c0_i32_8
  let v27 : BitVec 32 := Scalar.extui v26
  let c0_i32_9 : BitVec 32 := 0#32
  let v28 : BitVec 1 := Scalar.cmpi .slt v24 c0_i32_9
  let v29 : BitVec 32 := Scalar.extui v28
  let v30 : BitVec 32 := Scalar.subi v27 v29
  let c0_i32_10 : BitVec 32 := 0#32
  let v31 : BitVec 1 := Scalar.cmpi .sgt c1024_i32_7 c0_i32_10
  let v32 : BitVec 32 := Scalar.extui v31
  let c0_i32_11 : BitVec 32 := 0#32
  let v33 : BitVec 1 := Scalar.cmpi .slt c1024_i32_7 c0_i32_11
  let v34 : BitVec 32 := Scalar.extui v33
  let v35 : BitVec 32 := Scalar.subi v32 v34
  let v36 : BitVec 1 := Scalar.cmpi .ne v30 v35
  let v37 : BitVec 32 := Scalar.remsi v24 c1024_i32_7
  let c0_i32_12 : BitVec 32 := 0#32
  let v38 : BitVec 1 := Scalar.cmpi .ne v37 c0_i32_12
  let v39 : BitVec 1 := Scalar.andi v36 v38
  let c1_i32_13 : BitVec 32 := 1#32
  let v40 : BitVec 32 := Scalar.subi v25 c1_i32_13
  let v41 : BitVec 32 := Scalar.select v39 v40 v25
  let c1_i32_14 : BitVec 32 := 1#32
  let v42 : BitVec 32 := Scalar.subi v41 c1_i32_14
  let v43 : BitVec 32 := Scalar.minsi arg1 v42
  let c0_i32_15 : BitVec 32 := 0#32
  let c0_i32_16 : BitVec 32 := 0#32
  ![arg0.toNat, c0_i32_15.toNat, v43.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x32x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2x64x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x2x1x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x2x1x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x2x64x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x32x64x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ReferenceIdeal.lean ====
abbrev S4 : Shape := ⟨1, ![4]⟩
abbrev S4x32x131072 : Shape := ⟨3, ![4, 32, 131072]⟩
abbrev S4x2x131072 : Shape := ⟨3, ![4, 2, 131072]⟩
abbrev S4x2x64x4096 : Shape := ⟨4, ![4, 2, 64, 4096]⟩
abbrev S4x2x1x4096 : Shape := ⟨4, ![4, 2, 1, 4096]⟩
abbrev S4x128x131072 : Shape := ⟨3, ![4, 128, 131072]⟩
abbrev S131072 : Shape := ⟨1, ![131072]⟩
abbrev S4x131072 : Shape := ⟨2, ![4, 131072]⟩
abbrev S_ : Shape := ⟨0, ![]⟩
abbrev S4x1 : Shape := ⟨2, ![4, 1]⟩
abbrev S4x1x1x131072 : Shape := ⟨4, ![4, 1, 1, 131072]⟩
abbrev S4x2x64x131072 : Shape := ⟨4, ![4, 2, 64, 131072]⟩
abbrev S4x2x1x131072 : Shape := ⟨4, ![4, 2, 1, 131072]⟩
abbrev S4x2x131072x4096 : Shape := ⟨4, ![4, 2, 131072, 4096]⟩
abbrev S4x1x131072x1 : Shape := ⟨4, ![4, 1, 131072, 1]⟩
abbrev S4x2x4096 : Shape := ⟨3, ![4, 2, 4096]⟩
abbrev S256 : Shape := ⟨1, ![256]⟩
abbrev S16 : Shape := ⟨1, ![16]⟩
abbrev S1x16x1 : Shape := ⟨3, ![1, 16, 1]⟩
abbrev S4x1x1 : Shape := ⟨3, ![4, 1, 1]⟩
abbrev S4x16x1 : Shape := ⟨3, ![4, 16, 1]⟩
abbrev S1x1x256 : Shape := ⟨3, ![1, 1, 256]⟩
abbrev S4x16x256 : Shape := ⟨3, ![4, 16, 256]⟩
abbrev S4x2x64x1x4096 : Shape := ⟨5, ![4, 2, 64, 1, 4096]⟩
abbrev S4x1x1x16x256 : Shape := ⟨5, ![4, 1, 1, 16, 256]⟩
abbrev S4x16x256x1 : Shape := ⟨4, ![4, 16, 256, 1]⟩
abbrev S4x2x64x16x256 : Shape := ⟨5, ![4, 2, 64, 16, 256]⟩
abbrev S4x2x16x64x256 : Shape := ⟨5, ![4, 2, 16, 64, 256]⟩
abbrev S4x32x64x256 : Shape := ⟨4, ![4, 32, 64, 256]⟩
abbrev S4x1x1x1 : Shape := ⟨4, ![4, 1, 1, 1]⟩
abbrev S1x1x1x256 : Shape := ⟨4, ![1, 1, 1, 256]⟩
abbrev S4x1x1x256 : Shape := ⟨4, ![4, 1, 1, 256]⟩

abbrev nBuf : Space → Nat
  | .hbm => 149
  | .vmem => 4
  | .smem => 0
  | _ => 0

abbrev hbmTy0_0 (i : Nat) : BufTy := match i % 128 with
  | 0 => ⟨S4, .i32⟩
  | 1 => ⟨S4, .i32⟩
  | 2 => ⟨S4x32x131072, .i32⟩
  | 3 => ⟨S4x32x131072, .i32⟩
  | 4 => ⟨S4x2x131072, .f32⟩
  | 5 => ⟨S4x2x131072, .f32⟩
  | 6 => ⟨S4x2x64x4096, .bf16⟩
  | 7 => ⟨S4x2x1x4096, .f32⟩
  | 8 => ⟨S4x2x1x4096, .f32⟩
  | 9 => ⟨S4x2x64x4096, .f32⟩
  | 10 => ⟨S4x128x131072, .f32⟩
  | 11 => ⟨S4x128x131072, .f32⟩
  | 12 => ⟨S131072, .i32⟩
  | 13 => ⟨S4x131072, .i32⟩
  | 14 => ⟨S_, .i32⟩
  | 15 => ⟨S4, .i32⟩
  | 16 => ⟨S4, .i32⟩
  | 17 => ⟨S_, .i32⟩
  | 18 => ⟨S4, .i32⟩
  | 19 => ⟨S4, .i32⟩
  | 20 => ⟨S_, .i32⟩
  | 21 => ⟨S4, .i32⟩
  | 22 => ⟨S4, .i32⟩
  | 23 => ⟨S_, .i32⟩
  | 24 => ⟨S4, .i32⟩
  | 25 => ⟨S4, .i32⟩
  | 26 => ⟨S4x1, .i32⟩
  | 27 => ⟨S4x131072, .i32⟩
  | 28 => ⟨S4x131072, .i32⟩
  | 29 => ⟨S4x131072, .i32⟩
  | 30 => ⟨S_, .i32⟩
  | 31 => ⟨S4x131072, .i32⟩
  | 32 => ⟨S4x131072, .i1⟩
  | 33 => ⟨S_, .i32⟩
  | 34 => ⟨S4x131072, .i32⟩
  | 35 => ⟨S4x131072, .i32⟩
  | 36 => ⟨S4x131072, .i32⟩
  | 37 => ⟨S4x1, .i32⟩
  | 38 => ⟨S4x131072, .i32⟩
  | 39 => ⟨S4x131072, .i1⟩
  | 40 => ⟨S4x131072, .i1⟩
  | 41 => ⟨S_, .i32⟩
  | 42 => ⟨S4x131072, .i32⟩
  | 43 => ⟨S4x131072, .i32⟩
  | 44 => ⟨S4x131072, .i1⟩
  | 45 => ⟨S4x1x1x131072, .i1⟩
  | 46 => ⟨S4x2x64x131072, .f32⟩
  | 47 => ⟨S4x2x1x131072, .f32⟩
  | 48 => ⟨S4x2x64x131072, .f32⟩
  | 49 => ⟨S4x2x64x131072, .f32⟩
  | 50 => ⟨S_, .f32⟩
  | 51 => ⟨S_, .f32⟩
  | 52 => ⟨S4x2x64x131072, .i1⟩
  | 53 => ⟨S4x2x64x131072, .f32⟩
  | 54 => ⟨S4x2x64x131072, .f32⟩
  | 55 => ⟨S4x2x64x131072, .bf16⟩
  | 56 => ⟨S4x1x1x131072, .i1⟩
  | 57 => ⟨S4x2x64x131072, .f32⟩
  | 58 => ⟨S4x2x1x131072, .f32⟩
  | 59 => ⟨S4x2x64x131072, .f32⟩
  | 60 => ⟨S4x2x64x131072, .f32⟩
  | 61 => ⟨S_, .f32⟩
  | 62 => ⟨S_, .f32⟩
  | 63 => ⟨S4x2x64x131072, .i1⟩
  | 64 => ⟨S4x2x64x131072, .f32⟩
  | 65 => ⟨S4x2x64x131072, .f32⟩
  | 66 => ⟨S4x2x64x131072, .bf16⟩
  | 67 => ⟨S4x2x131072x4096, .f32⟩
  | 68 => ⟨S4x1x131072x1, .i1⟩
  | 69 => ⟨S_, .f32⟩
  | 70 => ⟨S_, .f32⟩
  | 71 => ⟨S4x2x131072x4096, .i1⟩
  | 72 => ⟨S4x2x131072x4096, .f32⟩
  | 73 => ⟨S4x2x131072x4096, .f32⟩
  | 74 => ⟨S4x1x131072x1, .i1⟩
  | 75 => ⟨S_, .f32⟩
  | 76 => ⟨S_, .f32⟩
  | 77 => ⟨S4x2x131072x4096, .i1⟩
  | 78 => ⟨S4x2x131072x4096, .f32⟩
  | 79 => ⟨S4x2x131072x4096, .f32⟩
  | 80 => ⟨S_, .f32⟩
  | 81 => ⟨S4x2x4096, .f32⟩
  | 82 => ⟨S4x2x1x4096, .f32⟩
  | 83 => ⟨S4x2x1x4096, .f32⟩
  | 84 => ⟨S4x2x131072x4096, .f32⟩
  | 85 => ⟨S4x2x131072x4096, .f32⟩
  | 86 => ⟨S4x2x131072x4096, .f32⟩
  | 87 => ⟨S4x2x1x4096, .f32⟩
  | 88 => ⟨S4x2x1x4096, .f32⟩
  | 89 => ⟨S4x2x1x4096, .f32⟩
  | 90 => ⟨S_, .f32⟩
  | 91 => ⟨S4x2x4096, .f32⟩
  | 92 => ⟨S4x2x1x4096, .f32⟩
  | 93 => ⟨S4x2x1x4096, .f32⟩
  | 94 => ⟨S4x2x64x4096, .f32⟩
  | 95 => ⟨S4x2x64x4096, .f32⟩
  | 96 => ⟨S4x2x131072x4096, .bf16⟩
  | 97 => ⟨S4x2x64x4096, .f32⟩
  | 98 => ⟨S4x2x64x4096, .f32⟩
  | 99 => ⟨S_, .f32⟩
  | 100 => ⟨S4x2x1x4096, .f32⟩
  | 101 => ⟨S4x2x1x4096, .f32⟩
  | 102 => ⟨S4x2x64x4096, .f32⟩
  | 103 => ⟨S4x2x64x4096, .f32⟩
  | 104 => ⟨S_, .i32⟩
  | 105 => ⟨S4, .i32⟩
  | 106 => ⟨S4, .i32⟩
  | 107 => ⟨S_, .i32⟩
  | 108 => ⟨S4, .i32⟩
  | 109 => ⟨S4, .i32⟩
  | 110 => ⟨S_, .i32⟩
  | 111 => ⟨S4, .i32⟩
  | 112 => ⟨S4, .i32⟩
  | 113 => ⟨S256, .i32⟩
  | 114 => ⟨S16, .i32⟩
  | 115 => ⟨S1x16x1, .i32⟩
  | 116 => ⟨S4x1x1, .i32⟩
  | 117 => ⟨S4x16x1, .i32⟩
  | 118 => ⟨S4x16x1, .i32⟩
  | 119 => ⟨S4x16x1, .i32⟩
  | 120 => ⟨S1x1x256, .i32⟩
  | 121 => ⟨S4x16x256, .i32⟩
  | 122 => ⟨S4x16x256, .i32⟩
  | 123 => ⟨S4x16x256, .i32⟩
  | 124 => ⟨S4x2x64x1x4096, .f32⟩
  | 125 => ⟨S4x1x1x16x256, .i32⟩
  | 126 => ⟨S_, .i32⟩
  | 127 => ⟨S4x1x1x16x256, .i32⟩
  | _ => ⟨S4, .i32⟩

abbrev hbmTy0_1 (i : Nat) : BufTy := match i % 128 with
  | 0 => ⟨S4x1x1x16x256, .i1⟩
  | 1 => ⟨S_, .i32⟩
  | 2 => ⟨S4x1x1x16x256, .i32⟩
  | 3 => ⟨S4x1x1x16x256, .i32⟩
  | 4 => ⟨S4x1x1x16x256, .i32⟩
  | 5 => ⟨S4x16x256x1, .i32⟩
  | 6 => ⟨S4x2x64x4096, .f32⟩
  | 7 => ⟨S4x2x64x16x256, .f32⟩
  | 8 => ⟨S4x2x16x64x256, .f32⟩
  | 9 => ⟨S4x32x64x256, .f32⟩
  | 10 => ⟨S4x1x1x1, .i32⟩
  | 11 => ⟨S1x1x1x256, .i32⟩
  | 12 => ⟨S4x1x1x256, .i32⟩
  | 13 => ⟨S4x1x1x256, .i32⟩
  | 14 => ⟨S4x1x1x256, .i1⟩
  | 15 => ⟨S_, .f32⟩
  | 16 => ⟨S_, .f32⟩
  | 17 => ⟨S4x32x64x256, .i1⟩
  | 18 => ⟨S4x32x64x256, .f32⟩
  | 19 => ⟨S4x32x64x256, .f32⟩
  | 20 => ⟨S4x32x64x256, .bf16⟩
  | _ => ⟨S4, .i32⟩

abbrev hbmTy (i : Nat) : BufTy := match i / 128 with
  | 0 => hbmTy0_0 i
  | 1 => hbmTy0_1 i
  | _ => ⟨S4, .i32⟩

abbrev bufTy : (tb : Table) → Fin (tcTables nBuf tb) → BufTy
  | .hbm, ⟨i, _⟩ => hbmTy i
  | .local _ .vmem, ⟨0, _⟩ => ⟨S4x32x131072, .i32⟩
  | .local _ .vmem, ⟨1, _⟩ => ⟨S4x32x131072, .i32⟩
  | .local _ .vmem, ⟨2, _⟩ => ⟨S4x128x131072, .f32⟩
  | .local _ .vmem, ⟨3, _⟩ => ⟨S4x128x131072, .f32⟩
  | _, _ => ⟨S4, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v1 : Ref sig .tc := ⟨.hbm, 12, rfl⟩
abbrev main_v2 : Ref sig .tc := ⟨.hbm, 13, rfl⟩
abbrev main_c : Ref sig .tc := ⟨.hbm, 14, rfl⟩
abbrev main_v3 : Ref sig .tc := ⟨.hbm, 15, rfl⟩
abbrev main_v4 : Ref sig .tc := ⟨.hbm, 16, rfl⟩
abbrev main_c_0 : Ref sig .tc := ⟨.hbm, 17, rfl⟩
abbrev main_v5 : Ref sig .tc := ⟨.hbm, 18, rfl⟩
abbrev main_v6 : Ref sig .tc := ⟨.hbm, 19, rfl⟩
abbrev main_c_1 : Ref sig .tc := ⟨.hbm, 20, rfl⟩
abbrev main_v7 : Ref sig .tc := ⟨.hbm, 21, rfl⟩
abbrev main_v8 : Ref sig .tc := ⟨.hbm, 22, rfl⟩
abbrev main_c_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_c_3 : Ref sig .tc := ⟨.hbm, 30, rfl⟩
abbrev main_v15 : Ref sig .tc := ⟨.hbm, 31, rfl⟩
abbrev main_v16 : Ref sig .tc := ⟨.hbm, 32, rfl⟩
abbrev main_c_4 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst : Ref sig .tc := ⟨.hbm, 50, rfl⟩
abbrev main_call0_v0 : Ref sig .tc := ⟨.hbm, 51, rfl⟩
abbrev main_call0_v1 : Ref sig .tc := ⟨.hbm, 52, rfl⟩
abbrev main_call0_v2 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_6 : Ref sig .tc := ⟨.hbm, 61, rfl⟩
abbrev main_call1_v0 : Ref sig .tc := ⟨.hbm, 62, rfl⟩
abbrev main_call1_v1 : Ref sig .tc := ⟨.hbm, 63, rfl⟩
abbrev main_call1_v2 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_cst_7 : Ref sig .tc := ⟨.hbm, 69, rfl⟩
abbrev main_call2_v0 : Ref sig .tc := ⟨.hbm, 70, rfl⟩
abbrev main_call2_v1 : Ref sig .tc := ⟨.hbm, 71, rfl⟩
abbrev main_call2_v2 : Ref sig .tc := ⟨.hbm, 72, rfl⟩
abbrev main_v43 : Ref sig .tc := ⟨.hbm, 73, rfl⟩
abbrev main_v44 : Ref sig .tc := ⟨.hbm, 74, rfl⟩
abbrev main_cst_8 : Ref sig .tc := ⟨.hbm, 75, rfl⟩
abbrev main_call3_v0 : Ref sig .tc := ⟨.hbm, 76, rfl⟩
abbrev main_call3_v1 : Ref sig .tc := ⟨.hbm, 77, rfl⟩
abbrev main_call3_v2 : Ref sig .tc := ⟨.hbm, 78, rfl⟩
abbrev main_v45 : Ref sig .tc := ⟨.hbm, 79, rfl⟩
abbrev main_cst_9 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_cst_10 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_cst_11 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_c_12 : Ref sig .tc := ⟨.hbm, 104, rfl⟩
abbrev main_v67 : Ref sig .tc := ⟨.hbm, 105, rfl⟩
abbrev main_v68 : Ref sig .tc := ⟨.hbm, 106, rfl⟩
abbrev main_c_13 : Ref sig .tc := ⟨.hbm, 107, rfl⟩
abbrev main_v69 : Ref sig .tc := ⟨.hbm, 108, rfl⟩
abbrev main_v70 : Ref sig .tc := ⟨.hbm, 109, rfl⟩
abbrev main_c_14 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_call4_c : Ref sig .tc := ⟨.hbm, 126, rfl⟩
abbrev main_call4_v0 : Ref sig .tc := ⟨.hbm, 127, rfl⟩
abbrev main_call4_v1 : Ref sig .tc := ⟨.hbm, 128, rfl⟩
abbrev main_call4_c_0 : Ref sig .tc := ⟨.hbm, 129, rfl⟩
abbrev main_call4_v2 : Ref sig .tc := ⟨.hbm, 130, rfl⟩
abbrev main_call4_v3 : Ref sig .tc := ⟨.hbm, 131, rfl⟩
abbrev main_call4_v4 : Ref sig .tc := ⟨.hbm, 132, rfl⟩
abbrev main_call4_v5 : Ref sig .tc := ⟨.hbm, 133, rfl⟩
abbrev main_call4_v6 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_v89 : Ref sig .tc := ⟨.hbm, 138, rfl⟩
abbrev main_v90 : Ref sig .tc := ⟨.hbm, 139, rfl⟩
abbrev main_v91 : Ref sig .tc := ⟨.hbm, 140, rfl⟩
abbrev main_v92 : Ref sig .tc := ⟨.hbm, 141, rfl⟩
abbrev main_v93 : Ref sig .tc := ⟨.hbm, 142, rfl⟩
abbrev main_cst_15 : Ref sig .tc := ⟨.hbm, 143, rfl⟩
abbrev main_call5_v0 : Ref sig .tc := ⟨.hbm, 144, rfl⟩
abbrev main_call5_v1 : Ref sig .tc := ⟨.hbm, 145, rfl⟩
abbrev main_call5_v2 : Ref sig .tc := ⟨.hbm, 146, rfl⟩
abbrev main_v94 : Ref sig .tc := ⟨.hbm, 147, rfl⟩
abbrev main_v95 : Ref sig .tc := ⟨.hbm, 148, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S4x32x131072 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x32x131072 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x128x131072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x128x131072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.Words.lean ====
/- Facts about 32-bit words the two kernels' index arithmetic uses: the rounded-down signed division (`fdiv`) that the
   programs write out as a quotient, a remainder and a correction by one, of a nonnegative word by a positive one, and
   the three words made of it: a sequence's page count, its chunk count and the padded query count. -/
module

public import Idealize.ShloMosaic.Lib.Affine

@[expose] public section

namespace Cert.Words

open Idealize.ShloMosaic

/-- Signed division rounded down, as the programs write it. -/
abbrev fdiv (x d : BitVec 32) : BitVec 32 :=
  Scalar.select (Scalar.andi
      (Scalar.cmpi .ne (Scalar.subi (Scalar.extui (Scalar.cmpi .sgt x 0#32)) (Scalar.extui (Scalar.cmpi .slt x 0#32)))
        (Scalar.subi (Scalar.extui (Scalar.cmpi .sgt d 0#32)) (Scalar.extui (Scalar.cmpi .slt d 0#32))))
      (Scalar.cmpi .ne (Scalar.remsi x d) 0#32))
    (Scalar.subi (Scalar.divsi x d) 1#32) (Scalar.divsi x d)

theorem toInt_of_lt {x : BitVec 32} (hx : x.toNat < 2 ^ 31) : x.toInt = x.toNat := by
  rw [BitVec.toInt_eq_toNat_cond]; split <;> omega

theorem msb_of_lt {x : BitVec 32} (hx : x.toNat < 2 ^ 31) : x.msb = false := by
  rw [BitVec.msb_eq_false_iff_two_mul_lt]; omega

theorem divsi_toNat {x d : BitVec 32} (hx : x.toNat < 2 ^ 31) (hd0 : 0 < d.toNat) (hd : d.toNat < 2 ^ 31) :
    (Scalar.divsi x d).toNat = x.toNat / d.toNat := by
  have hc : ¬IntOp.SDivCorner x d := by
    rintro (h | ⟨-, h⟩)
    · subst h; simp at hd0
    · subst h; revert hd; decide
  rw [Scalar.divsi, IntOp.divsi, if_neg hc, BitVec.sdiv_eq, msb_of_lt hx, msb_of_lt hd]
  simp

theorem fdiv_toNat {x d : BitVec 32} (hx : x.toNat < 2 ^ 31) (hd0 : 0 < d.toNat) (hd : d.toNat < 2 ^ 31) :
    (fdiv x d).toNat = x.toNat / d.toNat := by
  have hc : ¬IntOp.SDivCorner x d := by
    rintro (h | ⟨-, h⟩)
    · subst h; simp at hd0
    · subst h; revert hd; decide
  have hdi : d.toInt = d.toNat := toInt_of_lt hd
  have hxi : x.toInt = x.toNat := toInt_of_lt hx
  have h0 : (0#32).toInt = 0 := by decide
  have e2 : Scalar.cmpi .sgt d 0#32 = 1#1 := by
    simp only [Scalar.cmpi, IntOp.cmpi, BitVec.slt, h0, hdi]
    rw [show decide ((0 : Int) < (d.toNat : Int)) = true from by simp; omega]; rfl
  have e3 : Scalar.cmpi .slt d 0#32 = 0#1 := by
    simp only [Scalar.cmpi, IntOp.cmpi, BitVec.slt, h0, hdi]
    rw [show decide ((d.toNat : Int) < 0) = false from by simp]; rfl
  have e4 : Scalar.cmpi .slt x 0#32 = 0#1 := by
    simp only [Scalar.cmpi, IntOp.cmpi, BitVec.slt, h0, hxi]
    rw [show decide ((x.toNat : Int) < 0) = false from by simp]; rfl
  unfold fdiv
  rw [e2, e3, e4]
  by_cases hz : x.toNat = 0
  · have hx0 : x = 0#32 := BitVec.eq_of_toNat_eq (by simpa using hz)
    have hr : Scalar.remsi x d = 0#32 := by
      rw [Scalar.remsi, IntOp.remsi, if_neg hc, hx0]; exact BitVec.zero_srem
    rw [hr]
    have : Scalar.andi (Scalar.cmpi .ne (Scalar.subi (Scalar.extui (Scalar.cmpi .sgt x 0#32)) (Scalar.extui 0#1))
        (Scalar.subi (Scalar.extui 1#1) (Scalar.extui 0#1))) (Scalar.cmpi .ne 0#32 0#32) = 0#1 := by
      rw [hx0]; decide
    rw [this, Scalar.select, if_neg (by decide)]
    exact divsi_toNat hx hd0 hd
  · have e5 : Scalar.cmpi .sgt x 0#32 = 1#1 := by
      simp only [Scalar.cmpi, IntOp.cmpi, BitVec.slt, h0, hxi]
      rw [show decide ((0 : Int) < (x.toNat : Int)) = true from by simp; omega]; rfl
    rw [e5, show ∀ y : BitVec 1, Scalar.andi (Scalar.cmpi .ne (Scalar.subi (Scalar.extui 1#1) (Scalar.extui 0#1))
        (Scalar.subi (Scalar.extui 1#1) (Scalar.extui 0#1))) y = 0#1 from by decide, Scalar.select, if_neg (by decide)]
    exact divsi_toNat hx hd0 hd

/-- The page count of a sequence of `v` cached tokens: in whole groups of 128 pages of 16 tokens. -/
abbrev pages (v : BitVec 32) : BitVec 32 :=
  Scalar.muli (fdiv (Scalar.subi (Scalar.addi v 2048#32) 1#32) 2048#32) 128#32

/-- The number of chunks of 1024 columns its pages' tokens fill. -/
abbrev chunks (v : BitVec 32) : BitVec 32 :=
  fdiv (Scalar.subi (Scalar.addi (Scalar.muli 16#32 (pages v)) 1024#32) 1#32) 1024#32

/-- The queries padded to a multiple of 16. -/
abbrev padded (q : BitVec 32) : BitVec 32 := Scalar.muli (fdiv (Scalar.addi q 15#32) 16#32) 16#32

theorem pages_toNat {v : BitVec 32} (h1 : 1 ≤ v.toNat) (h2 : v.toNat ≤ 131072) :
    (pages v).toNat = (v.toNat + 2047) / 2048 * 128 := by
  have e : (Scalar.subi (Scalar.addi v 2048#32) 1#32).toNat = v.toNat + 2047 := by
    simp only [Scalar.subi, Scalar.addi, IntOp.subi, IntOp.addi, BitVec.toNat_sub, BitVec.toNat_add, BitVec.toNat_ofNat]; omega
  have f : (fdiv (Scalar.subi (Scalar.addi v 2048#32) 1#32) 2048#32).toNat = (v.toNat + 2047) / 2048 := by
    rw [fdiv_toNat (by rw [e]; omega) (by decide) (by decide), e]; rfl
  rw [pages, Scalar.muli, IntOp.muli, BitVec.toNat_mul, f, BitVec.toNat_ofNat]; omega

theorem chunks_toNat {v : BitVec 32} (h1 : 1 ≤ v.toNat) (h2 : v.toNat ≤ 131072) :
    (chunks v).toNat = (v.toNat + 2047) / 2048 * 2 := by
  have e : (Scalar.subi (Scalar.addi (Scalar.muli 16#32 (pages v)) 1024#32) 1#32).toNat = (v.toNat + 2047) / 2048 * 2048 + 1023 := by
    have := pages_toNat h1 h2
    generalize pages v = n at this
    simp only [Scalar.subi, Scalar.addi, Scalar.muli, IntOp.subi, IntOp.addi, IntOp.muli, BitVec.toNat_sub, BitVec.toNat_add,
      BitVec.toNat_mul, BitVec.toNat_ofNat]
    omega
  rw [chunks, fdiv_toNat (by rw [e]; omega) (by decide) (by decide), e]
  show _ / 1024 = _
  omega

theorem padded_toNat {q : BitVec 32} (h : q.toNat ≤ 256) : (padded q).toNat = (q.toNat + 15) / 16 * 16 := by
  have e : (Scalar.addi q 15#32).toNat = q.toNat + 15 := by
    simp only [Scalar.addi, IntOp.addi, BitVec.toNat_add, BitVec.toNat_ofNat]; omega
  have f : (fdiv (Scalar.addi q 15#32) 16#32).toNat = (q.toNat + 15) / 16 := by
    rw [fdiv_toNat (by rw [e]; omega) (by decide) (by decide), e]; rfl
  rw [padded, Scalar.muli, IntOp.muli, BitVec.toNat_mul, f, BitVec.toNat_ofNat]; omega

/-- The chunk a point reads: its own, or the last one. -/
theorem minsi_toNat {c n : BitVec 32} (hc : c.toNat < 2 ^ 31) (hn1 : 1 ≤ n.toNat) (hn : n.toNat < 2 ^ 31) :
    (Scalar.minsi c (Scalar.subi n 1#32)).toNat = min c.toNat (n.toNat - 1) := by
  have e : (Scalar.subi n 1#32).toNat = n.toNat - 1 := by
    simp only [Scalar.subi, IntOp.subi, BitVec.toNat_sub, BitVec.toNat_ofNat]; omega
  rw [Scalar.minsi, IntOp.minsi, BitVec.slt, toInt_of_lt hc, toInt_of_lt (by rw [e]; omega), e]
  by_cases h : c.toNat < n.toNat - 1
  · rw [if_pos (by simp; omega)]; omega
  · rw [if_neg (by simp; omega), e]; omega

/-- A counted loop's variable from 0 by 1, as the programs write it. -/
theorem iv_toNat {k : Nat} (h : k < 2 ^ 20) : (Scalar.addi 0#32 (Scalar.muli (Scf.iv 0#32 1#32 k) 1#32)).toNat = k := by
  simp only [Scalar.addi, Scalar.muli, IntOp.addi, IntOp.muli, Scf.iv, BitVec.toNat_add, BitVec.toNat_mul, BitVec.toNat_ofNat]
  omega

/-- The first column of column block `k`. -/
theorem block_toNat {k : Nat} (h : k < 2 ^ 20) :
    (Scalar.muli (Scalar.addi 0#32 (Scalar.muli (Scf.iv 0#32 1#32 k) 1#32)) 256#32).toNat = 256 * k := by
  have := iv_toNat h
  generalize Scalar.addi 0#32 (Scalar.muli (Scf.iv 0#32 1#32 k) 1#32) = x at this
  simp only [Scalar.muli, IntOp.muli, BitVec.toNat_mul, BitVec.toNat_ofNat]
  omega

/-- The first column of head `g` of a group. -/
theorem start_toNat {q : BitVec 32} (hq : q.toNat ≤ 256) {g : Nat} (hg : g < 16) :
    (Scalar.muli (Scalar.addi 0#32 (Scalar.muli (Scf.iv 0#32 1#32 g) 1#32)) (padded q)).toNat = g * ((q.toNat + 15) / 16 * 16) := by
  have e := iv_toNat (k := g) (by omega)
  have f := padded_toNat hq
  generalize Scalar.addi 0#32 (Scalar.muli (Scf.iv 0#32 1#32 g) 1#32) = x at e
  generalize padded q = y at f
  have : g * ((q.toNat + 15) / 16 * 16) ≤ 15 * 256 := Nat.mul_le_mul (by omega) (by omega)
  simp only [Scalar.muli, IntOp.muli, BitVec.toNat_mul]
  rw [e, f]; omega

/-- The same, rounded down to a multiple of 128. -/
theorem base_toNat {q : BitVec 32} (hq : q.toNat ≤ 256) {g : Nat} (hg : g < 16) :
    (Scalar.muli (fdiv (Scalar.muli (Scalar.addi 0#32 (Scalar.muli (Scf.iv 0#32 1#32 g) 1#32)) (padded q)) 128#32) 128#32).toNat
      = g * ((q.toNat + 15) / 16 * 16) / 128 * 128 := by
  have e := start_toNat hq hg
  have : g * ((q.toNat + 15) / 16 * 16) ≤ 15 * 256 := Nat.mul_le_mul (by omega) (by omega)
  generalize Scalar.muli (Scalar.addi 0#32 (Scalar.muli (Scf.iv 0#32 1#32 g) 1#32)) (padded q) = x at e
  have f : (fdiv x 128#32).toNat = g * ((q.toNat + 15) / 16 * 16) / 128 := by
    rw [fdiv_toNat (by rw [e]; omega) (by decide) (by decide), e]; rfl
  rw [Scalar.muli, IntOp.muli, BitVec.toNat_mul, f, BitVec.toNat_ofNat]; omega

/-- The bound of the loop over column blocks, as the programs write it, is the number of blocks. -/
abbrev blocks (q : BitVec 32) : BitVec 32 :=
  Scalar.divsi (Scalar.addi (Scalar.subi (fdiv (padded q) 16#32) 0#32) (Scalar.subi 1#32 1#32)) 1#32

theorem blocks_eq : ∀ q : Fin 257, blocks (BitVec.ofNat 32 q) = BitVec.ofNat 32 ((q.val + 15) / 16) := by decide +kernel

end Cert.Words
-- ==== Proof.Hyps.lean ====
/- The precondition `lens_fit` gives the side conditions the frame of `Kernel` stands under: every window's block
   lies inside its array (`Gen.Ok`), and the offsets the body computes from the two prefetched words lie inside the
   buffers (`Gen.Hyps`). -/
module

public import proofs.«01_k».proof.Defs
public import proofs.«01_k».proof.Proof.Words
public import proofs.«01_k».proof.Proof.Gen.Kernel.Frame.Runs
public import proofs.«01_k».proof.Proof.Gen.Pre_lens_fit
public import Idealize.ShloMosaic.Lib.LoopRemainder
public import Idealize.ShloMosaic.Lib.Pointwise.Index

@[expose] public section

set_option maxRecDepth 16384

namespace Cert.Kernel.Hyp

open Cert.Kernel Cert.Kernel.Gen Cert.Words
open Idealize.ShloMosaic Idealize.ShloMosaic.TcCoe

/-- The lengths the precondition allows, word by word. -/
structure Fits (q cl : BitVec 32) : Prop where
  q_le : q.toNat ≤ 256
  one_le : 1 ≤ cl.toNat
  cl_le : cl.toNat ≤ 131072

theorem fits_of_words {q cl : BitVec 32} (h : IntOp.andi (IntOp.andi (IntOp.andi (IntOp.cmpi .sge q 0#32) (IntOp.cmpi .sle q 256#32))
    (IntOp.cmpi .sge cl 1#32)) (IntOp.cmpi .sle cl 131072#32) = 1#1) : Fits q cl := by
  have andi_one (a b : BitVec 1) : IntOp.andi a b = 1#1 ↔ a = 1#1 ∧ b = 1#1 := by revert a b; decide
  have ofBool_eq_one (p : Bool) : (BitVec.ofBool p = 1#1) ↔ p = true := by cases p <;> decide
  simp only [andi_one, ofBool_eq_one, IntOp.cmpi, BitVec.sle, decide_eq_true_eq] at h
  obtain ⟨⟨⟨h1, h2⟩, h3⟩, h4⟩ := h
  have e0 : (0#32).toInt = 0 := by decide
  have e1 : (1#32).toInt = 1 := by decide
  have e2 : (256#32).toInt = 256 := by decide
  have e3 : (131072#32).toInt = 131072 := by decide
  rw [e0] at h1; rw [e2] at h2; rw [e1] at h3; rw [e3] at h4
  rw [BitVec.toInt_eq_toNat_cond] at h1 h2 h3 h4
  constructor <;> (split at h1 <;> split at h3 <;> omega)

theorem t1_trips {q : BitVec 32} (hq : q.toNat ≤ 256) : (k0_t1_loop q).trips = (q.toNat + 15) / 16 ∧ (k0_t1_loop q).OK :=
  (by decide +kernel : ∀ q : Fin 257, (k0_t1_loop (BitVec.ofNat 32 q)).trips = (q.val + 15) / 16 ∧ (k0_t1_loop (BitVec.ofNat 32 q)).OK)
    ⟨q.toNat, by omega⟩ |> fun h => by simpa using h

theorem t3_trips {q : BitVec 32} (hq : q.toNat ≤ 256) : (k0_t3_loop q).trips = (q.toNat + 15) / 16 ∧ (k0_t3_loop q).OK :=
  t1_trips hq

theorem t2_trips {q : BitVec 32} : (k0_t2_loop q).trips = 0 ∧ (k0_t2_loop q).OK := ⟨Scf.rem_trips _ _, Scf.rem_ok _ _⟩

theorem t4_trips {q : BitVec 32} : (k0_t4_loop q).trips = 0 ∧ (k0_t4_loop q).OK := ⟨Scf.rem_trips _ _, Scf.rem_ok _ _⟩

theorem chk1 (i : grid0.Coords) {q cl : BitVec 32} (hq : q.toNat ≤ 256) : k0_chk1 i q cl := by
  have h1 : ∀ t : Fin (k0_t1_loop q).trips, t.val < 16 := fun t => by
    have := Nat.lt_of_lt_of_eq t.isLt (t1_trips hq).1; omega
  have h3 : ∀ t : Fin (k0_t3_loop q).trips, t.val < 16 := fun t => by
    have := Nat.lt_of_lt_of_eq t.isLt (t3_trips hq).1; omega
  have n2 : ∀ t : Fin (k0_t2_loop q).trips, False := fun t => by
    have := Nat.lt_of_lt_of_eq t.isLt t2_trips.1; omega
  have n4 : ∀ t : Fin (k0_t4_loop q).trips, False := fun t => by
    have := Nat.lt_of_lt_of_eq t.isLt t4_trips.1; omega
  have e : ∀ k : Nat, k < 16 → (Scalar.muli (Scalar.addi 0#32 (Scalar.muli (Scf.iv 0#32 1#32 k) 1#32)) 256#32).toNat = 256 * k :=
    fun k hk => block_toNat (by omega)
  refine ⟨fun _ => (t1_trips hq).2, fun t _ => ?_, fun t _ a => ?_, fun t _ a => ?_, fun t _ a => ?_,
    fun _ => t2_trips.2, fun t => (n2 t).elim, fun t => (n2 t).elim, fun t => (n2 t).elim, fun t => (n2 t).elim,
    fun _ => (t3_trips hq).2, fun t _ => ?_, fun t _ a => ?_, fun t _ a => ?_, fun t _ a => ?_,
    fun _ => t4_trips.2, fun t => (n4 t).elim, fun t => (n4 t).elim, fun t => (n4 t).elim, fun t => (n4 t).elim⟩
  · exact ⟨_, e t (h1 t)⟩
  · have e' := e t (h1 t); have := h1 t
    fin_cases a
    · show 0 + 1 ≤ 1; omega
    · show 0 + 1 ≤ 2; omega
    · show 0 + 64 ≤ 64; omega
    · show (Scalar.muli (Scalar.addi 0#32 (Scalar.muli (Scf.iv 0#32 1#32 t) 1#32)) 256#32).toNat + 256 ≤ 4096; omega
  · have e' := e t (h1 t); have := h1 t
    fin_cases a
    · show 0 + 1 ≤ 2; omega
    · show 0 + 1 ≤ 1; omega
    · show (Scalar.muli (Scalar.addi 0#32 (Scalar.muli (Scf.iv 0#32 1#32 t) 1#32)) 256#32).toNat + 256 ≤ 4096; omega
  · have e' := e t (h1 t); have := h1 t
    fin_cases a
    · show 0 + 1 ≤ 2; omega
    · show 0 + 64 ≤ 64; omega
    · show (Scalar.muli (Scalar.addi 0#32 (Scalar.muli (Scf.iv 0#32 1#32 t) 1#32)) 256#32).toNat + 256 ≤ 4352; omega
  · exact ⟨_, e t (h3 t)⟩
  · have e' := e t (h3 t); have := h3 t
    fin_cases a
    · show 0 + 1 ≤ 1; omega
    · show 1 + 1 ≤ 2; omega
    · show 0 + 64 ≤ 64; omega
    · show (Scalar.muli (Scalar.addi 0#32 (Scalar.muli (Scf.iv 0#32 1#32 t) 1#32)) 256#32).toNat + 256 ≤ 4096; omega
  · have e' := e t (h3 t); have := h3 t
    fin_cases a
    · show 1 + 1 ≤ 2; omega
    · show 0 + 1 ≤ 1; omega
    · show (Scalar.muli (Scalar.addi 0#32 (Scalar.muli (Scf.iv 0#32 1#32 t) 1#32)) 256#32).toNat + 256 ≤ 4096; omega
  · have e' := e t (h3 t); have := h3 t
    fin_cases a
    · show 1 + 1 ≤ 2; omega
    · show 0 + 64 ≤ 64; omega
    · show (Scalar.muli (Scalar.addi 0#32 (Scalar.muli (Scf.iv 0#32 1#32 t) 1#32)) 256#32).toNat + 256 ≤ 4352; omega

theorem t5_lt (t : Fin k0_t5_loop.trips) : t.val < 16 := t.isLt.trans_eq (by decide)
theorem t6_lt (t : Fin k0_t6_loop.trips) : t.val < 16 := t.isLt.trans_eq (by decide)

theorem mult5 {q : BitVec 32} (hq : q.toNat ≤ 256) (t : Fin k0_t5_loop.trips) :
    (k0_mult5 q t).toNat = t.val * ((q.toNat + 15) / 16 * 16) / 128 * 128 := base_toNat hq (t5_lt t)
theorem mult6 {q : BitVec 32} (hq : q.toNat ≤ 256) (t : Fin k0_t6_loop.trips) :
    (k0_mult6 q t).toNat = t.val * ((q.toNat + 15) / 16 * 16) / 128 * 128 := base_toNat hq (t6_lt t)

theorem chk2 (i : grid0.Coords) {q : BitVec 32} (hq : q.toNat ≤ 256) : k0_chk2 i q := by
  refine ⟨fun t _ => ⟨_, (mult5 hq t).trans (Nat.mul_comm _ _)⟩, fun t _ a => ?_, fun t _ => ⟨_, (mult6 hq t).trans (Nat.mul_comm _ _)⟩,
    fun t _ a => ?_⟩
  · have e := mult5 hq t; have ht := t5_lt t
    have : t.val * ((q.toNat + 15) / 16 * 16) ≤ 15 * 256 := Nat.mul_le_mul (by omega) (by omega)
    fin_cases a
    · show 0 + 1 ≤ 2; omega
    · show 0 + 64 ≤ 64; omega
    · show (k0_mult5 q t).toNat + 384 ≤ 4352; omega
  · have e := mult6 hq t; have ht := t6_lt t
    have : t.val * ((q.toNat + 15) / 16 * 16) ≤ 15 * 256 := Nat.mul_le_mul (by omega) (by omega)
    fin_cases a
    · show 1 + 1 ≤ 2; omega
    · show 0 + 64 ≤ 64; omega
    · show (k0_mult6 q t).toNat + 384 ≤ 4352; omega

/-- The block column of the four cache windows at a point. -/
theorem chunk_toNat {cl : BitVec 32} (h1 : 1 ≤ cl.toNat) (h2 : cl.toNat ≤ 131072) {c : Nat} (hc : c < 128) :
    (Scalar.minsi (BitVec.ofNat 32 c) (Scalar.subi (chunks cl) 1#32)).toNat = min c ((cl.toNat + 2047) / 2048 * 2 - 1) := by
  have e := chunks_toNat h1 h2
  have hc' : (BitVec.ofNat 32 c).toNat = c := by rw [BitVec.toNat_ofNat]; omega
  rw [minsi_toNat (by rw [hc']; omega) (by rw [e]; omega) (by rw [e]; omega), e, hc']

variable (m : (ℓ : Loc nD τ sig) → Buf (Elt Bits) ℓ)

/-- The two words of sequence `b`. -/
abbrev qword (b : Fin 4) : BitVec 32 := m ((((0 : Dev nD)) : Thread nD τ).loc main_arg0) (ix1 b)
abbrev cword (b : Fin 4) : BitVec 32 := m ((((0 : Dev nD)) : Thread nD τ).loc main_arg1) (ix1 b)

variable (h : Cert.Pre_Kernel m)
include h

theorem fits (b : Fin 4) : Fits (qword m b) (cword m b) := fits_of_words (congrFun (h 0) (ix1 b))

theorem fits_at (w w' : S4.Idx) (hw : (w 0).val = (w' 0).val) :
    Fits (m (((0 : Dev nD) : Thread nD τ).loc main_arg0) w) (m (((0 : Dev nD) : Thread nD τ).loc main_arg1) w') := by
  have e : w' = w := by
    funext a
    obtain rfl : a = 0 := Subsingleton.elim _ _
    exact Fin.ext hw.symm
  rw [e]
  exact fits_of_words (congrFun (h 0) w)

/-- The length word an index map reads at a point of sequence `b` is that sequence's. -/
theorem table_word (i : grid0.Coords) :
    Fits (m (((0 : Dev nD) : Thread nD τ).loc main_arg0) (ix1 (n0 := 4) (i 0)))
      ((tbl m).at 1 (Rect.unit (s := S4) ![(Scalar.indexCast (BitVec.ofNat 32 (i 0).val)).toNat] S1.size (k0_off1_inb i)) numel1_S1) := by
  have hi : (i 0).val < 4 := (i 0).isLt
  refine fits_at m h _ _ ?_
  show (i 0).val = (BitVec.ofNat 32 (i 0).val).toNat + 1 * 0
  rw [BitVec.toNat_ofNat]; omega

/-- The block index of a cache window: the sequence, the whole of the rows, and the point's chunk or, past the last
    gathered chunk, the last one. -/
theorem chunk_le (i : grid0.Coords) : (Scalar.minsi (BitVec.ofNat 32 (i 1).val) (Scalar.subi (chunks ((tbl m).at 1
    (Rect.unit (s := S4) ![(Scalar.indexCast (BitVec.ofNat 32 (i 0).val)).toNat] S1.size (k0_off1_inb i)) numel1_S1)) 1#32)).toNat < 128 := by
  have f := table_word m h i
  have := f.one_le; have := f.cl_le
  have hc : (i 1).val < 128 := (i 1).isLt
  rw [chunk_toNat f.one_le f.cl_le hc]; omega

theorem seq_toNat (i : grid0.Coords) : (BitVec.ofNat 32 (i 0).val).toNat = (i 0).val := by
  have hi : (i 0).val < 4 := (i 0).isLt
  rw [BitVec.toNat_ofNat]; omega

theorem ok_of_pre : Ok m := by
  refine ⟨fun i => ⟨fun a => ?_, .inl rfl⟩, fun i => ⟨fun a => ?_, .inl rfl⟩, fun i => ⟨fun a => ?_, .inl rfl⟩, fun i => ⟨fun a => ?_, .inl rfl⟩⟩ <;>
    (have e := chunk_le m h i; have hi : (i 0).val < 4 := (i 0).isLt; have e0 := seq_toNat m h i; fin_cases a)
  · show ((BitVec.ofNat 32 (i 0).val).toNat + 1) * 1 ≤ 4; omega
  · show (0 + 1) * 32 ≤ 32; omega
  · exact (Nat.mul_le_mul_right 1024 (Nat.succ_le_of_lt e))
  · show ((BitVec.ofNat 32 (i 0).val).toNat + 1) * 1 ≤ 4; omega
  · show (0 + 1) * 32 ≤ 32; omega
  · exact (Nat.mul_le_mul_right 1024 (Nat.succ_le_of_lt e))
  · show ((BitVec.ofNat 32 (i 0).val).toNat + 1) * 1 ≤ 4; omega
  · show (0 + 1) * 2 ≤ 2; omega
  · exact (Nat.mul_le_mul_right 1024 (Nat.succ_le_of_lt e))
  · show ((BitVec.ofNat 32 (i 0).val).toNat + 1) * 1 ≤ 4; omega
  · show (0 + 1) * 2 ≤ 2; omega
  · exact (Nat.mul_le_mul_right 1024 (Nat.succ_le_of_lt e))

theorem hyps_of_pre (hO : Ok m) : Gen.Hyps m hO := by
  intro c t
  exact ⟨chk2 _ (fits_at m h _ _ rfl).q_le, chk1 _ (fits_at m h _ _ rfl).q_le⟩

end Cert.Kernel.Hyp
-- ==== Proof.HypsIdeal.lean ====
/- The precondition `lens_fit` gives the side conditions the frame of `KernelIdeal` stands under: every window's block
   lies inside its array (`Gen.Ok`), and the offsets the body computes from the two prefetched words lie inside the
   buffers (`Gen.Hyps`). -/
module

public import proofs.«01_k».proof.Defs
public import proofs.«01_k».proof.Proof.Words
public import proofs.«01_k».proof.Proof.Gen.KernelIdeal.Frame.Runs
public import proofs.«01_k».proof.Proof.Gen.Pre_lens_fit
public import Idealize.ShloMosaic.Lib.LoopRemainder
public import Idealize.ShloMosaic.Lib.Pointwise.Index

@[expose] public section

set_option maxRecDepth 16384

namespace Cert.KernelIdeal.Hyp

open Cert.KernelIdeal Cert.KernelIdeal.Gen Cert.Words
open Idealize.ShloMosaic Idealize.ShloMosaic.TcCoe

/-- The lengths the precondition allows, word by word. -/
structure Fits (q cl : BitVec 32) : Prop where
  q_le : q.toNat ≤ 256
  one_le : 1 ≤ cl.toNat
  cl_le : cl.toNat ≤ 131072

theorem fits_of_words {q cl : BitVec 32} (h : IntOp.andi (IntOp.andi (IntOp.andi (IntOp.cmpi .sge q 0#32) (IntOp.cmpi .sle q 256#32))
    (IntOp.cmpi .sge cl 1#32)) (IntOp.cmpi .sle cl 131072#32) = 1#1) : Fits q cl := by
  have andi_one (a b : BitVec 1) : IntOp.andi a b = 1#1 ↔ a = 1#1 ∧ b = 1#1 := by revert a b; decide
  have ofBool_eq_one (p : Bool) : (BitVec.ofBool p = 1#1) ↔ p = true := by cases p <;> decide
  simp only [andi_one, ofBool_eq_one, IntOp.cmpi, BitVec.sle, decide_eq_true_eq] at h
  obtain ⟨⟨⟨h1, h2⟩, h3⟩, h4⟩ := h
  have e0 : (0#32).toInt = 0 := by decide
  have e1 : (1#32).toInt = 1 := by decide
  have e2 : (256#32).toInt = 256 := by decide
  have e3 : (131072#32).toInt = 131072 := by decide
  rw [e0] at h1; rw [e2] at h2; rw [e1] at h3; rw [e3] at h4
  rw [BitVec.toInt_eq_toNat_cond] at h1 h2 h3 h4
  constructor <;> (split at h1 <;> split at h3 <;> omega)

theorem t1_trips {q : BitVec 32} (hq : q.toNat ≤ 256) : (k0_t1_loop q).trips = (q.toNat + 15) / 16 ∧ (k0_t1_loop q).OK :=
  (by decide +kernel : ∀ q : Fin 257, (k0_t1_loop (BitVec.ofNat 32 q)).trips = (q.val + 15) / 16 ∧ (k0_t1_loop (BitVec.ofNat 32 q)).OK)
    ⟨q.toNat, by omega⟩ |> fun h => by simpa using h

theorem t3_trips {q : BitVec 32} (hq : q.toNat ≤ 256) : (k0_t3_loop q).trips = (q.toNat + 15) / 16 ∧ (k0_t3_loop q).OK :=
  t1_trips hq

theorem t2_trips {q : BitVec 32} : (k0_t2_loop q).trips = 0 ∧ (k0_t2_loop q).OK := ⟨Scf.rem_trips _ _, Scf.rem_ok _ _⟩

theorem t4_trips {q : BitVec 32} : (k0_t4_loop q).trips = 0 ∧ (k0_t4_loop q).OK := ⟨Scf.rem_trips _ _, Scf.rem_ok _ _⟩

theorem chk1 (i : grid0.Coords) {q cl : BitVec 32} (hq : q.toNat ≤ 256) : k0_chk1 i q cl := by
  have h1 : ∀ t : Fin (k0_t1_loop q).trips, t.val < 16 := fun t => by
    have := Nat.lt_of_lt_of_eq t.isLt (t1_trips hq).1; omega
  have h3 : ∀ t : Fin (k0_t3_loop q).trips, t.val < 16 := fun t => by
    have := Nat.lt_of_lt_of_eq t.isLt (t3_trips hq).1; omega
  have n2 : ∀ t : Fin (k0_t2_loop q).trips, False := fun t => by
    have := Nat.lt_of_lt_of_eq t.isLt t2_trips.1; omega
  have n4 : ∀ t : Fin (k0_t4_loop q).trips, False := fun t => by
    have := Nat.lt_of_lt_of_eq t.isLt t4_trips.1; omega
  have e : ∀ k : Nat, k < 16 → (Scalar.muli (Scalar.addi 0#32 (Scalar.muli (Scf.iv 0#32 1#32 k) 1#32)) 256#32).toNat = 256 * k :=
    fun k hk => block_toNat (by omega)
  refine ⟨fun _ => (t1_trips hq).2, fun t _ => ?_, fun t _ a => ?_, fun t _ a => ?_, fun t _ a => ?_,
    fun _ => t2_trips.2, fun t => (n2 t).elim, fun t => (n2 t).elim, fun t => (n2 t).elim, fun t => (n2 t).elim,
    fun _ => (t3_trips hq).2, fun t _ => ?_, fun t _ a => ?_, fun t _ a => ?_, fun t _ a => ?_,
    fun _ => t4_trips.2, fun t => (n4 t).elim, fun t => (n4 t).elim, fun t => (n4 t).elim, fun t => (n4 t).elim⟩
  · exact ⟨_, e t (h1 t)⟩
  · have e' := e t (h1 t); have := h1 t
    fin_cases a
    · show 0 + 1 ≤ 1; omega
    · show 0 + 1 ≤ 2; omega
    · show 0 + 64 ≤ 64; omega
    · show (Scalar.muli (Scalar.addi 0#32 (Scalar.muli (Scf.iv 0#32 1#32 t) 1#32)) 256#32).toNat + 256 ≤ 4096; omega
  · have e' := e t (h1 t); have := h1 t
    fin_cases a
    · show 0 + 1 ≤ 2; omega
    · show 0 + 1 ≤ 1; omega
    · show (Scalar.muli (Scalar.addi 0#32 (Scalar.muli (Scf.iv 0#32 1#32 t) 1#32)) 256#32).toNat + 256 ≤ 4096; omega
  · have e' := e t (h1 t); have := h1 t
    fin_cases a
    · show 0 + 1 ≤ 2; omega
    · show 0 + 64 ≤ 64; omega
    · show (Scalar.muli (Scalar.addi 0#32 (Scalar.muli (Scf.iv 0#32 1#32 t) 1#32)) 256#32).toNat + 256 ≤ 4352; omega
  · exact ⟨_, e t (h3 t)⟩
  · have e' := e t (h3 t); have := h3 t
    fin_cases a
    · show 0 + 1 ≤ 1; omega
    · show 1 + 1 ≤ 2; omega
    · show 0 + 64 ≤ 64; omega
    · show (Scalar.muli (Scalar.addi 0#32 (Scalar.muli (Scf.iv 0#32 1#32 t) 1#32)) 256#32).toNat + 256 ≤ 4096; omega
  · have e' := e t (h3 t); have := h3 t
    fin_cases a
    · show 1 + 1 ≤ 2; omega
    · show 0 + 1 ≤ 1; omega
    · show (Scalar.muli (Scalar.addi 0#32 (Scalar.muli (Scf.iv 0#32 1#32 t) 1#32)) 256#32).toNat + 256 ≤ 4096; omega
  · have e' := e t (h3 t); have := h3 t
    fin_cases a
    · show 1 + 1 ≤ 2; omega
    · show 0 + 64 ≤ 64; omega
    · show (Scalar.muli (Scalar.addi 0#32 (Scalar.muli (Scf.iv 0#32 1#32 t) 1#32)) 256#32).toNat + 256 ≤ 4352; omega

theorem t5_lt (t : Fin k0_t5_loop.trips) : t.val < 16 := t.isLt.trans_eq (by decide)
theorem t6_lt (t : Fin k0_t6_loop.trips) : t.val < 16 := t.isLt.trans_eq (by decide)

theorem mult5 {q : BitVec 32} (hq : q.toNat ≤ 256) (t : Fin k0_t5_loop.trips) :
    (k0_mult5 q t).toNat = t.val * ((q.toNat + 15) / 16 * 16) / 128 * 128 := base_toNat hq (t5_lt t)
theorem mult6 {q : BitVec 32} (hq : q.toNat ≤ 256) (t : Fin k0_t6_loop.trips) :
    (k0_mult6 q t).toNat = t.val * ((q.toNat + 15) / 16 * 16) / 128 * 128 := base_toNat hq (t6_lt t)

theorem chk2 (i : grid0.Coords) {q : BitVec 32} (hq : q.toNat ≤ 256) : k0_chk2 i q := by
  refine ⟨fun t _ => ⟨_, (mult5 hq t).trans (Nat.mul_comm _ _)⟩, fun t _ a => ?_, fun t _ => ⟨_, (mult6 hq t).trans (Nat.mul_comm _ _)⟩,
    fun t _ a => ?_⟩
  · have e := mult5 hq t; have ht := t5_lt t
    have : t.val * ((q.toNat + 15) / 16 * 16) ≤ 15 * 256 := Nat.mul_le_mul (by omega) (by omega)
    fin_cases a
    · show 0 + 1 ≤ 2; omega
    · show 0 + 64 ≤ 64; omega
    · show (k0_mult5 q t).toNat + 384 ≤ 4352; omega
  · have e := mult6 hq t; have ht := t6_lt t
    have : t.val * ((q.toNat + 15) / 16 * 16) ≤ 15 * 256 := Nat.mul_le_mul (by omega) (by omega)
    fin_cases a
    · show 1 + 1 ≤ 2; omega
    · show 0 + 64 ≤ 64; omega
    · show (k0_mult6 q t).toNat + 384 ≤ 4352; omega

/-- The block column of the four cache windows at a point. -/
theorem chunk_toNat {cl : BitVec 32} (h1 : 1 ≤ cl.toNat) (h2 : cl.toNat ≤ 131072) {c : Nat} (hc : c < 128) :
    (Scalar.minsi (BitVec.ofNat 32 c) (Scalar.subi (chunks cl) 1#32)).toNat = min c ((cl.toNat + 2047) / 2048 * 2 - 1) := by
  have e := chunks_toNat h1 h2
  have hc' : (BitVec.ofNat 32 c).toNat = c := by rw [BitVec.toNat_ofNat]; omega
  rw [minsi_toNat (by rw [hc']; omega) (by rw [e]; omega) (by rw [e]; omega), e, hc']

variable (m : (ℓ : Loc nD τ sig) → Buf (Elt Ideal) ℓ)

/-- The two words of sequence `b`. -/
abbrev qword (b : Fin 4) : BitVec 32 := m ((((0 : Dev nD)) : Thread nD τ).loc main_arg0) (ix1 b)
abbrev cword (b : Fin 4) : BitVec 32 := m ((((0 : Dev nD)) : Thread nD τ).loc main_arg1) (ix1 b)

variable (h : Cert.Pre_KernelIdeal m)
include h

theorem fits (b : Fin 4) : Fits (qword m b) (cword m b) := fits_of_words (congrFun (h 0) (ix1 b))

theorem fits_at (w w' : S4.Idx) (hw : (w 0).val = (w' 0).val) :
    Fits (m (((0 : Dev nD) : Thread nD τ).loc main_arg0) w) (m (((0 : Dev nD) : Thread nD τ).loc main_arg1) w') := by
  have e : w' = w := by
    funext a
    obtain rfl : a = 0 := Subsingleton.elim _ _
    exact Fin.ext hw.symm
  rw [e]
  exact fits_of_words (congrFun (h 0) w)

/-- The length word an index map reads at a point of sequence `b` is that sequence's. -/
theorem table_word (i : grid0.Coords) :
    Fits (m (((0 : Dev nD) : Thread nD τ).loc main_arg0) (ix1 (n0 := 4) (i 0)))
      ((tbl m).at 1 (Rect.unit (s := S4) ![(Scalar.indexCast (BitVec.ofNat 32 (i 0).val)).toNat] S1.size (k0_off1_inb i)) numel1_S1) := by
  have hi : (i 0).val < 4 := (i 0).isLt
  refine fits_at m h _ _ ?_
  show (i 0).val = (BitVec.ofNat 32 (i 0).val).toNat + 1 * 0
  rw [BitVec.toNat_ofNat]; omega

/-- The block index of a cache window: the sequence, the whole of the rows, and the point's chunk or, past the last
    gathered chunk, the last one. -/
theorem chunk_le (i : grid0.Coords) : (Scalar.minsi (BitVec.ofNat 32 (i 1).val) (Scalar.subi (chunks ((tbl m).at 1
    (Rect.unit (s := S4) ![(Scalar.indexCast (BitVec.ofNat 32 (i 0).val)).toNat] S1.size (k0_off1_inb i)) numel1_S1)) 1#32)).toNat < 128 := by
  have f := table_word m h i
  have := f.one_le; have := f.cl_le
  have hc : (i 1).val < 128 := (i 1).isLt
  rw [chunk_toNat f.one_le f.cl_le hc]; omega

theorem seq_toNat (i : grid0.Coords) : (BitVec.ofNat 32 (i 0).val).toNat = (i 0).val := by
  have hi : (i 0).val < 4 := (i 0).isLt
  rw [BitVec.toNat_ofNat]; omega

theorem ok_of_pre : Ok m := by
  refine ⟨fun i => ⟨fun a => ?_, .inl rfl⟩, fun i => ⟨fun a => ?_, .inl rfl⟩, fun i => ⟨fun a => ?_, .inl rfl⟩, fun i => ⟨fun a => ?_, .inl rfl⟩⟩ <;>
    (have e := chunk_le m h i; have hi : (i 0).val < 4 := (i 0).isLt; have e0 := seq_toNat m h i; fin_cases a)
  · show ((BitVec.ofNat 32 (i 0).val).toNat + 1) * 1 ≤ 4; omega
  · show (0 + 1) * 32 ≤ 32; omega
  · exact (Nat.mul_le_mul_right 1024 (Nat.succ_le_of_lt e))
  · show ((BitVec.ofNat 32 (i 0).val).toNat + 1) * 1 ≤ 4; omega
  · show (0 + 1) * 32 ≤ 32; omega
  · exact (Nat.mul_le_mul_right 1024 (Nat.succ_le_of_lt e))
  · show ((BitVec.ofNat 32 (i 0).val).toNat + 1) * 1 ≤ 4; omega
  · show (0 + 1) * 2 ≤ 2; omega
  · exact (Nat.mul_le_mul_right 1024 (Nat.succ_le_of_lt e))
  · show ((BitVec.ofNat 32 (i 0).val).toNat + 1) * 1 ≤ 4; omega
  · show (0 + 1) * 2 ≤ 2; omega
  · exact (Nat.mul_le_mul_right 1024 (Nat.succ_le_of_lt e))

theorem hyps_of_pre (hO : Ok m) : Gen.Hyps m hO := by
  intro c t
  exact ⟨chk2 _ (fits_at m h _ _ rfl).q_le, chk1 _ (fits_at m h _ _ rfl).q_le⟩

end Cert.KernelIdeal.Hyp
-- ==== Proof.Pay.lean ====
/- What one column block of one chunk leaves in the running maximum, denominator and numerator, read at one column. -/
module
public import Idealize.ShloMosaic.Lib.Pointwise
public import proofs.«01_k».proof.Proof.Gen.KernelIdeal.Skeleton
@[expose] public section
set_option maxRecDepth 16384
namespace Cert.KernelIdeal.Val
open Cert.KernelIdeal Cert.KernelIdeal.Gen
open Idealize.ShloMosaic Idealize.ShloMosaic.TcCoe

/-- A token's score against query column `x`. -/
noncomputable def score (B : FVec Ideal S1024x1 .f32) (K : Vec Ideal S1x64x1024 .bf16) (Q : Vec Ideal S1x1x64x256 .bf16) (x : Fin 256) (j : Fin 1024) : EReal :=
  (∑ d : Fin 64, K (ix3 0 d j) * Q (ix4 0 0 d x)) + B (ix2 j 0)

/-- The new maximum of column `x`. -/
noncomputable def newM (B : FVec Ideal S1024x1 .f32) (K : Vec Ideal S1x64x1024 .bf16) (Q : Vec Ideal S1x1x64x256 .bf16) (m : Vec Ideal S1x1x256 .f32) (x : Fin 256) : EReal :=
  max (m (ix3 0 0 x)) (Finset.univ.fold max ⊥ (score B K Q x))

theorem negInf : Ideal.ofBits .f32 0xFF800000#32 = ⊥ := by
  rfl

theorem pay11_apply (B : FVec Ideal S1024x1 .f32) (K : Vec Ideal S1x64x1024 .bf16) (Q : Vec Ideal S1x1x64x256 .bf16) (j : Fin 1024) (x : Fin 256) :
    k0_pay11 (F := Ideal) B K Q (ix2 j x) = score B K Q x j := by
  unfold score
  pointwise [k0_pay11]

theorem pay13_apply (B : FVec Ideal S1024x1 .f32) (K : Vec Ideal S1x64x1024 .bf16) (Q : Vec Ideal S1x1x64x256 .bf16) (m : Vec Ideal S1x1x256 .f32) (x : Fin 256) :
    k0_pay13 (F := Ideal) B K Q m (ix2 0 x) = newM B K Q m x := by
  unfold newM
  pointwise [k0_pay13, k0_pay12, pay11_apply, negInf]

theorem pay16_apply (B : FVec Ideal S1024x1 .f32) (K : Vec Ideal S1x64x1024 .bf16) (Q : Vec Ideal S1x1x64x256 .bf16) (m : Vec Ideal S1x1x256 .f32) (x : Fin 256) :
    k0_pay16 (F := Ideal) B K Q m (ix3 0 0 x) = newM B K Q m x := by
  pointwise [k0_pay16, pay13_apply]

theorem pay14_apply (B : FVec Ideal S1024x1 .f32) (K : Vec Ideal S1x64x1024 .bf16) (Q : Vec Ideal S1x1x64x256 .bf16) (m : Vec Ideal S1x1x256 .f32) (x : Fin 256) :
    k0_pay14 (F := Ideal) B K Q m (ix2 0 x) = Ideal.exp (m (ix3 0 0 x) - newM B K Q m x) := by
  pointwise [k0_pay14, k0_pay12, pay13_apply]

theorem pay15_apply (B : FVec Ideal S1024x1 .f32) (K : Vec Ideal S1x64x1024 .bf16) (Q : Vec Ideal S1x1x64x256 .bf16) (m : Vec Ideal S1x1x256 .f32) (j : Fin 1024) (x : Fin 256) :
    k0_pay15 (F := Ideal) B K Q m (ix2 j x) = Ideal.exp (score B K Q x j - newM B K Q m x) := by
  pointwise [k0_pay15, pay11_apply, pay13_apply]

theorem pay17_apply (B : FVec Ideal S1024x1 .f32) (K : Vec Ideal S1x64x1024 .bf16) (Q : Vec Ideal S1x1x64x256 .bf16) (m l : Vec Ideal S1x1x256 .f32) (x : Fin 256) :
    k0_pay17 (F := Ideal) B K Q m l (ix3 0 0 x)
      = l (ix3 0 0 x) * Ideal.exp (m (ix3 0 0 x) - newM B K Q m x) + ∑ j : Fin 1024, Ideal.exp (score B K Q x j - newM B K Q m x) := by
  pointwise [k0_pay17, pay14_apply, pay15_apply]

theorem pay48_apply (B : FVec Ideal S1024x1 .f32) (K : Vec Ideal S1x64x1024 .bf16) (Q : Vec Ideal S1x1x64x256 .bf16) (m : Vec Ideal S1x1x256 .f32)
    (V : Vec Ideal S1x64x1024 .bf16) (o : Vec Ideal S1x64x256 .f32) (d : Fin 64) (x : Fin 256) :
    k0_pay48 (F := Ideal) (k0_pay14 B K Q m) (k0_pay15 B K Q m) V o (ix3 0 d x)
      = o (ix3 0 d x) * Ideal.exp (m (ix3 0 0 x) - newM B K Q m x) + ∑ j : Fin 1024, V (ix3 0 d j) * Ideal.exp (score B K Q x j - newM B K Q m x) := by
  pointwise [k0_pay48, pay14_apply, pay15_apply]

end Cert.KernelIdeal.Val
-- ==== Proof.Chunk.lean ====
/- What a chunk's mask and its dequantised keys and values are, token by token: token column `col` of a sequence stands
   in page `col mod n`, place `col / n`, and is looked at when that token lies before the sequence's length. -/
module
public import Idealize.ShloMosaic.Lib.BitcastPair
public import Idealize.ShloMosaic.Lib.IdealHost
public import proofs.«01_k».proof.Proof.Pay
public import proofs.«01_k».proof.Proof.Words
@[expose] public section
set_option maxRecDepth 16384
namespace Cert.Spec
open Idealize.ShloMosaic Idealize.ShloMosaic.TcCoe

/-- Token column `col` of a cache of `n` page columns holds a token of a sequence of length `cl`. -/
def Ok (n cl col : ℕ) : Prop := col / n < 16 ∧ col % n * 16 + col / n < cl

instance (n cl col : ℕ) : Decidable (Ok n cl col) := by unfold Ok; infer_instance

/-- Byte `k` of a word, read as an fp8 number. -/
noncomputable def code (w : BitVec 32) (k : ℕ) : EReal := Ideal.ofBits .fp8e4m3 ((w >>> (8 * k)).setWidth 8)

/-- Words read as bytes: row `r` of a column is byte `r mod 4` of the word in row `r / 4`. -/
theorem bitcast_byte {s t : Shape} (x : s.Idx → BitVec 32) (h : s.Bitcasts 32 t 8) (j : t.Idx)
    (hp : ∀ a : Fin s.rank, a.val + 2 = s.rank → t.row j / 4 < s.size a) :
    bitcast t 8 x h j = ((x (h.srcIdx j (t.row j / 4) hp)) >>> (8 * (t.row j % 4))).setWidth 8 := by
  apply BitVec.eq_of_getLsbD_eq
  intro q hq
  rw [bitcast_getLsbD x h j q hq (by decide)]
  have e1 : (t.row j * 8 + q) / 32 = t.row j / 4 := by omega
  have e2 : (t.row j * 8 + q) % 32 = 8 * (t.row j % 4) + q := by omega
  rw [h.srcIdx_congr j e1 _ hp, e2]
  simp [hq]

theorem half : Ideal.ofBits .f32 0x3F000000#32 = (((1 : ℝ) / 2 : ℝ) : EReal) := by
  simp [Ideal.ofBits, Ideal.ieee, -EReal.coe_mul]; norm_num

/-- The place of a token column, as the kernel computes it in floating point. -/
theorem place (col n : ℕ) (hn : 1 ≤ n) (hc : col < 2 ^ 20) :
    Ideal.fptosi 32 (Ideal.liftRound Int.floor (Ideal.div ((((col : ℤ) : ℝ) : EReal) + (((1 : ℝ) / 2 : ℝ) : EReal)) (((n : ℤ) : ℝ) : EReal)))
      = BitVec.ofNat 32 (col / n) := by
  have hn0 : ((n : ℤ) : ℝ) ≠ 0 := by
    have : n ≠ 0 := by omega
    exact_mod_cast this
  have e : Ideal.div ((((col : ℤ) : ℝ) : EReal) + (((1 : ℝ) / 2 : ℝ) : EReal)) (((n : ℤ) : ℝ) : EReal)
      = ((((col : ℝ) + 1 / 2) / n : ℝ) : EReal) := by
    unfold Ideal.div
    rw [if_neg (by exact_mod_cast hn0), ← EReal.coe_add, ← EReal.coe_inv, ← EReal.coe_mul]
    norm_num [div_eq_mul_inv]
  have h1 : n * (col / n) ≤ col := Nat.mul_div_le col n
  have h2 : col < n * (col / n + 1) := Nat.lt_mul_div_succ col hn
  have hle : col / n ≤ col := Nat.div_le_self _ _
  rw [e, Ideal.liftRound_coe]
  generalize col / n = t at h1 h2 hle ⊢
  have hf : ⌊((col : ℝ) + 1 / 2) / n⌋ = (t : ℤ) := by
    have hnp : (0 : ℝ) < n := by exact_mod_cast hn
    rw [Int.floor_eq_iff]
    have h1' : (n : ℝ) * (t : ℝ) ≤ col := by exact_mod_cast h1
    have h2' : (col : ℝ) + 1 ≤ n * ((t : ℝ) + 1) := by exact_mod_cast h2
    constructor
    · rw [le_div_iff₀ hnp]; push_cast; nlinarith
    · rw [div_lt_iff₀ hnp]; push_cast; nlinarith
  rw [hf]
  unfold Ideal.fptosi
  rw [Ideal.toIntClamped_coe, if_pos (by positivity), Int.floor_intCast,
    min_eq_right (by norm_num; omega), max_eq_right (by norm_num)]
  apply BitVec.eq_of_toNat_eq
  rw [BitVec.toNat_ofInt, BitVec.toNat_ofNat]
  omega

/-- A comparison's word. -/
theorem ofBool_if (p : Prop) [Decidable p] : BitVec.ofBool (decide p) = if p then 1#1 else 0#1 := by
  by_cases h : p <;> simp [h]

theorem page_word {n t r : ℕ} {vcol vn : BitVec 32} (e : vcol.toNat = n * t + r) (hn : vn.toNat = n) (hlt : n * t + r < 2 ^ 20) (ht : t < 2 ^ 20) :
    (vcol - BitVec.ofNat 32 t * vn).toNat = r := by
  have e' : (BitVec.ofNat 32 t * vn).toNat = n * t := by
    rw [BitVec.toNat_mul, BitVec.toNat_ofNat, hn, Nat.mod_eq_of_lt (by omega : t < 2 ^ 32), Nat.mul_comm]
    exact Nat.mod_eq_of_lt (by omega)
  rw [BitVec.toNat_sub, e', e]; omega

/-- The mask's word, from the place's word: the token column stands in place `col / n` and page `col mod n`. -/
theorem mask_word (col n cl : ℕ) (vn vcl vcol : BitVec 32) (hn : 1 ≤ n) (hn' : n ≤ 8192) (hc : col < 2 ^ 17) (hcl : cl ≤ 131072)
    (en : vn.toNat = n) (ecl : vcl.toNat = cl) (ecol : vcol.toNat = col) (p : BitVec 32) (ep : p.toNat = col / n) (g : BitVec 32) (eg : g.toNat = col % n) :
    IntOp.andi (IntOp.cmpi .slt p 16#32) (IntOp.cmpi .slt (IntOp.addi (IntOp.muli g 16#32) p) vcl)
      = if Ok n cl col then 1#1 else 0#1 := by
  have h1 : col / n ≤ col := Nat.div_le_self _ _
  have h2 : col % n < n := Nat.mod_lt _ hn
  have e3 : (g * 16#32 + p).toNat = col % n * 16 + col / n := by
    rw [BitVec.toNat_add, BitVec.toNat_mul, eg, ep]
    simp; omega
  have c1 : IntOp.cmpi .slt p 16#32 = if col / n < 16 then 1#1 else 0#1 := by
    show BitVec.ofBool (p.slt 16#32) = _
    have : p.slt 16#32 = decide (col / n < 16) := by
      rw [BitVec.slt, Cert.Words.toInt_of_lt (by omega), ep, show (16#32 : BitVec 32).toInt = ((16 : ℕ) : ℤ) from rfl]
      exact decide_eq_decide.2 Nat.cast_lt
    rw [this, ofBool_if]
  have c2 : IntOp.cmpi .slt (IntOp.addi (IntOp.muli g 16#32) p) vcl = if col % n * 16 + col / n < cl then 1#1 else 0#1 := by
    show BitVec.ofBool ((g * 16#32 + p).slt vcl) = _
    have : (g * 16#32 + p).slt vcl = decide (col % n * 16 + col / n < cl) := by
      rw [BitVec.slt, Cert.Words.toInt_of_lt (by omega), Cert.Words.toInt_of_lt (by omega), e3, ecl]
      exact decide_eq_decide.2 Nat.cast_lt
    rw [this, ofBool_if]
  rw [c1, c2]
  unfold Ok
  by_cases a : col / n < 16 <;> by_cases b : col % n * 16 + col / n < cl <;> simp [a, b] <;> rfl

end Cert.Spec

namespace Cert.KernelIdeal.Val
open Cert.KernelIdeal Cert.KernelIdeal.Gen
open Idealize.ShloMosaic Idealize.ShloMosaic.TcCoe
open Cert.Spec (Ok code)

/-- The words a chunk's arithmetic is given: its number, the sequence's length and its page count. -/
structure At (c cl n : ℕ) (vc vcl vn : BitVec 32) : Prop where
  c_lt : c < 128
  one_le : 1 ≤ n
  n_le : n ≤ 8192
  cl_le : cl ≤ 131072
  c_eq : vc.toNat = c
  cl_eq : vcl.toNat = cl
  n_eq : vn.toNat = n

theorem pay39_apply {c cl n : ℕ} {vc vcl vn : BitVec 32} (h : At c cl n vc vcl vn) (j : Fin 1024) :
    k0_pay39 (F := Ideal) vc vcl vn (ix2 0 j) = if Ok n cl (c * 1024 + j.val) then 1#1 else 0#1 := by
  obtain ⟨h1, h2, h3, h4, h5, h6, h7⟩ := h
  have hj := j.isLt
  have ecol : (BitVec.ofNat 32 j.val + vc * 1024#32).toNat = c * 1024 + j.val := by
    rw [BitVec.toNat_add, BitVec.toNat_mul, h5, BitVec.toNat_ofNat]; simp; omega
  have es : (BitVec.ofNat 32 j.val + vc * 1024#32).toInt = ((c * 1024 + j.val : ℕ) : ℤ) := by
    rw [Cert.Words.toInt_of_lt (by omega), ecol]
  have en : vn.toInt = ((n : ℕ) : ℤ) := by
    rw [Cert.Words.toInt_of_lt (by omega), h7]
  have hp := Cert.Spec.place (c * 1024 + j.val) n h2 (by omega)
  have hq1 : (c * 1024 + j.val) / n ≤ c * 1024 + j.val := Nat.div_le_self _ _
  have hq2 : n * ((c * 1024 + j.val) / n) + (c * 1024 + j.val) % n = c * 1024 + j.val := Nat.div_add_mod _ _
  have key := Cert.Spec.mask_word (c * 1024 + j.val) n cl vn vcl (BitVec.ofNat 32 j.val + vc * 1024#32) h2 h3 (by omega) h4 h7 h6 ecol
    (BitVec.ofNat 32 ((c * 1024 + j.val) / n)) (by rw [BitVec.toNat_ofNat]; exact Nat.mod_eq_of_lt (by omega))
    ((BitVec.ofNat 32 j.val + vc * 1024#32) - BitVec.ofNat 32 ((c * 1024 + j.val) / n) * vn)
    (Cert.Spec.page_word (ecol.trans hq2.symm) h7 (by omega) (by omega))
  rw [← key, ← hp, ← es, ← en, ← Cert.Spec.half]
  pointwise [k0_pay39]
  rfl

theorem pay47_apply {c cl n : ℕ} {vc vcl vn : BitVec 32} (h : At c cl n vc vcl vn) (j : Fin 1024) :
    k0_pay47 (F := Ideal) (k0_pay40 vc vcl vn) (ix2 j 0) = if Ok n cl (c * 1024 + j.val) then 0 else Ideal.ofBits .f32 0xF149F2CA#32 := by
  have : k0_pay47 (F := Ideal) (k0_pay40 vc vcl vn) (ix2 j 0) = k0_pay40 (F := Ideal) vc vcl vn (ix2 0 j) := by
    pointwise [k0_pay47]
  rw [this]
  by_cases hk : Ok n cl (c * 1024 + j.val) <;>
    pointwise [k0_pay40, pay39_apply h, hk]

/-- A token's dequantised element: its code times its scale, zero where the mask is off. -/
noncomputable def deq (W : Vec Ideal S1x16x1024 .i32) (S : Vec Ideal S1x1x1024 .f32) (n cl c : ℕ) (d : Fin 64) (j : Fin 1024) : EReal :=
  if Ok n cl (c * 1024 + j.val) then code (W (ix3 0 ⟨d.val / 4, by omega⟩ j)) (d.val % 4) * S (ix3 0 0 j) else 0

theorem byte_apply (w : IVec S16x1024 32) (d : Fin 64) (j : Fin 1024) :
    bitcast S64x1024 8 w bitcasts_S16x1024_w32_S64x1024_w8 (ix2 d j) = ((w (ix2 ⟨d.val / 4, by omega⟩ j)) >>> (8 * (d.val % 4))).setWidth 8 := by
  have hr : S64x1024.row (ix2 d j) = d.val := rfl
  rw [Cert.Spec.bitcast_byte w _ (ix2 d j) (fun a ha => by
    have e : a = 0 := Fin.ext (by show a.val = 0; have : S16x1024.rank = 2 := rfl; omega)
    subst e; show d.val / 4 < 16; omega)]
  congr 3
  funext a
  match a with
  | ⟨0, _⟩ => exact Fin.ext (Shape.Bitcasts.srcIdx_row _ _ _ _ ⟨0, Nat.zero_lt_two⟩ rfl)
  | ⟨1, _⟩ => exact Fin.ext (Shape.Bitcasts.srcIdx_other _ _ _ _ ⟨1, Nat.one_lt_two⟩ (by show ¬ 1 + 2 = 2; omega))

theorem deq_pay41 {c cl n : ℕ} {vc vcl vn : BitVec 32} (h : At c cl n vc vcl vn) (W : Vec Ideal S1x16x1024 .i32) (S : Vec Ideal S1x1x1024 .f32)
    (d : Fin 64) (j : Fin 1024) : k0_pay42 (F := Ideal) (k0_pay41 (F := Ideal) vc vcl vn W S) (ix3 0 d j) = deq W S n cl c d j := by
  unfold deq
  by_cases hk : Ok n cl (c * 1024 + j.val) <;> pointwise [k0_pay42, k0_pay41, byte_apply, pay39_apply h, hk]
  · rfl
  · exact mul_zero _

theorem deq_pay43 {c cl n : ℕ} {vc vcl vn : BitVec 32} (h : At c cl n vc vcl vn) (W : Vec Ideal S1x16x1024 .i32) (S : Vec Ideal S1x1x1024 .f32)
    (d : Fin 64) (j : Fin 1024) : k0_pay43 (F := Ideal) (k0_pay39 (F := Ideal) vc vcl vn) W S (ix3 0 d j) = deq W S n cl c d j := by
  unfold deq
  by_cases hk : Ok n cl (c * 1024 + j.val) <;> pointwise [k0_pay43, byte_apply, pay39_apply h, hk]
  · rfl
  · exact mul_zero _

theorem deq_pay44 {c cl n : ℕ} {vc vcl vn : BitVec 32} (h : At c cl n vc vcl vn) (W : Vec Ideal S1x16x1024 .i32) (S : Vec Ideal S1x1x1024 .f32)
    (d : Fin 64) (j : Fin 1024) : k0_pay45 (F := Ideal) (k0_pay44 (F := Ideal) (k0_pay39 (F := Ideal) vc vcl vn) W S) (ix3 0 d j) = deq W S n cl c d j := by
  unfold deq
  by_cases hk : Ok n cl (c * 1024 + j.val) <;> pointwise [k0_pay45, k0_pay44, byte_apply, pay39_apply h, hk]
  · rfl
  · exact mul_zero _

theorem deq_pay46 {c cl n : ℕ} {vc vcl vn : BitVec 32} (h : At c cl n vc vcl vn) (W : Vec Ideal S1x16x1024 .i32) (S : Vec Ideal S1x1x1024 .f32)
    (d : Fin 64) (j : Fin 1024) : k0_pay46 (F := Ideal) (k0_pay39 (F := Ideal) vc vcl vn) W S (ix3 0 d j) = deq W S n cl c d j := by
  unfold deq
  by_cases hk : Ok n cl (c * 1024 + j.val) <;> pointwise [k0_pay46, byte_apply, pay39_apply h, hk]
  · rfl
  · exact mul_zero _

end Cert.KernelIdeal.Val
-- ==== Proof.Loop.lean ====
/- The loop over column blocks: after its trips every column below 256 times their number holds the updated maximum,
   denominator and numerator of its head, and every other element what it held before. -/
module
public import Idealize.ShloMosaic.Lib.VecWindow
public import proofs.«01_k».proof.Proof.Pay
@[expose] public section
set_option maxRecDepth 16384
namespace Cert.KernelIdeal.Val
open Cert.KernelIdeal Cert.KernelIdeal.Gen
open Idealize.ShloMosaic Idealize.ShloMosaic.TcCoe

/-- Head `h`'s score of token `j` against column `x`. -/
noncomputable def sc (B : FVec Ideal S1024x1 .f32) (K : Vec Ideal S2x64x1024 .bf16) (Q : Vec Ideal S1x2x64x4096 .bf16) (h : Fin 2) (x : Fin 4096) (j : Fin 1024) : EReal :=
  (∑ d : Fin 64, K (ix3 h d j) * Q (ix4 0 h d x)) + B (ix2 j 0)

/-- The updated maximum. -/
noncomputable def upM (B : FVec Ideal S1024x1 .f32) (K : Vec Ideal S2x64x1024 .bf16) (Q : Vec Ideal S1x2x64x4096 .bf16) (M : Vec Ideal S2x1x4096 .f32) (h : Fin 2) (x : Fin 4096) : EReal :=
  max (M (ix3 h 0 x)) (Finset.univ.fold max ⊥ (sc B K Q h x))

/-- The updated denominator. -/
noncomputable def upL (B : FVec Ideal S1024x1 .f32) (K : Vec Ideal S2x64x1024 .bf16) (Q : Vec Ideal S1x2x64x4096 .bf16) (M L : Vec Ideal S2x1x4096 .f32) (h : Fin 2) (x : Fin 4096) : EReal :=
  L (ix3 h 0 x) * Ideal.exp (M (ix3 h 0 x) - upM B K Q M h x) + ∑ j : Fin 1024, Ideal.exp (sc B K Q h x j - upM B K Q M h x)

/-- The updated numerator of channel `d`. -/
noncomputable def upO (B : FVec Ideal S1024x1 .f32) (K : Vec Ideal S2x64x1024 .bf16) (Q : Vec Ideal S1x2x64x4096 .bf16) (V : Vec Ideal S2x64x1024 .bf16) (M : Vec Ideal S2x1x4096 .f32)
    (O : Vec Ideal S2x64x4352 .f32) (h : Fin 2) (d : Fin 64) (x : Fin 4096) : EReal :=
  O (ix3 h d ⟨x.val, by omega⟩) * Ideal.exp (M (ix3 h 0 x) - upM B K Q M h x) + ∑ j : Fin 1024, V (ix3 h d j) * Ideal.exp (sc B K Q h x j - upM B K Q M h x)

variable {sig : RefSig} {κ : Kind} {sp : Space}

/-- A load of a box of a rank-3 buffer, at an index. -/
theorem rd3 {e : EltTy} {n0 n1 n2 : ℕ} (v : View sig κ sp ⟨3, ![n0, n1, n2]⟩ e) (f : v.ty.Contents (Elt Ideal)) {off size : Fin 3 → ℕ}
    (inb : ∀ a, off a + size a ≤ (⟨3, ![n0, n1, n2]⟩ : Shape).size a) (y : (a : Fin 3) → Fin (size a)) (i0 : Fin n0) (i1 : Fin n1) (i2 : Fin n2)
    (h0 : i0.val = off 0 + (y 0).val) (h1 : i1.val = off 1 + (y 1).val) (h2 : i2.val = off 2 + (y 2).val) :
    v.readAt (Elt Ideal) (Rect.unit (s := ⟨3, ![n0, n1, n2]⟩) off size inb).toLoadRect f y = v.read (Elt Ideal) f (ix3 i0 i1 i2) := by
  rw [View.readAt_unit v f inb rfl inb]
  exact congrArg (v.read (Elt Ideal) f) (funext fun a => Fin.ext (by
    fin_cases a
    · show off 0 + 1 * (y 0).val = i0.val; omega
    · show off 1 + 1 * (y 1).val = i1.val; omega
    · show off 2 + 1 * (y 2).val = i2.val; omega))

/-- A load of a box of a rank-4 buffer, at an index. -/
theorem rd4 {e : EltTy} {n0 n1 n2 n3 : ℕ} (v : View sig κ sp ⟨4, ![n0, n1, n2, n3]⟩ e) (f : v.ty.Contents (Elt Ideal)) {off size : Fin 4 → ℕ}
    (inb : ∀ a, off a + size a ≤ (⟨4, ![n0, n1, n2, n3]⟩ : Shape).size a) (y : (a : Fin 4) → Fin (size a)) (i0 : Fin n0) (i1 : Fin n1) (i2 : Fin n2) (i3 : Fin n3)
    (h0 : i0.val = off 0 + (y 0).val) (h1 : i1.val = off 1 + (y 1).val) (h2 : i2.val = off 2 + (y 2).val) (h3 : i3.val = off 3 + (y 3).val) :
    v.readAt (Elt Ideal) (Rect.unit (s := ⟨4, ![n0, n1, n2, n3]⟩) off size inb).toLoadRect f y = v.read (Elt Ideal) f (ix4 i0 i1 i2 i3) := by
  rw [View.readAt_unit v f inb rfl inb]
  exact congrArg (v.read (Elt Ideal) f) (funext fun a => Fin.ext (by
    fin_cases a
    · show off 0 + 1 * (y 0).val = i0.val; omega
    · show off 1 + 1 * (y 1).val = i1.val; omega
    · show off 2 + 1 * (y 2).val = i2.val; omega
    · show off 3 + 1 * (y 3).val = i3.val; omega))

/-- A store of one column block of one head, read back at an index. -/
theorem wr3 {e : EltTy} {n1 n2 : ℕ} (v : View sig κ sp ⟨3, ![2, n1, n2]⟩ e) (f : v.ty.Contents (Elt Ideal)) {off : Fin 3 → ℕ}
    (inb : ∀ a, off a + (![1, n1, 256] : Fin 3 → ℕ) a ≤ (⟨3, ![2, n1, n2]⟩ : Shape).size a) (w : (Rect.unit (s := ⟨3, ![2, n1, n2]⟩) off ![1, n1, 256] inb).shape.Idx → Elt Ideal e)
    (P : List (View.Piece (Elt Ideal) (⟨3, ![2, n1, n2]⟩ : Shape) e)) (kv : Fin 2) (k : ℕ) (he : off = ![kv.val, 0, 256 * k]) (h : Fin 2) (d : Fin n1) (x : Fin n2) :
    v.read (Elt Ideal) (v.writes (Elt Ideal) f (⟨Rect.unit (s := ⟨3, ![2, n1, n2]⟩) off ![1, n1, 256] inb, w⟩ :: P)) (ix3 h d x)
      = if hh : h = kv ∧ 256 * k ≤ x.val ∧ x.val < 256 * (k + 1) then w (ix3 (0 : Fin 1) d (⟨x.val - 256 * k, by omega⟩ : Fin 256))
        else v.read (Elt Ideal) (v.writes (Elt Ideal) f P) (ix3 h d x) := by
  split
  · rename_i hh
    obtain ⟨rfl, h1, h2⟩ := hh
    refine View.read_writes_cons_unit_of_mem v f inb w P _ _ he fun a => ?_
    fin_cases a
    · show h.val = h.val + 0; rfl
    · show d.val = 0 + d.val; omega
    · show x.val = 256 * k + (x.val - 256 * k); omega
  · rename_i hh
    by_cases hk : h = kv
    · subst hk
      refine View.read_writes_cons_unit_of_not_mem v f inb w P _ he 2 ?_
      show x.val < 256 * k ∨ 256 * k + 256 ≤ x.val
      have : ¬ (256 * k ≤ x.val ∧ x.val < 256 * (k + 1)) := fun c => hh ⟨rfl, c⟩
      omega
    · refine View.read_writes_cons_unit_of_not_mem v f inb w P _ he 0 ?_
      show h.val < kv.val ∨ kv.val + 1 ≤ h.val
      have : h.val ≠ kv.val := fun c => hk (Fin.ext c)
      omega

/-- The loop's trips as lists of stores, whatever the names of its payloads: what the three buffers read after `k` of them. -/
theorem loop_read (kv : Fin 2) (T : ℕ) (hT : T ≤ 16) (B : FVec Ideal S1024x1 .f32)
    (v8 : View sig κ sp S1x2x64x4096 .bf16) (X8 : v8.ty.Contents (Elt Ideal))
    (v13 v14 : View sig κ sp S2x1x4096 .f32) (v15 : View sig κ sp S2x64x4352 .f32) (v16 v17 : View sig κ sp S2x64x1024 .bf16)
    (X16 : v16.ty.Contents (Elt Ideal)) (X17 : v17.ty.Contents (Elt Ideal))
    (G13 : v13.ty.Contents (Elt Ideal)) (G14 : v14.ty.Contents (Elt Ideal)) (G15 : v15.ty.Contents (Elt Ideal))
    (P13 : ℕ → List (View.Piece (Elt Ideal) S2x1x4096 .f32)) (P14 : ℕ → List (View.Piece (Elt Ideal) S2x1x4096 .f32)) (P15 : ℕ → List (View.Piece (Elt Ideal) S2x64x4352 .f32))
    (ok : Fin 3 → ℕ) (ik : ∀ a, ok a + (![1, 64, 1024] : Fin 3 → ℕ) a ≤ S2x64x1024.size a) (ek : ok = ![kv.val, 0, 0])
    (o2 : Fin T → Fin 4 → ℕ) (i2 : ∀ k a, o2 k a + (![1, 1, 64, 256] : Fin 4 → ℕ) a ≤ S1x2x64x4096.size a) (e2 : ∀ k, o2 k = ![0, kv.val, 0, 256 * k.val])
    (o3 : Fin T → Fin 3 → ℕ) (i3 : ∀ k a, o3 k a + (![1, 1, 256] : Fin 3 → ℕ) a ≤ S2x1x4096.size a) (e3 : ∀ k, o3 k = ![kv.val, 0, 256 * k.val])
    (o4 : Fin T → Fin 3 → ℕ) (i4 : ∀ k a, o4 k a + (![1, 64, 256] : Fin 3 → ℕ) a ≤ S2x64x4352.size a) (e4 : ∀ k, o4 k = ![kv.val, 0, 256 * k.val])
    (z13 : P13 0 = []) (z14 : P14 0 = []) (z15 : P15 0 = [])
    (s13 : ∀ k : Fin T, P13 (k.val + 1) = ⟨Rect.unit (s := S2x1x4096) (o3 k) ![1, 1, 256] (i3 k),
        k0_pay16 (F := Ideal) B (v16.readAt (Elt Ideal) (Rect.unit (s := S2x64x1024) ok ![1, 64, 1024] ik).toLoadRect X16)
          (v8.readAt (Elt Ideal) (Rect.unit (s := S1x2x64x4096) (o2 k) ![1, 1, 64, 256] (i2 k)).toLoadRect X8)
          (v13.readAt (Elt Ideal) (Rect.unit (s := S2x1x4096) (o3 k) ![1, 1, 256] (i3 k)).toLoadRect (v13.writes (Elt Ideal) G13 (P13 k.val)))⟩ :: P13 k.val)
    (s14 : ∀ k : Fin T, P14 (k.val + 1) = ⟨Rect.unit (s := S2x1x4096) (o3 k) ![1, 1, 256] (i3 k),
        k0_pay17 (F := Ideal) B (v16.readAt (Elt Ideal) (Rect.unit (s := S2x64x1024) ok ![1, 64, 1024] ik).toLoadRect X16)
          (v8.readAt (Elt Ideal) (Rect.unit (s := S1x2x64x4096) (o2 k) ![1, 1, 64, 256] (i2 k)).toLoadRect X8)
          (v13.readAt (Elt Ideal) (Rect.unit (s := S2x1x4096) (o3 k) ![1, 1, 256] (i3 k)).toLoadRect (v13.writes (Elt Ideal) G13 (P13 k.val)))
          (v14.readAt (Elt Ideal) (Rect.unit (s := S2x1x4096) (o3 k) ![1, 1, 256] (i3 k)).toLoadRect (v14.writes (Elt Ideal) G14 (P14 k.val)))⟩ :: P14 k.val)
    (s15 : ∀ k : Fin T, P15 (k.val + 1) = ⟨Rect.unit (s := S2x64x4352) (o4 k) ![1, 64, 256] (i4 k),
        k0_pay48 (F := Ideal) (k0_pay14 B (v16.readAt (Elt Ideal) (Rect.unit (s := S2x64x1024) ok ![1, 64, 1024] ik).toLoadRect X16)
          (v8.readAt (Elt Ideal) (Rect.unit (s := S1x2x64x4096) (o2 k) ![1, 1, 64, 256] (i2 k)).toLoadRect X8)
          (v13.readAt (Elt Ideal) (Rect.unit (s := S2x1x4096) (o3 k) ![1, 1, 256] (i3 k)).toLoadRect (v13.writes (Elt Ideal) G13 (P13 k.val))))
          (k0_pay15 B (v16.readAt (Elt Ideal) (Rect.unit (s := S2x64x1024) ok ![1, 64, 1024] ik).toLoadRect X16)
          (v8.readAt (Elt Ideal) (Rect.unit (s := S1x2x64x4096) (o2 k) ![1, 1, 64, 256] (i2 k)).toLoadRect X8)
          (v13.readAt (Elt Ideal) (Rect.unit (s := S2x1x4096) (o3 k) ![1, 1, 256] (i3 k)).toLoadRect (v13.writes (Elt Ideal) G13 (P13 k.val))))
          (v17.readAt (Elt Ideal) (Rect.unit (s := S2x64x1024) ok ![1, 64, 1024] ik).toLoadRect X17)
          (v15.readAt (Elt Ideal) (Rect.unit (s := S2x64x4352) (o4 k) ![1, 64, 256] (i4 k)).toLoadRect (v15.writes (Elt Ideal) G15 (P15 k.val)))⟩ :: P15 k.val) :
    ∀ k ≤ T,
      (∀ (h : Fin 2) (x : Fin 4096), v13.read (Elt Ideal) (v13.writes (Elt Ideal) G13 (P13 k)) (ix3 h 0 x)
        = if h = kv ∧ x.val < 256 * k then upM B (v16.read (Elt Ideal) X16) (v8.read (Elt Ideal) X8) (v13.read (Elt Ideal) G13) h x else v13.read (Elt Ideal) G13 (ix3 h 0 x))
      ∧ (∀ (h : Fin 2) (x : Fin 4096), v14.read (Elt Ideal) (v14.writes (Elt Ideal) G14 (P14 k)) (ix3 h 0 x)
        = if h = kv ∧ x.val < 256 * k then upL B (v16.read (Elt Ideal) X16) (v8.read (Elt Ideal) X8) (v13.read (Elt Ideal) G13) (v14.read (Elt Ideal) G14) h x else v14.read (Elt Ideal) G14 (ix3 h 0 x))
      ∧ (∀ (h : Fin 2) (d : Fin 64) (x : Fin 4352), v15.read (Elt Ideal) (v15.writes (Elt Ideal) G15 (P15 k)) (ix3 h d x)
        = if hx : h = kv ∧ x.val < 256 * k ∧ x.val < 4096 then upO B (v16.read (Elt Ideal) X16) (v8.read (Elt Ideal) X8) (v17.read (Elt Ideal) X17) (v13.read (Elt Ideal) G13) (v15.read (Elt Ideal) G15) h d ⟨x.val, hx.2.2⟩
          else v15.read (Elt Ideal) G15 (ix3 h d x)) := by
  intro k
  induction k with
  | zero =>
    intro _
    rw [z13, z14, z15]
    refine ⟨fun h x => ?_, fun h x => ?_, fun h d x => ?_⟩
    · rw [if_neg (by omega)]; rfl
    · rw [if_neg (by omega)]; rfl
    · rw [dif_neg (by omega)]; rfl
  | succ k ih =>
    intro hk
    obtain ⟨ih13, ih14, ih15⟩ := ih (by omega)
    have e := s13 ⟨k, hk⟩; have e' := s14 ⟨k, hk⟩; have e'' := s15 ⟨k, hk⟩
    -- the operands of this trip, at an index
    have rK : ∀ (d : Fin 64) (j : Fin 1024), v16.readAt (Elt Ideal) (Rect.unit (s := S2x64x1024) ok ![1, 64, 1024] ik).toLoadRect X16 (ix3 (0 : Fin 1) d j)
        = v16.read (Elt Ideal) X16 (ix3 kv d j) := fun d j =>
      rd3 v16 X16 ik (ix3 (0 : Fin 1) d j) kv d j (by subst ek; rfl) (by subst ek; show d.val = 0 + d.val; omega) (by subst ek; show j.val = 0 + j.val; omega)
    have rV : ∀ (d : Fin 64) (j : Fin 1024), v17.readAt (Elt Ideal) (Rect.unit (s := S2x64x1024) ok ![1, 64, 1024] ik).toLoadRect X17 (ix3 (0 : Fin 1) d j)
        = v17.read (Elt Ideal) X17 (ix3 kv d j) := fun d j =>
      rd3 v17 X17 ik (ix3 (0 : Fin 1) d j) kv d j (by subst ek; rfl) (by subst ek; show d.val = 0 + d.val; omega) (by subst ek; show j.val = 0 + j.val; omega)
    have rQ : ∀ (d : Fin 64) (y : Fin 256) (x : Fin 4096), x.val = 256 * k + y.val →
        v8.readAt (Elt Ideal) (Rect.unit (s := S1x2x64x4096) (o2 ⟨k, hk⟩) ![1, 1, 64, 256] (i2 ⟨k, hk⟩)).toLoadRect X8 (ix4 (0 : Fin 1) (0 : Fin 1) d y)
        = v8.read (Elt Ideal) X8 (ix4 0 kv d x) := fun d y x hx =>
      rd4 v8 X8 (i2 ⟨k, hk⟩) (ix4 (0 : Fin 1) (0 : Fin 1) d y) 0 kv d x (by rw [e2]; rfl) (by rw [e2]; rfl) (by rw [e2]; show d.val = 0 + d.val; omega) (by rw [e2]; exact hx)
    have rM : ∀ (y : Fin 256) (x : Fin 4096), x.val = 256 * k + y.val →
        v13.readAt (Elt Ideal) (Rect.unit (s := S2x1x4096) (o3 ⟨k, hk⟩) ![1, 1, 256] (i3 ⟨k, hk⟩)).toLoadRect (v13.writes (Elt Ideal) G13 (P13 k)) (ix3 (0 : Fin 1) (0 : Fin 1) y)
        = v13.read (Elt Ideal) G13 (ix3 kv 0 x) := fun y x hx => by
      rw [rd3 v13 _ (i3 ⟨k, hk⟩) (ix3 (0 : Fin 1) (0 : Fin 1) y) kv 0 x (by rw [e3]; rfl) (by rw [e3]; rfl) (by rw [e3]; exact hx), ih13, if_neg (by omega)]
    have rL : ∀ (y : Fin 256) (x : Fin 4096), x.val = 256 * k + y.val →
        v14.readAt (Elt Ideal) (Rect.unit (s := S2x1x4096) (o3 ⟨k, hk⟩) ![1, 1, 256] (i3 ⟨k, hk⟩)).toLoadRect (v14.writes (Elt Ideal) G14 (P14 k)) (ix3 (0 : Fin 1) (0 : Fin 1) y)
        = v14.read (Elt Ideal) G14 (ix3 kv 0 x) := fun y x hx => by
      rw [rd3 v14 _ (i3 ⟨k, hk⟩) (ix3 (0 : Fin 1) (0 : Fin 1) y) kv 0 x (by rw [e3]; rfl) (by rw [e3]; rfl) (by rw [e3]; exact hx), ih14, if_neg (by omega)]
    have rO : ∀ (d : Fin 64) (y : Fin 256) (x : Fin 4352), x.val = 256 * k + y.val →
        v15.readAt (Elt Ideal) (Rect.unit (s := S2x64x4352) (o4 ⟨k, hk⟩) ![1, 64, 256] (i4 ⟨k, hk⟩)).toLoadRect (v15.writes (Elt Ideal) G15 (P15 k)) (ix3 (0 : Fin 1) d y)
        = v15.read (Elt Ideal) G15 (ix3 kv d x) := fun d y x hx => by
      rw [rd3 v15 _ (i4 ⟨k, hk⟩) (ix3 (0 : Fin 1) d y) kv d x (by rw [e4]; rfl) (by rw [e4]; show d.val = 0 + d.val; omega) (by rw [e4]; exact hx), ih15, dif_neg (by omega)]
    have hs : ∀ (y : Fin 256) (x : Fin 4096), x.val = 256 * k + y.val →
        score B (v16.readAt (Elt Ideal) (Rect.unit (s := S2x64x1024) ok ![1, 64, 1024] ik).toLoadRect X16)
          (v8.readAt (Elt Ideal) (Rect.unit (s := S1x2x64x4096) (o2 ⟨k, hk⟩) ![1, 1, 64, 256] (i2 ⟨k, hk⟩)).toLoadRect X8) y
        = sc B (v16.read (Elt Ideal) X16) (v8.read (Elt Ideal) X8) kv x := fun y x hx => by
      funext j
      unfold score sc
      exact congrArg (· + B (ix2 j 0)) (Finset.sum_congr rfl fun d _ => by rw [rK, rQ d y x hx])
    have hM : ∀ (y : Fin 256) (x : Fin 4096), x.val = 256 * k + y.val →
        newM B (v16.readAt (Elt Ideal) (Rect.unit (s := S2x64x1024) ok ![1, 64, 1024] ik).toLoadRect X16)
          (v8.readAt (Elt Ideal) (Rect.unit (s := S1x2x64x4096) (o2 ⟨k, hk⟩) ![1, 1, 64, 256] (i2 ⟨k, hk⟩)).toLoadRect X8)
          (v13.readAt (Elt Ideal) (Rect.unit (s := S2x1x4096) (o3 ⟨k, hk⟩) ![1, 1, 256] (i3 ⟨k, hk⟩)).toLoadRect (v13.writes (Elt Ideal) G13 (P13 k))) y
        = upM B (v16.read (Elt Ideal) X16) (v8.read (Elt Ideal) X8) (v13.read (Elt Ideal) G13) kv x := fun y x hx => by
      unfold newM upM
      rw [hs y x hx, rM y x hx]
    refine ⟨fun h x => ?_, fun h x => ?_, fun h d x => ?_⟩
    · rw [e, wr3 v13 G13 (i3 ⟨k, hk⟩) _ _ kv k (e3 _) h 0 x]
      split
      · rename_i hh
        rw [if_pos ⟨hh.1, hh.2.2⟩, pay16_apply, hM _ x (by show x.val = 256 * k + (x.val - 256 * k); omega), hh.1]
      · rename_i hh
        rw [ih13]
        by_cases c : h = kv ∧ x.val < 256 * k
        · rw [if_pos c, if_pos ⟨c.1, by omega⟩]
        · rw [if_neg c, if_neg fun c' => hh ⟨c'.1, by have := not_and.mp c c'.1; omega, c'.2⟩]
    · rw [e', wr3 v14 G14 (i3 ⟨k, hk⟩) _ _ kv k (e3 _) h 0 x]
      split
      · rename_i hh
        have hx : x.val = 256 * k + (x.val - 256 * k) := by omega
        rw [if_pos ⟨hh.1, hh.2.2⟩, pay17_apply, hM _ x hx, hs _ x hx, rL _ x hx, rM _ x hx, hh.1]
        rfl
      · rename_i hh
        rw [ih14]
        by_cases c : h = kv ∧ x.val < 256 * k
        · rw [if_pos c, if_pos ⟨c.1, by omega⟩]
        · rw [if_neg c, if_neg fun c' => hh ⟨c'.1, by have := not_and.mp c c'.1; omega, c'.2⟩]
    · rw [e'', wr3 v15 G15 (i4 ⟨k, hk⟩) _ _ kv k (e4 _) h d x]
      split
      · rename_i hh
        have hx4 : x.val < 4096 := by omega
        have hx : (⟨x.val, hx4⟩ : Fin 4096).val = 256 * k + (x.val - 256 * k) := by show x.val = _; omega
        obtain ⟨rfl, h1, h2⟩ := hh
        rw [dif_pos ⟨rfl, h2, hx4⟩, pay48_apply, hM _ ⟨x.val, hx4⟩ hx, hs _ ⟨x.val, hx4⟩ hx, rO d _ x hx, rM _ ⟨x.val, hx4⟩ hx]
        unfold upO
        refine congrArg (fun z => _ + z) (Finset.sum_congr rfl fun j _ => ?_)
        exact congrArg (fun z => z * _) (rV d j)
      · rename_i hh
        rw [ih15]
        by_cases c : h = kv ∧ x.val < 256 * k ∧ x.val < 4096
        · rw [dif_pos c, dif_pos ⟨c.1, by omega, c.2.2⟩]
        · rw [dif_neg c, dif_neg fun c' => hh ⟨c'.1, by have := not_and.mp c c'.1; omega, c'.2.1⟩]

end Cert.KernelIdeal.Val
-- ==== Proof.Trips.lean ====
/- The two column-block loops of a chunk, each through the generic loop lemma. -/
module
public import proofs.«01_k».proof.Proof.Loop
public import proofs.«01_k».proof.Proof.HypsIdeal
public import proofs.«01_k».proof.Proof.Gen.KernelIdeal.Loops
@[expose] public section
set_option maxRecDepth 16384
namespace Cert.KernelIdeal.Val
open Cert.KernelIdeal Cert.KernelIdeal.Gen
open Idealize.ShloMosaic Idealize.ShloMosaic.TcCoe

/-- Head `kv`'s columns below `256 * k` hold the updated values, every other element what it held before. -/
def Updated (kv : Fin 2) (k : ℕ) (B : FVec Ideal S1024x1 .f32) (K V : Vec Ideal S2x64x1024 .bf16) (Q : Vec Ideal S1x2x64x4096 .bf16)
    (M L : Vec Ideal S2x1x4096 .f32) (O : Vec Ideal S2x64x4352 .f32) (M' L' : Vec Ideal S2x1x4096 .f32) (O' : Vec Ideal S2x64x4352 .f32) : Prop :=
  (∀ (h : Fin 2) (x : Fin 4096), M' (ix3 h 0 x) = if h = kv ∧ x.val < 256 * k then upM B K Q M h x else M (ix3 h 0 x))
  ∧ (∀ (h : Fin 2) (x : Fin 4096), L' (ix3 h 0 x) = if h = kv ∧ x.val < 256 * k then upL B K Q M L h x else L (ix3 h 0 x))
  ∧ (∀ (h : Fin 2) (d : Fin 64) (x : Fin 4352), O' (ix3 h d x)
      = if hx : h = kv ∧ x.val < 256 * k ∧ x.val < 4096 then upO B K Q V M O h d ⟨x.val, hx.2.2⟩ else O (ix3 h d x))

theorem t1_read (c : Dev nD) (i : grid0.Coords) (arg2 : Memref sig .tc .smem S4 .i32) (harg2 : arg2.IsWhole) (arg3 : Memref sig .tc .smem S4 .i32) (harg3 : arg3.IsWhole) (arg4 : Memref sig .tc .vmem S1x32x1024 .i32) (harg4 : arg4.IsWhole) (arg5 : Memref sig .tc .vmem S1x32x1024 .i32) (harg5 : arg5.IsWhole) (arg6 : Memref sig .tc .vmem S1x2x1024 .f32) (harg6 : arg6.IsWhole) (arg7 : Memref sig .tc .vmem S1x2x1024 .f32) (harg7 : arg7.IsWhole) (arg8 : Memref sig .tc .vmem S1x2x64x4096 .bf16) (harg8 : arg8.IsWhole) (arg9 : Memref sig .tc .vmem S1x2x1x4096 .f32) (harg9 : arg9.IsWhole) (arg10 : Memref sig .tc .vmem S1x2x1x4096 .f32) (harg10 : arg10.IsWhole) (arg11 : Memref sig .tc .vmem S1x2x64x4096 .f32) (harg11 : arg11.IsWhole) (arg12 : Memref sig .tc .vmem S1x32x64x256 .bf16) (harg12 : arg12.IsWhole) (arg13 : Memref sig .tc .vmem S2x1x4096 .f32) (harg13 : arg13.IsWhole) (arg14 : Memref sig .tc .vmem S2x1x4096 .f32) (harg14 : arg14.IsWhole) (arg15 : Memref sig .tc .vmem S2x64x4352 .f32) (harg15 : arg15.IsWhole) (arg16 : Memref sig .tc .vmem S2x64x1024 .bf16) (harg16 : arg16.IsWhole) (arg17 : Memref sig .tc .vmem S2x64x1024 .bf16) (harg17 : arg17.IsWhole)
    (v1 : Elt Ideal .i32) (v3 : Elt Ideal .i32) (hw1 : k0_chk1 i v1 v3) (v42 : BitVec 32) (h2 : k0_cond2 i v3 = 1#1) (v173 : FVec Ideal S1024x1 .f32) (v190 : BitVec 32)
    (X8 : BufTy.Contents (Elt Ideal) arg8.view.ty) (X16 : BufTy.Contents (Elt Ideal) arg16.view.ty) (X17 : BufTy.Contents (Elt Ideal) arg17.view.ty)
    (G13 : BufTy.Contents (Elt Ideal) arg13.view.ty) (G14 : BufTy.Contents (Elt Ideal) arg14.view.ty) (G15 : BufTy.Contents (Elt Ideal) arg15.view.ty)
    (hq : v1.toNat ≤ 256) (T : ℕ) (hT : T = (v1.toNat + 15) / 16) :
    Updated 0 T v173 (arg16.view.read (Elt Ideal) X16) (arg17.view.read (Elt Ideal) X17) (arg8.view.read (Elt Ideal) X8)
      (arg13.view.read (Elt Ideal) G13) (arg14.view.read (Elt Ideal) G14) (arg15.view.read (Elt Ideal) G15)
      (arg13.view.read (Elt Ideal) (arg13.view.writes (Elt Ideal) G13 (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1 v3 hw1 v42 h2 v173 v190 X8 X16 X17 G13 G14 G15 T).1))
      (arg14.view.read (Elt Ideal) (arg14.view.writes (Elt Ideal) G14 (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1 v3 hw1 v42 h2 v173 v190 X8 X16 X17 G13 G14 G15 T).2.1))
      (arg15.view.read (Elt Ideal) (arg15.view.writes (Elt Ideal) G15 (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1 v3 hw1 v42 h2 v173 v190 X8 X16 X17 G13 G14 G15 T).2.2)) := by
  have hT' : T = (k0_t1_loop v1).trips := hT.trans (Hyp.t1_trips hq).1.symm
  subst hT'
  have eo : ∀ k : Fin (k0_t1_loop v1).trips, (Scalar.muli (Scalar.addi 0#32 (Scalar.muli (Scf.iv 0#32 1#32 k) 1#32)) 256#32).toNat = 256 * k.val :=
    fun k => Words.block_toNat (by have := Nat.lt_of_lt_of_eq k.isLt (Hyp.t1_trips hq).1; omega)
  have hs := pb_k0_t1_succ (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1 v3 hw1 v42 h2 v173 v190 X8 X16 X17 G13 G14 G15
  refine loop_read 0 (k0_t1_loop v1).trips (by rw [(Hyp.t1_trips hq).1]; omega) v173 arg8.view X8 arg13.view arg14.view arg15.view arg16.view arg17.view
    X16 X17 G13 G14 G15 (fun k => (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1 v3 hw1 v42 h2 v173 v190 X8 X16 X17 G13 G14 G15 k).1) (fun k => (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1 v3 hw1 v42 h2 v173 v190 X8 X16 X17 G13 G14 G15 k).2.1) (fun k => (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1 v3 hw1 v42 h2 v173 v190 X8 X16 X17 G13 G14 G15 k).2.2)
    ![0, 0, 0] inb_S2x64x1024_S1x64x1024_0_0_0 rfl (fun k => k0_off2 v1 k) (fun k => k0_off2_inb i v1 v3 hw1 k h2) (fun k => ?_)
    (fun k => k0_off3 v1 k) (fun k => k0_off3_inb i v1 v3 hw1 k h2) (fun k => ?_) (fun k => k0_off4 v1 k) (fun k => k0_off4_inb i v1 v3 hw1 k h2) (fun k => ?_)
    (by unfold pb_k0_t1; rfl) (by unfold pb_k0_t1; rfl) (by unfold pb_k0_t1; rfl) (fun k => ?_) (fun k => ?_) (fun k => ?_) _ le_rfl
  · show ![0, _, 0, _] = _; rw [← eo k]; rfl
  · show ![_, 0, _] = _; rw [← eo k]; rfl
  · show ![_, 0, _] = _; rw [← eo k]; rfl
  · beta_reduce; rw [hs k]; unfold tripL_k0_t1 trip_k0_t1; rfl
  · beta_reduce; rw [hs k]; unfold tripL_k0_t1 trip_k0_t1; rfl
  · beta_reduce; rw [hs k]; unfold tripL_k0_t1 trip_k0_t1; rfl

theorem t3_read (c : Dev nD) (i : grid0.Coords) (arg2 : Memref sig .tc .smem S4 .i32) (harg2 : arg2.IsWhole) (arg3 : Memref sig .tc .smem S4 .i32) (harg3 : arg3.IsWhole) (arg4 : Memref sig .tc .vmem S1x32x1024 .i32) (harg4 : arg4.IsWhole) (arg5 : Memref sig .tc .vmem S1x32x1024 .i32) (harg5 : arg5.IsWhole) (arg6 : Memref sig .tc .vmem S1x2x1024 .f32) (harg6 : arg6.IsWhole) (arg7 : Memref sig .tc .vmem S1x2x1024 .f32) (harg7 : arg7.IsWhole) (arg8 : Memref sig .tc .vmem S1x2x64x4096 .bf16) (harg8 : arg8.IsWhole) (arg9 : Memref sig .tc .vmem S1x2x1x4096 .f32) (harg9 : arg9.IsWhole) (arg10 : Memref sig .tc .vmem S1x2x1x4096 .f32) (harg10 : arg10.IsWhole) (arg11 : Memref sig .tc .vmem S1x2x64x4096 .f32) (harg11 : arg11.IsWhole) (arg12 : Memref sig .tc .vmem S1x32x64x256 .bf16) (harg12 : arg12.IsWhole) (arg13 : Memref sig .tc .vmem S2x1x4096 .f32) (harg13 : arg13.IsWhole) (arg14 : Memref sig .tc .vmem S2x1x4096 .f32) (harg14 : arg14.IsWhole) (arg15 : Memref sig .tc .vmem S2x64x4352 .f32) (harg15 : arg15.IsWhole) (arg16 : Memref sig .tc .vmem S2x64x1024 .bf16) (harg16 : arg16.IsWhole) (arg17 : Memref sig .tc .vmem S2x64x1024 .bf16) (harg17 : arg17.IsWhole)
    (v1 : Elt Ideal .i32) (v3 : Elt Ideal .i32) (hw1 : k0_chk1 i v1 v3)  (h2 : k0_cond2 i v3 = 1#1) (v173 : FVec Ideal S1024x1 .f32) (c1 c0 c0' : BitVec 32)
    (X8 : BufTy.Contents (Elt Ideal) arg8.view.ty) (X16 : BufTy.Contents (Elt Ideal) arg16.view.ty) (X17 : BufTy.Contents (Elt Ideal) arg17.view.ty)
    (G13 : BufTy.Contents (Elt Ideal) arg13.view.ty) (G14 : BufTy.Contents (Elt Ideal) arg14.view.ty) (G15 : BufTy.Contents (Elt Ideal) arg15.view.ty)
    (hq : v1.toNat ≤ 256) (T : ℕ) (hT : T = (v1.toNat + 15) / 16) :
    Updated 1 T v173 (arg16.view.read (Elt Ideal) X16) (arg17.view.read (Elt Ideal) X17) (arg8.view.read (Elt Ideal) X8)
      (arg13.view.read (Elt Ideal) G13) (arg14.view.read (Elt Ideal) G14) (arg15.view.read (Elt Ideal) G15)
      (arg13.view.read (Elt Ideal) (arg13.view.writes (Elt Ideal) G13 (pb_k0_t3 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1 v3 hw1  h2 v173 c1 c0 c0' X8 X16 X17 G13 G14 G15 T).1))
      (arg14.view.read (Elt Ideal) (arg14.view.writes (Elt Ideal) G14 (pb_k0_t3 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1 v3 hw1  h2 v173 c1 c0 c0' X8 X16 X17 G13 G14 G15 T).2.1))
      (arg15.view.read (Elt Ideal) (arg15.view.writes (Elt Ideal) G15 (pb_k0_t3 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1 v3 hw1  h2 v173 c1 c0 c0' X8 X16 X17 G13 G14 G15 T).2.2)) := by
  have hT' : T = (k0_t3_loop v1).trips := hT.trans (Hyp.t3_trips hq).1.symm
  subst hT'
  have eo : ∀ k : Fin (k0_t3_loop v1).trips, (Scalar.muli (Scalar.addi 0#32 (Scalar.muli (Scf.iv 0#32 1#32 k) 1#32)) 256#32).toNat = 256 * k.val :=
    fun k => Words.block_toNat (by have := Nat.lt_of_lt_of_eq k.isLt (Hyp.t3_trips hq).1; omega)
  have hs := pb_k0_t3_succ (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1 v3 hw1  h2 v173 c1 c0 c0' X8 X16 X17 G13 G14 G15
  refine loop_read 1 (k0_t3_loop v1).trips (by rw [(Hyp.t3_trips hq).1]; omega) v173 arg8.view X8 arg13.view arg14.view arg15.view arg16.view arg17.view
    X16 X17 G13 G14 G15 (fun k => (pb_k0_t3 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1 v3 hw1  h2 v173 c1 c0 c0' X8 X16 X17 G13 G14 G15 k).1) (fun k => (pb_k0_t3 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1 v3 hw1  h2 v173 c1 c0 c0' X8 X16 X17 G13 G14 G15 k).2.1) (fun k => (pb_k0_t3 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1 v3 hw1  h2 v173 c1 c0 c0' X8 X16 X17 G13 G14 G15 k).2.2)
    ![1, 0, 0] inb_S2x64x1024_S1x64x1024_1_0_0 rfl (fun k => k0_off8 v1 k) (fun k => k0_off8_inb i v1 v3 hw1 k h2) (fun k => ?_)
    (fun k => k0_off9 v1 k) (fun k => k0_off9_inb i v1 v3 hw1 k h2) (fun k => ?_) (fun k => k0_off10 v1 k) (fun k => k0_off10_inb i v1 v3 hw1 k h2) (fun k => ?_)
    (by unfold pb_k0_t3; rfl) (by unfold pb_k0_t3; rfl) (by unfold pb_k0_t3; rfl) (fun k => ?_) (fun k => ?_) (fun k => ?_) _ le_rfl
  · show ![0, _, 0, _] = _; rw [← eo k]; rfl
  · show ![_, 0, _] = _; rw [← eo k]; rfl
  · show ![_, 0, _] = _; rw [← eo k]; rfl
  · beta_reduce; rw [hs k]; unfold tripL_k0_t3 trip_k0_t3; rfl
  · beta_reduce; rw [hs k]; unfold tripL_k0_t3 trip_k0_t3; rfl
  · beta_reduce; rw [hs k]; unfold tripL_k0_t3 trip_k0_t3; rfl

end Cert.KernelIdeal.Val
-- ==== Proof.Steps.lean ====
/- What a chunk leaves in the three running arrays: both heads' columns below the covered ones hold the updated values. -/
module
public import proofs.«01_k».proof.Proof.Trips
@[expose] public section
set_option maxRecDepth 16384
set_option maxHeartbeats 4000000
namespace Cert.KernelIdeal.Val
open Cert.KernelIdeal Cert.KernelIdeal.Gen
open Idealize.ShloMosaic Idealize.ShloMosaic.TcCoe

/-- The columns below `256 * T` hold the updated values, for both heads. -/
def Stepped (T : ℕ) (B : FVec Ideal S1024x1 .f32) (K V : Vec Ideal S2x64x1024 .bf16) (Q : Vec Ideal S1x2x64x4096 .bf16)
    (M L : Vec Ideal S2x1x4096 .f32) (O : Vec Ideal S2x64x4352 .f32) (M' L' : Vec Ideal S2x1x4096 .f32) (O' : Vec Ideal S2x64x4352 .f32) : Prop :=
  ∀ (h : Fin 2) (x : Fin 4096), x.val < 256 * T → M' (ix3 h 0 x) = upM B K Q M h x ∧ L' (ix3 h 0 x) = upL B K Q M L h x
    ∧ ∀ d : Fin 64, O' (ix3 h d (⟨x.val, by omega⟩ : Fin 4352)) = upO B K Q V M O h d x

theorem upM_congr {B : FVec Ideal S1024x1 .f32} {K : Vec Ideal S2x64x1024 .bf16} {Q : Vec Ideal S1x2x64x4096 .bf16} {M M' : Vec Ideal S2x1x4096 .f32} {h : Fin 2} {x : Fin 4096}
    (e : M' (ix3 h 0 x) = M (ix3 h 0 x)) : upM B K Q M' h x = upM B K Q M h x := by unfold upM; rw [e]

theorem stepped_of_updated {T : ℕ} {B : FVec Ideal S1024x1 .f32} {K V : Vec Ideal S2x64x1024 .bf16} {Q : Vec Ideal S1x2x64x4096 .bf16}
    {M L : Vec Ideal S2x1x4096 .f32} {O : Vec Ideal S2x64x4352 .f32} {M₁ L₁ : Vec Ideal S2x1x4096 .f32} {O₁ : Vec Ideal S2x64x4352 .f32} {M' L' : Vec Ideal S2x1x4096 .f32} {O' : Vec Ideal S2x64x4352 .f32}
    (u : Updated 0 T B K V Q M L O M₁ L₁ O₁) (w : Updated 1 T B K V Q M₁ L₁ O₁ M' L' O') : Stepped T B K V Q M L O M' L' O' := by
  intro h x hx
  obtain ⟨u1, u2, u3⟩ := u
  obtain ⟨w1, w2, w3⟩ := w
  have hx' := x.isLt
  fin_cases h
  · refine ⟨?_, ?_, fun d => ?_⟩
    · rw [show ((⟨0, _⟩ : Fin 2)) = 0 from rfl, w1, if_neg (fun hh => absurd hh.1 (by decide)), u1, if_pos ⟨rfl, hx⟩]
    · rw [show ((⟨0, _⟩ : Fin 2)) = 0 from rfl, w2, if_neg (fun hh => absurd hh.1 (by decide)), u2, if_pos ⟨rfl, hx⟩]
    · rw [show ((⟨0, _⟩ : Fin 2)) = 0 from rfl, w3, dif_neg (fun hh => absurd hh.1 (by decide)), u3, dif_pos ⟨rfl, hx, hx'⟩]
  · have m1 : M₁ (ix3 1 0 x) = M (ix3 1 0 x) := by rw [u1, if_neg (fun hh => absurd hh.1 (by decide))]
    have l1 : L₁ (ix3 1 0 x) = L (ix3 1 0 x) := by rw [u2, if_neg (fun hh => absurd hh.1 (by decide))]
    refine ⟨?_, ?_, fun d => ?_⟩
    · rw [show ((⟨1, _⟩ : Fin 2)) = 1 from rfl, w1, if_pos ⟨rfl, hx⟩, upM_congr m1]
    · rw [show ((⟨1, _⟩ : Fin 2)) = 1 from rfl, w2, if_pos ⟨rfl, hx⟩]; unfold upL; rw [upM_congr m1, m1, l1]
    · rw [show ((⟨1, _⟩ : Fin 2)) = 1 from rfl, w3, dif_pos ⟨rfl, hx, hx'⟩]
      have o1 : O₁ (ix3 1 d (⟨x.val, by omega⟩ : Fin 4352)) = O (ix3 1 d (⟨x.val, by omega⟩ : Fin 4352)) := by rw [u3, dif_neg (fun hh => absurd hh.1 (by decide))]
      unfold upO; rw [upM_congr m1, m1]; exact congrArg (fun z => z * _ + _) o1

theorem body_read (c : Dev nD) (i : grid0.Coords) (arg2 : Memref sig .tc .smem S4 .i32) (harg2 : arg2.IsWhole) (arg3 : Memref sig .tc .smem S4 .i32) (harg3 : arg3.IsWhole) (arg4 : Memref sig .tc .vmem S1x32x1024 .i32) (harg4 : arg4.IsWhole) (arg5 : Memref sig .tc .vmem S1x32x1024 .i32) (harg5 : arg5.IsWhole) (arg6 : Memref sig .tc .vmem S1x2x1024 .f32) (harg6 : arg6.IsWhole) (arg7 : Memref sig .tc .vmem S1x2x1024 .f32) (harg7 : arg7.IsWhole) (arg8 : Memref sig .tc .vmem S1x2x64x4096 .bf16) (harg8 : arg8.IsWhole) (arg9 : Memref sig .tc .vmem S1x2x1x4096 .f32) (harg9 : arg9.IsWhole) (arg10 : Memref sig .tc .vmem S1x2x1x4096 .f32) (harg10 : arg10.IsWhole) (arg11 : Memref sig .tc .vmem S1x2x64x4096 .f32) (harg11 : arg11.IsWhole) (arg12 : Memref sig .tc .vmem S1x32x64x256 .bf16) (harg12 : arg12.IsWhole) (arg13 : Memref sig .tc .vmem S2x1x4096 .f32) (harg13 : arg13.IsWhole) (arg14 : Memref sig .tc .vmem S2x1x4096 .f32) (harg14 : arg14.IsWhole) (arg15 : Memref sig .tc .vmem S2x64x4352 .f32) (harg15 : arg15.IsWhole) (arg16 : Memref sig .tc .vmem S2x64x1024 .bf16) (harg16 : arg16.IsWhole) (arg17 : Memref sig .tc .vmem S2x64x1024 .bf16) (harg17 : arg17.IsWhole)
    (v1 : Elt Ideal .i32) (v3 : Elt Ideal .i32) (hw1 : k0_chk1 i v1 v3) (v42 : BitVec 32) (h2 : k0_cond2 i v3 = 1#1) (v173 : FVec Ideal S1024x1 .f32) (v190 v199 a1 a2 a3 b1 b2 b3 : BitVec 32)
    (X8 : BufTy.Contents (Elt Ideal) arg8.view.ty) (X16 : BufTy.Contents (Elt Ideal) arg16.view.ty) (X17 : BufTy.Contents (Elt Ideal) arg17.view.ty)
    (G13 : BufTy.Contents (Elt Ideal) arg13.view.ty) (G14 : BufTy.Contents (Elt Ideal) arg14.view.ty) (G15 : BufTy.Contents (Elt Ideal) arg15.view.ty)
    (N1 N2 N3 N4 : ℕ) (P1 P2 P3 P4 : List (View.Piece (Elt Ideal) S2x1x4096 .f32) × List (View.Piece (Elt Ideal) S2x1x4096 .f32) × List (View.Piece (Elt Ideal) S2x64x4352 .f32))
    (e1 : pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1 v3 hw1 v42 h2 v173 v190 X8 X16 X17 G13 G14 G15 N1 = P1)
    (e2 : pb_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1 v3 hw1 v42 h2 v173 v190 v199 X8 X16 X17 (arg13.view.writes (Elt Ideal) G13 (P1.1)) (arg14.view.writes (Elt Ideal) G14 (P1.2.1)) (arg15.view.writes (Elt Ideal) G15 (P1.2.2)) N2 = P2)
    (e3 : pb_k0_t3 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1 v3 hw1 h2 v173 a1 a2 a3 X8 X16 X17 (arg13.view.writes (Elt Ideal) G13 (P2.1 ++ P1.1)) (arg14.view.writes (Elt Ideal) G14 (P2.2.1 ++ P1.2.1)) (arg15.view.writes (Elt Ideal) G15 (P2.2.2 ++ P1.2.2)) N3 = P3)
    (e4 : pb_k0_t4 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1 v3 hw1 h2 v173 b1 b2 b3 X8 X16 X17 (arg13.view.writes (Elt Ideal) G13 (P3.1 ++ (P2.1 ++ P1.1))) (arg14.view.writes (Elt Ideal) G14 (P3.2.1 ++ (P2.2.1 ++ P1.2.1))) (arg15.view.writes (Elt Ideal) G15 (P3.2.2 ++ (P2.2.2 ++ P1.2.2))) N4 = P4)
    (hq : v1.toNat ≤ 256) (hN1 : N1 = (v1.toNat + 15) / 16) (hN2 : N2 = 0) (hN3 : N3 = (v1.toNat + 15) / 16) (hN4 : N4 = 0) :
    Stepped ((v1.toNat + 15) / 16) v173 (arg16.view.read (Elt Ideal) X16) (arg17.view.read (Elt Ideal) X17) (arg8.view.read (Elt Ideal) X8)
      (arg13.view.read (Elt Ideal) G13) (arg14.view.read (Elt Ideal) G14) (arg15.view.read (Elt Ideal) G15)
      (arg13.view.read (Elt Ideal) (arg13.view.writes (Elt Ideal) G13 (P4.1 ++ (P3.1 ++ (P2.1 ++ P1.1)))))
      (arg14.view.read (Elt Ideal) (arg14.view.writes (Elt Ideal) G14 (P4.2.1 ++ (P3.2.1 ++ (P2.2.1 ++ P1.2.1)))))
      (arg15.view.read (Elt Ideal) (arg15.view.writes (Elt Ideal) G15 (P4.2.2 ++ (P3.2.2 ++ (P2.2.2 ++ P1.2.2))))) := by
  subst hN2 hN4
  have z2 : P2 = ([], [], []) := by rw [← e2]; unfold pb_k0_t2; rfl
  have z4 : P4 = ([], [], []) := by rw [← e4]; unfold pb_k0_t4; rfl
  subst z2 z4
  subst e1
  subst e3
  rw [hN1, hN3]
  have u := t1_read c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1 v3 hw1 v42 h2 v173 v190 X8 X16 X17 G13 G14 G15 hq _ rfl
  have w := t3_read c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1 v3 hw1 h2 v173 a1 a2 a3 X8 X16 X17
    (arg13.view.writes (Elt Ideal) G13 ((pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1 v3 hw1 v42 h2 v173 v190 X8 X16 X17 G13 G14 G15 ((v1.toNat + 15) / 16)).1)) (arg14.view.writes (Elt Ideal) G14 ((pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1 v3 hw1 v42 h2 v173 v190 X8 X16 X17 G13 G14 G15 ((v1.toNat + 15) / 16)).2.1)) (arg15.view.writes (Elt Ideal) G15 ((pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1 v3 hw1 v42 h2 v173 v190 X8 X16 X17 G13 G14 G15 ((v1.toNat + 15) / 16)).2.2)) hq _ rfl
  simp only [List.nil_append, View.writes_append]
  exact stepped_of_updated u w

theorem body_read_init (c : Dev nD) (i : grid0.Coords) (arg2 : Memref sig .tc .smem S4 .i32) (harg2 : arg2.IsWhole) (arg3 : Memref sig .tc .smem S4 .i32) (harg3 : arg3.IsWhole) (arg4 : Memref sig .tc .vmem S1x32x1024 .i32) (harg4 : arg4.IsWhole) (arg5 : Memref sig .tc .vmem S1x32x1024 .i32) (harg5 : arg5.IsWhole) (arg6 : Memref sig .tc .vmem S1x2x1024 .f32) (harg6 : arg6.IsWhole) (arg7 : Memref sig .tc .vmem S1x2x1024 .f32) (harg7 : arg7.IsWhole) (arg8 : Memref sig .tc .vmem S1x2x64x4096 .bf16) (harg8 : arg8.IsWhole) (arg9 : Memref sig .tc .vmem S1x2x1x4096 .f32) (harg9 : arg9.IsWhole) (arg10 : Memref sig .tc .vmem S1x2x1x4096 .f32) (harg10 : arg10.IsWhole) (arg11 : Memref sig .tc .vmem S1x2x64x4096 .f32) (harg11 : arg11.IsWhole) (arg12 : Memref sig .tc .vmem S1x32x64x256 .bf16) (harg12 : arg12.IsWhole) (arg13 : Memref sig .tc .vmem S2x1x4096 .f32) (harg13 : arg13.IsWhole) (arg14 : Memref sig .tc .vmem S2x1x4096 .f32) (harg14 : arg14.IsWhole) (arg15 : Memref sig .tc .vmem S2x64x4352 .f32) (harg15 : arg15.IsWhole) (arg16 : Memref sig .tc .vmem S2x64x1024 .bf16) (harg16 : arg16.IsWhole) (arg17 : Memref sig .tc .vmem S2x64x1024 .bf16) (harg17 : arg17.IsWhole)
    (v1 : Elt Ideal .i32) (v3 : Elt Ideal .i32) (hw1 : k0_chk1 i v1 v3) (v42 : BitVec 32) (h2 : k0_cond2 i v3 = 1#1) (v173 : FVec Ideal S1024x1 .f32) (v190 v199 a1 a2 a3 b1 b2 b3 : BitVec 32)
    (X8 : BufTy.Contents (Elt Ideal) arg8.view.ty) (X16 : BufTy.Contents (Elt Ideal) arg16.view.ty) (X17 : BufTy.Contents (Elt Ideal) arg17.view.ty)
    (G13 : BufTy.Contents (Elt Ideal) arg13.view.ty) (G14 : BufTy.Contents (Elt Ideal) arg14.view.ty) (G15 : BufTy.Contents (Elt Ideal) arg15.view.ty) (L13 L14 : List (View.Piece (Elt Ideal) S2x1x4096 .f32)) (L15 : List (View.Piece (Elt Ideal) S2x64x4352 .f32))
    (N1 N2 N3 N4 : ℕ) (P1 P2 P3 P4 : List (View.Piece (Elt Ideal) S2x1x4096 .f32) × List (View.Piece (Elt Ideal) S2x1x4096 .f32) × List (View.Piece (Elt Ideal) S2x64x4352 .f32))
    (e1 : pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1 v3 hw1 v42 h2 v173 v190 X8 X16 X17 (arg13.view.writes (Elt Ideal) G13 (L13)) (arg14.view.writes (Elt Ideal) G14 (L14)) (arg15.view.writes (Elt Ideal) G15 (L15)) N1 = P1)
    (e2 : pb_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1 v3 hw1 v42 h2 v173 v190 v199 X8 X16 X17 (arg13.view.writes (Elt Ideal) G13 (P1.1 ++ L13)) (arg14.view.writes (Elt Ideal) G14 (P1.2.1 ++ L14)) (arg15.view.writes (Elt Ideal) G15 (P1.2.2 ++ L15)) N2 = P2)
    (e3 : pb_k0_t3 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1 v3 hw1 h2 v173 a1 a2 a3 X8 X16 X17 (arg13.view.writes (Elt Ideal) G13 (P2.1 ++ (P1.1 ++ L13))) (arg14.view.writes (Elt Ideal) G14 (P2.2.1 ++ (P1.2.1 ++ L14))) (arg15.view.writes (Elt Ideal) G15 (P2.2.2 ++ (P1.2.2 ++ L15))) N3 = P3)
    (e4 : pb_k0_t4 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1 v3 hw1 h2 v173 b1 b2 b3 X8 X16 X17 (arg13.view.writes (Elt Ideal) G13 (P3.1 ++ (P2.1 ++ (P1.1 ++ L13)))) (arg14.view.writes (Elt Ideal) G14 (P3.2.1 ++ (P2.2.1 ++ (P1.2.1 ++ L14)))) (arg15.view.writes (Elt Ideal) G15 (P3.2.2 ++ (P2.2.2 ++ (P1.2.2 ++ L15)))) N4 = P4)
    (hq : v1.toNat ≤ 256) (hN1 : N1 = (v1.toNat + 15) / 16) (hN2 : N2 = 0) (hN3 : N3 = (v1.toNat + 15) / 16) (hN4 : N4 = 0) :
    Stepped ((v1.toNat + 15) / 16) v173 (arg16.view.read (Elt Ideal) X16) (arg17.view.read (Elt Ideal) X17) (arg8.view.read (Elt Ideal) X8)
      (arg13.view.read (Elt Ideal) (arg13.view.writes (Elt Ideal) G13 L13)) (arg14.view.read (Elt Ideal) (arg14.view.writes (Elt Ideal) G14 L14)) (arg15.view.read (Elt Ideal) (arg15.view.writes (Elt Ideal) G15 L15))
      (arg13.view.read (Elt Ideal) (arg13.view.writes (Elt Ideal) G13 (P4.1 ++ (P3.1 ++ (P2.1 ++ (P1.1 ++ L13))))))
      (arg14.view.read (Elt Ideal) (arg14.view.writes (Elt Ideal) G14 (P4.2.1 ++ (P3.2.1 ++ (P2.2.1 ++ (P1.2.1 ++ L14))))))
      (arg15.view.read (Elt Ideal) (arg15.view.writes (Elt Ideal) G15 (P4.2.2 ++ (P3.2.2 ++ (P2.2.2 ++ (P1.2.2 ++ L15)))))) := by
  simp only [View.writes_append] at e2 e3 e4 ⊢
  have k := body_read c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1 v3 hw1 v42 h2 v173 v190 v199 a1 a2 a3 b1 b2 b3 X8 X16 X17
    (arg13.view.writes (Elt Ideal) G13 L13) (arg14.view.writes (Elt Ideal) G14 L14) (arg15.view.writes (Elt Ideal) G15 L15) N1 N2 N3 N4 P1 P2 P3 P4 e1 e2
    (by simp only [View.writes_append]; exact e3) (by simp only [View.writes_append]; exact e4) hq hN1 hN2 hN3 hN4
  simp only [View.writes_append] at k
  exact k

end Cert.KernelIdeal.Val
-- ==== Proof.Cases.lean ====
/- What one grid point that has a chunk leaves in the three running arrays, in terms of the blocks it reads. -/
module
public import proofs.«01_k».proof.Proof.Steps
public import proofs.«01_k».proof.Proof.Chunk
public import proofs.«01_k».proof.Proof.HypsIdeal
public import proofs.«01_k».proof.Proof.Gen.KernelIdeal.Frame.RunF
@[expose] public section
set_option maxRecDepth 16384
set_option maxHeartbeats 4000000
namespace Cert.KernelIdeal.Val
open Cert.KernelIdeal Cert.KernelIdeal.Gen
open Idealize.ShloMosaic Idealize.ShloMosaic.TcCoe
open Cert.Spec (Ok code)

/-- A dequantised element of a chunk: head `h`, channel `d`, the chunk's token `j`. -/
noncomputable def kval (W : Vec Ideal S1x32x1024 .i32) (S : Vec Ideal S1x2x1024 .f32) (n cl c : ℕ) (h : Fin 2) (d : Fin 64) (j : Fin 1024) : EReal :=
  if Ok n cl (c * 1024 + j.val) then code (W (ix3 0 (⟨16 * h.val + d.val / 4, by omega⟩ : Fin 32) j)) (d.val % 4) * S (ix3 0 h j) else 0

/-- A token's score. -/
noncomputable def sco (W : Vec Ideal S1x32x1024 .i32) (S : Vec Ideal S1x2x1024 .f32) (Q : Vec Ideal S1x2x64x4096 .bf16) (n cl c : ℕ) (h : Fin 2) (x : Fin 4096) (j : Fin 1024) : EReal :=
  if Ok n cl (c * 1024 + j.val) then ∑ d : Fin 64, kval W S n cl c h d j * Q (ix4 0 h d x) else Ideal.ofBits .f32 0xF149F2CA#32

/-- The columns below `256 * T` hold the values updated by chunk `c`. -/
def StepS (T n cl c : ℕ) (x0 x1 : Vec Ideal S1x32x1024 .i32) (x2 x3 : Vec Ideal S1x2x1024 .f32) (x4 : Vec Ideal S1x2x64x4096 .bf16)
    (M L : Fin 2 → Fin 4096 → EReal) (O : Fin 2 → Fin 64 → Fin 4096 → EReal) (M' L' : Vec Ideal S2x1x4096 .f32) (O' : Vec Ideal S2x64x4352 .f32) : Prop :=
  ∀ (h : Fin 2) (x : Fin 4096), x.val < 256 * T →
    M' (ix3 h 0 x) = max (M h x) (Finset.univ.fold max ⊥ (sco x0 x2 x4 n cl c h x))
    ∧ L' (ix3 h 0 x) = L h x * Ideal.exp (M h x - max (M h x) (Finset.univ.fold max ⊥ (sco x0 x2 x4 n cl c h x)))
        + ∑ j : Fin 1024, Ideal.exp (sco x0 x2 x4 n cl c h x j - max (M h x) (Finset.univ.fold max ⊥ (sco x0 x2 x4 n cl c h x)))
    ∧ ∀ d : Fin 64, O' (ix3 h d (⟨x.val, by omega⟩ : Fin 4352)) = O h d x * Ideal.exp (M h x - max (M h x) (Finset.univ.fold max ⊥ (sco x0 x2 x4 n cl c h x)))
        + ∑ j : Fin 1024, kval x1 x3 n cl c h d j * Ideal.exp (sco x0 x2 x4 n cl c h x j - max (M h x) (Finset.univ.fold max ⊥ (sco x0 x2 x4 n cl c h x)))

theorem sc_sco {n cl c : ℕ} {x0 : Vec Ideal S1x32x1024 .i32} {x2 : Vec Ideal S1x2x1024 .f32} {Q : Vec Ideal S1x2x64x4096 .bf16} {B : FVec Ideal S1024x1 .f32} {K : Vec Ideal S2x64x1024 .bf16}
    (hB : ∀ j, B (ix2 j 0) = if Ok n cl (c * 1024 + j.val) then 0 else Ideal.ofBits .f32 0xF149F2CA#32)
    (hK : ∀ h d j, K (ix3 h d j) = kval x0 x2 n cl c h d j) (h : Fin 2) (x : Fin 4096) : sc B K Q h x = sco x0 x2 Q n cl c h x := by
  funext j
  unfold sc sco
  rw [hB j]
  by_cases hk : Ok n cl (c * 1024 + j.val)
  · rw [if_pos hk, if_pos hk, add_zero]
    exact Finset.sum_congr rfl fun d _ => by rw [hK]
  · rw [if_neg hk, if_neg hk, Finset.sum_eq_zero fun d _ => by rw [hK, kval, if_neg hk, zero_mul], zero_add]

theorem stepS_of {T n cl c : ℕ} {x0 x1 : Vec Ideal S1x32x1024 .i32} {x2 x3 : Vec Ideal S1x2x1024 .f32} {x4 Q : Vec Ideal S1x2x64x4096 .bf16} {B : FVec Ideal S1024x1 .f32} {K V : Vec Ideal S2x64x1024 .bf16}
    {M L : Vec Ideal S2x1x4096 .f32} {O : Vec Ideal S2x64x4352 .f32} {M₀ L₀ : Fin 2 → Fin 4096 → EReal} {O₀ : Fin 2 → Fin 64 → Fin 4096 → EReal} {M' L' : Vec Ideal S2x1x4096 .f32} {O' : Vec Ideal S2x64x4352 .f32}
    (hB : ∀ j, B (ix2 j 0) = if Ok n cl (c * 1024 + j.val) then 0 else Ideal.ofBits .f32 0xF149F2CA#32)
    (hK : ∀ h d j, K (ix3 h d j) = kval x0 x2 n cl c h d j) (hV : ∀ h d j, V (ix3 h d j) = kval x1 x3 n cl c h d j) (hQ : Q = x4)
    (hM : ∀ h x, M (ix3 h 0 x) = M₀ h x) (hL : ∀ h x, L (ix3 h 0 x) = L₀ h x) (hO : ∀ h d (x : Fin 4096), O (ix3 h d (⟨x.val, by omega⟩ : Fin 4352)) = O₀ h d x)
    (s : Stepped T B K V Q M L O M' L' O') : StepS T n cl c x0 x1 x2 x3 x4 M₀ L₀ O₀ M' L' O' := by
  subst hQ
  intro h x hx
  obtain ⟨s1, s2, s3⟩ := s h x hx
  have em : upM B K Q M h x = max (M₀ h x) (Finset.univ.fold max ⊥ (sco x0 x2 Q n cl c h x)) := by
    unfold upM; rw [sc_sco hB hK, hM]
  refine ⟨s1.trans em, s2.trans ?_, fun d => (s3 d).trans ?_⟩
  · unfold upL; rw [em, sc_sco hB hK, hM, hL]
  · unfold upO; rw [em, sc_sco hB hK, hM, hO]
    exact congrArg (fun z => _ + z) (Finset.sum_congr rfl fun j _ => by rw [hV])

/-- Two stores of one head each, read back. -/
theorem pieces_read {sig : RefSig} {κ : Kind} {sp : Space} (v : View sig κ sp S2x64x1024 .bf16) (f : v.ty.Contents (Elt Ideal))
    (inb1 : ∀ a, (![1, 0, 0] : Fin 3 → ℕ) a + S1x64x1024.size a ≤ S2x64x1024.size a) (inb0 : ∀ a, (![0, 0, 0] : Fin 3 → ℕ) a + S1x64x1024.size a ≤ S2x64x1024.size a)
    (w1 w0 : Vec Ideal S1x64x1024 .bf16) (h : Fin 2) (d : Fin 64) (j : Fin 1024) :
    v.read (Elt Ideal) (v.writes (Elt Ideal) f [⟨Rect.unit (s := S2x64x1024) ![1, 0, 0] S1x64x1024.size inb1, w1⟩, ⟨Rect.unit (s := S2x64x1024) ![0, 0, 0] S1x64x1024.size inb0, w0⟩]) (ix3 h d j)
      = if h = 1 then w1 (ix3 0 d j) else w0 (ix3 0 d j) := by
  match h with
  | ⟨0, _⟩ =>
    refine Eq.trans ?_ (if_neg (fun e => absurd (congrArg Fin.val e) Nat.zero_ne_one)).symm
    refine (View.read_writes_cons_unit_of_not_mem v f inb1 w1 _ _ rfl 0 (Or.inl Nat.zero_lt_one)).trans ?_
    refine View.read_writes_cons_unit_of_mem v f inb0 w0 [] _ (ix3 0 d j) rfl fun a => ?_
    fin_cases a
    · rfl
    · show d.val = 0 + d.val; omega
    · show j.val = 0 + j.val; omega
  | ⟨1, _⟩ =>
    refine Eq.trans ?_ (if_pos rfl).symm
    refine View.read_writes_cons_unit_of_mem v f inb1 w1 _ _ (ix3 0 d j) rfl fun a => ?_
    fin_cases a
    · rfl
    · show d.val = 0 + d.val; omega
    · show j.val = 0 + j.val; omega

/-- One head's words and scales as the point loads them: the dequantised elements. -/
theorem deq_kval (m4 : Memref sig .tc .vmem S1x32x1024 .i32) (h4 : m4.IsWhole) (m6 : Memref sig .tc .vmem S1x2x1024 .f32) (h6 : m6.IsWhole)
    (x0 : Vec Ideal S1x32x1024 .i32) (x2 : Vec Ideal S1x2x1024 .f32) (n cl c : ℕ) (h : Fin 2) {o4 o6 : Fin 3 → ℕ}
    (e4 : o4 = ![0, 16 * h.val, 0]) (e6 : o6 = ![0, h.val, 0]) (i4 : ∀ a, o4 a + S1x16x1024.size a ≤ S1x32x1024.size a) (i6 : ∀ a, o6 a + S1x1x1024.size a ≤ S1x2x1024.size a) (d : Fin 64) (j : Fin 1024) :
    deq (m4.view.readAt (Elt Ideal) (Rect.unit (s := S1x32x1024) o4 S1x16x1024.size i4).toLoadRect (h4.unread x0))
      (m6.view.readAt (Elt Ideal) (Rect.unit (s := S1x2x1024) o6 S1x1x1024.size i6).toLoadRect (h6.unread x2)) n cl c d j = kval x0 x2 n cl c h d j := by
  subst e4 e6
  unfold deq kval
  have r4 : m4.view.readAt (Elt Ideal) (Rect.unit (s := S1x32x1024) ![0, 16 * h.val, 0] S1x16x1024.size i4).toLoadRect (h4.unread x0) (ix3 0 (⟨d.val / 4, by omega⟩ : Fin 16) j)
      = x0 (ix3 0 (⟨16 * h.val + d.val / 4, by omega⟩ : Fin 32) j) := by
    refine (rd3 m4.view (h4.unread x0) i4 (ix3 0 (⟨d.val / 4, by omega⟩ : Fin 16) j) 0 (⟨16 * h.val + d.val / 4, by omega⟩ : Fin 32) j rfl rfl ?_).trans (congrFun (h4.read_unread x0) _)
    show j.val = 0 + j.val; omega
  have r6 : m6.view.readAt (Elt Ideal) (Rect.unit (s := S1x2x1024) ![0, h.val, 0] S1x1x1024.size i6).toLoadRect (h6.unread x2) (ix3 0 0 j) = x2 (ix3 0 h j) := by
    refine (rd3 m6.view (h6.unread x2) i6 (ix3 0 0 j) 0 h j rfl rfl ?_).trans (congrFun (h6.read_unread x2) _)
    show j.val = 0 + j.val; omega
  exact if_congr Iff.rfl (congrArg₂ (· * ·) (congrArg (fun w => code w (d.val % 4)) r4) r6) rfl

/-- The start values of a sequence, as the first point stores them. -/
theorem init3 {sig' : RefSig} {κ : Kind} {sp : Space} (v : View sig' κ sp S2x1x4096 .f32) (m9 : Memref sig .tc .vmem S1x2x1x4096 .f32) (h9 : m9.IsWhole) (x5 : Vec Ideal S1x2x1x4096 .f32)
    (f : v.ty.Contents (Elt Ideal)) (inb : ∀ a, (![0, 0, 0] : Fin 3 → ℕ) a + (![2, 1, 4096] : Fin 3 → ℕ) a ≤ S2x1x4096.size a)
    (inb9 : ∀ a, (![0, 0, 0, 0] : Fin 4 → ℕ) a + S1x2x1x4096.size a ≤ S1x2x1x4096.size a) (h : Fin 2) (x : Fin 4096) :
    v.read (Elt Ideal) (v.writes (Elt Ideal) f [⟨Rect.unit (s := S2x1x4096) ![0, 0, 0] ![2, 1, 4096] inb,
      k0_pay1 (F := Ideal) (m9.view.readAt (Elt Ideal) (Rect.unit (s := S1x2x1x4096) ![0, 0, 0, 0] S1x2x1x4096.size inb9).toLoadRect (h9.unread x5))⟩]) (ix3 h 0 x) = x5 (ix4 0 h 0 x) := by
  refine (View.read_writes_cons_unit_of_mem v f inb _ [] _ (ix3 h 0 x) rfl fun a => ?_).trans ?_
  · fin_cases a
    · show h.val = 0 + h.val; omega
    · rfl
    · show x.val = 0 + x.val; omega
  · have e : ∀ w : Vec Ideal S1x2x1x4096 .f32, k0_pay1 (F := Ideal) w (ix3 h 0 x) = w (ix4 0 h 0 x) := fun w => by pointwise [k0_pay1]
    refine (e _).trans ((rd4 m9.view (h9.unread x5) inb9 (ix4 0 h 0 x) 0 h 0 x rfl ?_ rfl ?_).trans (congrFun (h9.read_unread x5) _))
    · show h.val = 0 + h.val; omega
    · show x.val = 0 + x.val; omega

theorem init4 {sig' : RefSig} {κ : Kind} {sp : Space} (v : View sig' κ sp S2x64x4352 .f32) (m11 : Memref sig .tc .vmem S1x2x64x4096 .f32) (h11 : m11.IsWhole) (x7 : Vec Ideal S1x2x64x4096 .f32)
    (f : v.ty.Contents (Elt Ideal)) (P : List (View.Piece (Elt Ideal) S2x64x4352 .f32)) (inb : ∀ a, (![0, 0, 0] : Fin 3 → ℕ) a + (![2, 64, 4096] : Fin 3 → ℕ) a ≤ S2x64x4352.size a)
    (inb11 : ∀ a, (![0, 0, 0, 0] : Fin 4 → ℕ) a + S1x2x64x4096.size a ≤ S1x2x64x4096.size a) (h : Fin 2) (d : Fin 64) (x : Fin 4096) :
    v.read (Elt Ideal) (v.writes (Elt Ideal) f (⟨Rect.unit (s := S2x64x4352) ![0, 0, 0] ![2, 64, 4096] inb,
      k0_pay4 (F := Ideal) (m11.view.readAt (Elt Ideal) (Rect.unit (s := S1x2x64x4096) ![0, 0, 0, 0] S1x2x64x4096.size inb11).toLoadRect (h11.unread x7))⟩ :: P))
      (ix3 h d (⟨x.val, by omega⟩ : Fin 4352)) = x7 (ix4 0 h d x) := by
  refine (View.read_writes_cons_unit_of_mem v f inb _ P _ (ix3 h d x) rfl fun a => ?_).trans ?_
  · fin_cases a
    · show h.val = 0 + h.val; omega
    · show d.val = 0 + d.val; omega
    · show x.val = 0 + x.val; omega
  · have e : ∀ w : Vec Ideal S1x2x64x4096 .f32, k0_pay4 (F := Ideal) w (ix3 h d x) = w (ix4 0 h d x) := fun w => by pointwise [k0_pay4]
    refine (e _).trans ((rd4 m11.view (h11.unread x7) inb11 (ix4 0 h d x) 0 h d x rfl ?_ ?_ ?_).trans (congrFun (h11.read_unread x7) _))
    · show h.val = 0 + h.val; omega
    · show d.val = 0 + d.val; omega
    · show x.val = 0 + x.val; omega

theorem step_A (c : Dev nD) (i : grid0.Coords) (arg4 : Memref sig .tc .vmem S1x32x1024 .i32) (harg4 : arg4.IsWhole) (arg5 : Memref sig .tc .vmem S1x32x1024 .i32) (harg5 : arg5.IsWhole) (arg6 : Memref sig .tc .vmem S1x2x1024 .f32) (harg6 : arg6.IsWhole) (arg7 : Memref sig .tc .vmem S1x2x1024 .f32) (harg7 : arg7.IsWhole) (arg8 : Memref sig .tc .vmem S1x2x64x4096 .bf16) (harg8 : arg8.IsWhole) (arg9 : Memref sig .tc .vmem S1x2x1x4096 .f32) (harg9 : arg9.IsWhole) (arg10 : Memref sig .tc .vmem S1x2x1x4096 .f32) (harg10 : arg10.IsWhole) (arg11 : Memref sig .tc .vmem S1x2x64x4096 .f32) (harg11 : arg11.IsWhole) (arg12 : Memref sig .tc .vmem S1x32x64x256 .bf16) (harg12 : arg12.IsWhole) (arg13 : Memref sig .tc .vmem S2x1x4096 .f32) (harg13 : arg13.IsWhole) (arg14 : Memref sig .tc .vmem S2x1x4096 .f32) (harg14 : arg14.IsWhole) (arg15 : Memref sig .tc .vmem S2x64x4352 .f32) (harg15 : arg15.IsWhole) (arg16 : Memref sig .tc .vmem S2x64x1024 .bf16) (harg16 : arg16.IsWhole) (arg17 : Memref sig .tc .vmem S2x64x1024 .bf16) (harg17 : arg17.IsWhole) (hc0 : cond0_0 i) (hc2 : ¬cond0_2 i) (x0 : Vec Ideal S1x32x1024 .i32) (x1 : Vec Ideal S1x32x1024 .i32) (x2 : Vec Ideal S1x2x1024 .f32) (x3 : Vec Ideal S1x2x1024 .f32) (x4 : Vec Ideal S1x2x64x4096 .bf16) (x5 : Vec Ideal S1x2x1x4096 .f32) (x6 : Vec Ideal S1x2x1x4096 .f32) (x7 : Vec Ideal S1x2x64x4096 .f32) (xt0 : TbBuf0 (F := Ideal) c tbM0_0) (xt1 : TbBuf0 (F := Ideal) c tbM0_1)  (hc1 : cond0_1 i (tbM0_1.view.readAt (Elt Ideal) (Rect.unit (s := S4) (k0_off1 i) S1.size (k0_off1_inb i)).toLoadRect xt1 (Shape.Idx.first (numel1_S1.symm ▸ Nat.one_pos)))) (k0_hw2 : k0_chk2 i (tbM0_0.view.readAt (Elt Ideal) (Rect.unit (s := S4) (k0_off1 i) S1.size (k0_off1_inb i)).toLoadRect xt0 (Shape.Idx.first (numel1_S1.symm ▸ Nat.one_pos)))) (k0_hw1 : k0_chk1 i (tbM0_0.view.readAt (Elt Ideal) (Rect.unit (s := S4) (k0_off1 i) S1.size (k0_off1_inb i)).toLoadRect xt0 (Shape.Idx.first (numel1_S1.symm ▸ Nat.one_pos))) (tbM0_1.view.readAt (Elt Ideal) (Rect.unit (s := S4) (k0_off1 i) S1.size (k0_off1_inb i)).toLoadRect xt1 (Shape.Idx.first (numel1_S1.symm ▸ Nat.one_pos))))
    (q cl n : ℕ) (hq : (tbM0_0.view.readAt (Elt Ideal) (Rect.unit (s := S4) (k0_off1 i) S1.size (k0_off1_inb i)).toLoadRect xt0 (Shape.Idx.first (numel1_S1.symm ▸ Nat.one_pos))).toNat = q) (hq' : q ≤ 256) (hcl : (tbM0_1.view.readAt (Elt Ideal) (Rect.unit (s := S4) (k0_off1 i) S1.size (k0_off1_inb i)).toLoadRect xt1 (Shape.Idx.first (numel1_S1.symm ▸ Nat.one_pos))).toNat = cl) (h1 : 1 ≤ cl) (hcl' : cl ≤ 131072) (hn : n = (cl + 2047) / 2048 * 128) :
    StepS ((q + 15) / 16) n cl (i 1).val x0 x1 x2 x3 x4 (fun h x => x5 (ix4 0 h 0 x)) (fun h x => x6 (ix4 0 h 0 x)) (fun h d x => x7 (ix4 0 h d x))
      (arg13.view.read (Elt Ideal) (arg13.view.writes (Elt Ideal) arg13.view.junk (kernelRun0_A (F := Ideal) c i arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xt1 hc1 k0_hw2 k0_hw1).2.1))
      (arg14.view.read (Elt Ideal) (arg14.view.writes (Elt Ideal) arg14.view.junk (kernelRun0_A (F := Ideal) c i arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xt1 hc1 k0_hw2 k0_hw1).2.2.1))
      (arg15.view.read (Elt Ideal) (arg15.view.writes (Elt Ideal) arg15.view.junk (kernelRun0_A (F := Ideal) c i arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xt1 hc1 k0_hw2 k0_hw1).2.2.2.1)) := by
  have hA : At (i 1).val cl n (BitVec.ofNat 32 (i 1).val) (tbM0_1.view.readAt (Elt Ideal) (Rect.unit (s := S4) (k0_off1 i) S1.size (k0_off1_inb i)).toLoadRect xt1 (Shape.Idx.first (numel1_S1.symm ▸ Nat.one_pos))) (kernelRun0_A.sl.v23 c i xt1) :=
    ⟨(i 1).isLt, by omega, by omega, hcl', by rw [BitVec.toNat_ofNat]; exact Nat.mod_eq_of_lt (by have : (i 1).val < 128 := (i 1).isLt; omega), hcl,
      (Cert.Words.pages_toNat (hcl.symm ▸ h1) (hcl.symm ▸ hcl')).trans (Eq.trans (congrArg (fun z => (z + 2047) / 2048 * 128) hcl) hn.symm)⟩
  subst hq
  unfold kernelRun0_A
  dsimp only
  refine stepS_of (n := n) (cl := cl) (c := (i 1).val) (x0 := x0) (x2 := x2) (x1 := x1) (x3 := x3) (fun j => pay47_apply hA j) ?_ ?_ (harg8.read_unread x4) ?_ ?_ ?_
    (body_read_init c i tbM0_0 htbM0_0 tbM0_1 htbM0_1 arg4 harg4 arg5 harg5 arg6 harg6 arg7 harg7 arg8 harg8 arg9 harg9 arg10 harg10 arg11 harg11 arg12 harg12 arg13 harg13 arg14 harg14 arg15 harg15 arg16 harg16 arg17 harg17 _ _ _ _ _ _ _ _ _ _ _ _ _ _ _ _ _ _ _ _ (kernelRun0_A.sl.HS0_1 c arg9 harg9 x5) (kernelRun0_A.sl.HS1_1 c arg10 harg10 x6) (kernelRun0_A.sl.HS2_2 c arg11 harg11 x7) _ _ _ _ _ _ _ _ rfl rfl rfl rfl hq' (Hyp.t1_trips hq').1 Hyp.t2_trips.1 (Hyp.t3_trips hq').1 Hyp.t4_trips.1)
  · intro h d j
    refine (pieces_read arg16.view _ _ _ _ _ h d j).trans ?_
    fin_cases h
    · exact (deq_pay41 hA _ _ d j).trans (deq_kval arg4 harg4 arg6 harg6 x0 x2 n cl (i 1).val 0 rfl rfl _ _ d j)
    · exact (deq_pay44 hA _ _ d j).trans (deq_kval arg4 harg4 arg6 harg6 x0 x2 n cl (i 1).val 1 rfl rfl _ _ d j)
  · intro h d j
    refine (pieces_read arg17.view _ _ _ _ _ h d j).trans ?_
    fin_cases h
    · exact (deq_pay43 hA _ _ d j).trans (deq_kval arg5 harg5 arg7 harg7 x1 x3 n cl (i 1).val 0 rfl rfl _ _ d j)
    · exact (deq_pay46 hA _ _ d j).trans (deq_kval arg5 harg5 arg7 harg7 x1 x3 n cl (i 1).val 1 rfl rfl _ _ d j)
  · intro h x; exact init3 arg13.view arg9 harg9 x5 _ _ _ h x
  · intro h x; exact init3 arg14.view arg10 harg10 x6 _ _ _ h x
  · intro h d x; exact init4 arg15.view arg11 harg11 x7 _ _ _ _ h d x

theorem step_C (c : Dev nD) (i : grid0.Coords) (arg4 : Memref sig .tc .vmem S1x32x1024 .i32) (harg4 : arg4.IsWhole) (arg5 : Memref sig .tc .vmem S1x32x1024 .i32) (harg5 : arg5.IsWhole) (arg6 : Memref sig .tc .vmem S1x2x1024 .f32) (harg6 : arg6.IsWhole) (arg7 : Memref sig .tc .vmem S1x2x1024 .f32) (harg7 : arg7.IsWhole) (arg8 : Memref sig .tc .vmem S1x2x64x4096 .bf16) (harg8 : arg8.IsWhole) (arg9 : Memref sig .tc .vmem S1x2x1x4096 .f32) (harg9 : arg9.IsWhole) (arg10 : Memref sig .tc .vmem S1x2x1x4096 .f32) (harg10 : arg10.IsWhole) (arg11 : Memref sig .tc .vmem S1x2x64x4096 .f32) (harg11 : arg11.IsWhole) (arg12 : Memref sig .tc .vmem S1x32x64x256 .bf16) (harg12 : arg12.IsWhole) (arg13 : Memref sig .tc .vmem S2x1x4096 .f32) (harg13 : arg13.IsWhole) (arg14 : Memref sig .tc .vmem S2x1x4096 .f32) (harg14 : arg14.IsWhole) (arg15 : Memref sig .tc .vmem S2x64x4352 .f32) (harg15 : arg15.IsWhole) (arg16 : Memref sig .tc .vmem S2x64x1024 .bf16) (harg16 : arg16.IsWhole) (arg17 : Memref sig .tc .vmem S2x64x1024 .bf16) (harg17 : arg17.IsWhole) (hc0 : ¬cond0_0 i) (hc2 : ¬cond0_2 i) (x0 : Vec Ideal S1x32x1024 .i32) (x1 : Vec Ideal S1x32x1024 .i32) (x2 : Vec Ideal S1x2x1024 .f32) (x3 : Vec Ideal S1x2x1024 .f32) (x4 : Vec Ideal S1x2x64x4096 .bf16) (x5 : Vec Ideal S1x2x1x4096 .f32) (x6 : Vec Ideal S1x2x1x4096 .f32) (x7 : Vec Ideal S1x2x64x4096 .f32) (xt0 : TbBuf0 (F := Ideal) c tbM0_0) (xt1 : TbBuf0 (F := Ideal) c tbM0_1) (xs0 : Vec Ideal S2x1x4096 .f32) (xs1 : Vec Ideal S2x1x4096 .f32) (xs2 : Vec Ideal S2x64x4352 .f32) (hc1 : cond0_1 i (tbM0_1.view.readAt (Elt Ideal) (Rect.unit (s := S4) (k0_off1 i) S1.size (k0_off1_inb i)).toLoadRect xt1 (Shape.Idx.first (numel1_S1.symm ▸ Nat.one_pos)))) (k0_hw2 : k0_chk2 i (tbM0_0.view.readAt (Elt Ideal) (Rect.unit (s := S4) (k0_off1 i) S1.size (k0_off1_inb i)).toLoadRect xt0 (Shape.Idx.first (numel1_S1.symm ▸ Nat.one_pos)))) (k0_hw1 : k0_chk1 i (tbM0_0.view.readAt (Elt Ideal) (Rect.unit (s := S4) (k0_off1 i) S1.size (k0_off1_inb i)).toLoadRect xt0 (Shape.Idx.first (numel1_S1.symm ▸ Nat.one_pos))) (tbM0_1.view.readAt (Elt Ideal) (Rect.unit (s := S4) (k0_off1 i) S1.size (k0_off1_inb i)).toLoadRect xt1 (Shape.Idx.first (numel1_S1.symm ▸ Nat.one_pos))))
    (q cl n : ℕ) (hq : (tbM0_0.view.readAt (Elt Ideal) (Rect.unit (s := S4) (k0_off1 i) S1.size (k0_off1_inb i)).toLoadRect xt0 (Shape.Idx.first (numel1_S1.symm ▸ Nat.one_pos))).toNat = q) (hq' : q ≤ 256) (hcl : (tbM0_1.view.readAt (Elt Ideal) (Rect.unit (s := S4) (k0_off1 i) S1.size (k0_off1_inb i)).toLoadRect xt1 (Shape.Idx.first (numel1_S1.symm ▸ Nat.one_pos))).toNat = cl) (h1 : 1 ≤ cl) (hcl' : cl ≤ 131072) (hn : n = (cl + 2047) / 2048 * 128) :
    StepS ((q + 15) / 16) n cl (i 1).val x0 x1 x2 x3 x4 (fun h x => xs0 (ix3 h 0 x)) (fun h x => xs1 (ix3 h 0 x)) (fun h d x => xs2 (ix3 h d (⟨x.val, by omega⟩ : Fin 4352)))
      (arg13.view.read (Elt Ideal) (arg13.view.writes (Elt Ideal) (harg13.unread xs0) (kernelRun0_C (F := Ideal) c i arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xt1 xs0 xs1 xs2 hc1 k0_hw2 k0_hw1).2.1))
      (arg14.view.read (Elt Ideal) (arg14.view.writes (Elt Ideal) (harg14.unread xs1) (kernelRun0_C (F := Ideal) c i arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xt1 xs0 xs1 xs2 hc1 k0_hw2 k0_hw1).2.2.1))
      (arg15.view.read (Elt Ideal) (arg15.view.writes (Elt Ideal) (harg15.unread xs2) (kernelRun0_C (F := Ideal) c i arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xt1 xs0 xs1 xs2 hc1 k0_hw2 k0_hw1).2.2.2.1)) := by
  have hA : At (i 1).val cl n (BitVec.ofNat 32 (i 1).val) (tbM0_1.view.readAt (Elt Ideal) (Rect.unit (s := S4) (k0_off1 i) S1.size (k0_off1_inb i)).toLoadRect xt1 (Shape.Idx.first (numel1_S1.symm ▸ Nat.one_pos))) (kernelRun0_C.sl.v23 c i xt1) :=
    ⟨(i 1).isLt, by omega, by omega, hcl', by rw [BitVec.toNat_ofNat]; exact Nat.mod_eq_of_lt (by have : (i 1).val < 128 := (i 1).isLt; omega), hcl,
      (Cert.Words.pages_toNat (hcl.symm ▸ h1) (hcl.symm ▸ hcl')).trans (Eq.trans (congrArg (fun z => (z + 2047) / 2048 * 128) hcl) hn.symm)⟩
  subst hq
  unfold kernelRun0_C
  dsimp only
  refine stepS_of (n := n) (cl := cl) (c := (i 1).val) (x0 := x0) (x2 := x2) (x1 := x1) (x3 := x3) (fun j => pay47_apply hA j) ?_ ?_ (harg8.read_unread x4) (fun h x => congrFun (harg13.read_unread xs0) _) (fun h x => congrFun (harg14.read_unread xs1) _) (fun h d x => congrFun (harg15.read_unread xs2) _)
    (body_read c i tbM0_0 htbM0_0 tbM0_1 htbM0_1 arg4 harg4 arg5 harg5 arg6 harg6 arg7 harg7 arg8 harg8 arg9 harg9 arg10 harg10 arg11 harg11 arg12 harg12 arg13 harg13 arg14 harg14 arg15 harg15 arg16 harg16 arg17 harg17 _ _ _ _ _ _ _ _ _ _ _ _ _ _ _ _ _ _ _ _ _ _ _ _ _ _ _ _ rfl rfl rfl rfl hq' (Hyp.t1_trips hq').1 Hyp.t2_trips.1 (Hyp.t3_trips hq').1 Hyp.t4_trips.1)
  · intro h d j
    refine (pieces_read arg16.view _ _ _ _ _ h d j).trans ?_
    fin_cases h
    · exact (deq_pay41 hA _ _ d j).trans (deq_kval arg4 harg4 arg6 harg6 x0 x2 n cl (i 1).val 0 rfl rfl _ _ d j)
    · exact (deq_pay44 hA _ _ d j).trans (deq_kval arg4 harg4 arg6 harg6 x0 x2 n cl (i 1).val 1 rfl rfl _ _ d j)
  · intro h d j
    refine (pieces_read arg17.view _ _ _ _ _ h d j).trans ?_
    fin_cases h
    · exact (deq_pay43 hA _ _ d j).trans (deq_kval arg5 harg5 arg7 harg7 x1 x3 n cl (i 1).val 0 rfl rfl _ _ d j)
    · exact (deq_pay46 hA _ _ d j).trans (deq_kval arg5 harg5 arg7 harg7 x1 x3 n cl (i 1).val 1 rfl rfl _ _ d j)

end Cert.KernelIdeal.Val
-- ==== Proof.Out.lean ====
/- The last point of a sequence: the running output divided by the running sum, laid out per query head and masked to the sequence's queries. -/
module
public import proofs.«01_k».proof.Proof.Trips
public import proofs.«01_k».proof.Proof.Chunk
public import Idealize.ShloMosaic.Lib.KernelVsHost
@[expose] public section
set_option maxRecDepth 16384
set_option maxHeartbeats 4000000
namespace Cert.KernelIdeal.Val
open Cert.KernelIdeal Cert.KernelIdeal.Gen
open Idealize.ShloMosaic Idealize.ShloMosaic.TcCoe

/-- The first column of head `g` of a group of heads, when a head has `q` queries. -/
abbrev col0 (q g : ℕ) : ℕ := g * ((q + 15) / 16 * 16)

theorem col0_le {q g : ℕ} (hq : q ≤ 256) (hg : g < 16) : col0 q g ≤ 15 * 256 := Nat.mul_le_mul (by omega) (by omega)

/-- The amount a head's columns are rotated by. -/
theorem amount {q : BitVec 32} (hq : q.toNat ≤ 256) {g : ℕ} (hg : g < 16) :
    (Scalar.subi 384#32 (Scalar.subi (Scalar.muli (Scalar.addi 0#32 (Scalar.muli (Scf.iv 0#32 1#32 g) 1#32)) (Cert.Words.padded q))
      (Scalar.muli (Cert.Words.fdiv (Scalar.muli (Scalar.addi 0#32 (Scalar.muli (Scf.iv 0#32 1#32 g) 1#32)) (Cert.Words.padded q)) 128#32) 128#32))).toNat
      = 384 - col0 q.toNat g % 128 := by
  have e := Cert.Words.start_toNat hq hg
  have f := Cert.Words.base_toNat hq hg
  have b := col0_le hq hg
  generalize Scalar.muli (Cert.Words.fdiv (Scalar.muli (Scalar.addi 0#32 (Scalar.muli (Scf.iv 0#32 1#32 g) 1#32)) (Cert.Words.padded q)) 128#32) 128#32 = y at f ⊢
  generalize Scalar.muli (Scalar.addi 0#32 (Scalar.muli (Scf.iv 0#32 1#32 g) 1#32)) (Cert.Words.padded q) = x at e ⊢
  change x.toNat = col0 q.toNat g at e
  change y.toNat = col0 q.toNat g / 128 * 128 at f
  generalize col0 q.toNat g = z at *
  simp only [Scalar.subi, IntOp.subi, BitVec.toNat_sub, BitVec.toNat_ofNat]
  rw [e, f]; omega

theorem rotated (w : FVec Ideal S64x384 .f32) (sb : BitVec 32) (o : ℕ) (ho : o < 128) (hs : sb.toNat = 384 - o) (d : Fin 64) (x : Fin 256) :
    dynamicRotate 1 sb none w rotates_S64x384_d1 (ix2 d (⟨x.val, by omega⟩ : Fin 384)) = w (ix2 d (⟨o + x.val, by omega⟩ : Fin 384)) := by
  refine dynamicRotate_apply (1 : Fin S64x384.rank) sb w rotates_S64x384_d1 _ _ fun b => ?_
  have hx := x.isLt
  match b with
  | ⟨0, _⟩ => exact (if_neg (fun e => absurd (congrArg Fin.val e) Nat.zero_ne_one)).symm
  | ⟨1, _⟩ =>
    refine Eq.trans ?_ (if_pos rfl).symm
    rw [hs]
    show o + x.val = (x.val + 384 - (384 - o) % 384) % 384
    omega

theorem slt_lanes {q : BitVec 32} (hq : q.toNat ≤ 256) (x : Fin 256) : (BitVec.ofNat 32 x.val).slt q = decide (x.val < q.toNat) := by
  have hx := x.isLt
  have e : (BitVec.ofNat 32 x.val).toNat = x.val := by rw [BitVec.toNat_ofNat]; omega
  rw [BitVec.slt, Cert.Words.toInt_of_lt (by omega), Cert.Words.toInt_of_lt (by omega), e]
  exact decide_eq_decide.2 Nat.cast_lt

/-- The layout of one head: a rotation, the first 256 lanes, and zeros past the queries. -/
noncomputable def lay (sb v1 : BitVec 32) (w : Vec Ideal S1x64x384 .f32) : FVec Ideal S1x1x64x256 .bf16 :=
  shapeCast S1x1x64x256 (truncf (F := Ideal) .bf16 (select (cmpi .slt (iota .tc S64x256 32 [1] iota_S64x256_d1_w32) (broadcast S64x256 v1))
    (extractStridedSlice S64x256 ![0, 0] (dynamicRotate 1 sb none (shapeCast S64x384 w shapeCasts_S1x64x384_S64x384) rotates_S64x384_d1) slices_S64x384_o0_0_S64x256)
    (broadcast S64x256 (Scalar.ofBits (F := Ideal) .f32 0x00000000#32))) bitsLt_bf16_f32) shapeCasts_S64x256_S1x1x64x256

theorem lay_apply {v1 : BitVec 32} (hq : v1.toNat ≤ 256) (sb : BitVec 32) (o : ℕ) (ho : o < 128) (hs : sb.toNat = 384 - o)
    (w : Vec Ideal S1x64x384 .f32) (d : Fin 64) (x : Fin 256) :
    lay sb v1 w (ix4 0 0 d x) = if x.val < v1.toNat then w (ix3 0 d (⟨o + x.val, by omega⟩ : Fin 384)) else 0 := by
  have hr := fun w' => rotated w' sb o ho hs d x
  have hl : IntOp.cmpi .slt (BitVec.ofNat 32 x.val) v1 = BitVec.ofBool (decide (x.val < v1.toNat)) := congrArg BitVec.ofBool (slt_lanes hq x)
  by_cases hx : x.val < v1.toNat
  · rw [if_pos hx]
    rw [decide_eq_true hx] at hl
    pointwise [lay, hr]
    rw [hl]; rfl
  · rw [if_neg hx]
    rw [decide_eq_false hx] at hl
    pointwise [lay]
    rw [hl]; rfl

/-- What a trip stores: the head's columns, from the first one on, zero past the queries. -/
theorem pay8_apply {v1 : BitVec 32} (hq : v1.toNat ≤ 256) (v36 v38 : BitVec 1) (h36 : v36 = Scalar.cmpi .ne (Scalar.subi (Scalar.extui (Scalar.cmpi .sgt (Scalar.addi v1 15#32) 0#32)) (Scalar.extui (Scalar.cmpi .slt (Scalar.addi v1 15#32) 0#32))) 1#32)
    (h38 : v38 = Scalar.cmpi .ne (Scalar.remsi (Scalar.addi v1 15#32) 16#32) 0#32) (t : Fin k0_t5_loop.trips)
    (w : Vec Ideal S1x64x384 .f32) (d : Fin 64) (x : Fin 256) :
    k0_pay8 (F := Ideal) v1 (Scalar.divsi (Scalar.addi v1 15#32) 16#32) v36 v38 t w (ix4 0 0 d x)
      = if x.val < v1.toNat then w (ix3 0 d (⟨col0 v1.toNat t.val % 128 + x.val, by omega⟩ : Fin 384)) else 0 := by
  subst h36 h38
  exact lay_apply hq _ _ (Nat.mod_lt _ (by decide)) (amount hq (Hyp.t5_lt t)) w d x

theorem pay10_apply {v1 : BitVec 32} (hq : v1.toNat ≤ 256) (v36 v38 : BitVec 1) (h36 : v36 = Scalar.cmpi .ne (Scalar.subi (Scalar.extui (Scalar.cmpi .sgt (Scalar.addi v1 15#32) 0#32)) (Scalar.extui (Scalar.cmpi .slt (Scalar.addi v1 15#32) 0#32))) 1#32)
    (h38 : v38 = Scalar.cmpi .ne (Scalar.remsi (Scalar.addi v1 15#32) 16#32) 0#32) (t : Fin k0_t6_loop.trips)
    (w : Vec Ideal S1x64x384 .f32) (d : Fin 64) (x : Fin 256) :
    k0_pay10 (F := Ideal) v1 (Scalar.divsi (Scalar.addi v1 15#32) 16#32) v36 v38 t w (ix4 0 0 d x)
      = if x.val < v1.toNat then w (ix3 0 d (⟨col0 v1.toNat t.val % 128 + x.val, by omega⟩ : Fin 384)) else 0 := by
  subst h36 h38
  exact lay_apply hq _ _ (Nat.mod_lt _ (by decide)) (amount hq (Hyp.t6_lt t)) w d x

/-- One head's store, read back. -/
theorem wr4 {sig' : RefSig} {κ : Kind} {sp : Space} (v : View sig' κ sp S1x32x64x256 .bf16) (f : v.ty.Contents (Elt Ideal)) {off : Fin 4 → ℕ}
    (inb : ∀ a, off a + (![1, 1, 64, 256] : Fin 4 → ℕ) a ≤ S1x32x64x256.size a) (w : (Rect.unit (s := S1x32x64x256) off ![1, 1, 64, 256] inb).shape.Idx → Elt Ideal .bf16)
    (P : List (View.Piece (Elt Ideal) S1x32x64x256 .bf16)) (k : ℕ) (he : off = ![0, k, 0, 0]) (j : Fin 32) (d : Fin 64) (x : Fin 256) :
    v.read (Elt Ideal) (v.writes (Elt Ideal) f (⟨Rect.unit (s := S1x32x64x256) off ![1, 1, 64, 256] inb, w⟩ :: P)) (ix4 0 j d x)
      = if j.val = k then w (ix4 (0 : Fin 1) (0 : Fin 1) d x) else v.read (Elt Ideal) (v.writes (Elt Ideal) f P) (ix4 0 j d x) := by
  split
  · rename_i h
    subst h
    refine View.read_writes_cons_unit_of_mem v f inb w P _ _ he fun a => ?_
    match a with
    | ⟨0, _⟩ => rfl
    | ⟨1, _⟩ => rfl
    | ⟨2, _⟩ => show d.val = 0 + d.val; omega
    | ⟨3, _⟩ => show x.val = 0 + x.val; omega
  · rename_i h
    refine View.read_writes_cons_unit_of_not_mem v f inb w P _ he (1 : Fin 4) ?_
    show j.val < k ∨ k + 1 ≤ j.val
    omega

/-- The heads of group 0, laid out by their loop. -/
theorem t5_read (c : Dev nD) (i : grid0.Coords) (arg2 : Memref sig .tc .smem S4 .i32) (harg2 : arg2.IsWhole) (arg3 : Memref sig .tc .smem S4 .i32) (harg3 : arg3.IsWhole) (arg4 : Memref sig .tc .vmem S1x32x1024 .i32) (harg4 : arg4.IsWhole) (arg5 : Memref sig .tc .vmem S1x32x1024 .i32) (harg5 : arg5.IsWhole) (arg6 : Memref sig .tc .vmem S1x2x1024 .f32) (harg6 : arg6.IsWhole) (arg7 : Memref sig .tc .vmem S1x2x1024 .f32) (harg7 : arg7.IsWhole) (arg8 : Memref sig .tc .vmem S1x2x64x4096 .bf16) (harg8 : arg8.IsWhole) (arg9 : Memref sig .tc .vmem S1x2x1x4096 .f32) (harg9 : arg9.IsWhole) (arg10 : Memref sig .tc .vmem S1x2x1x4096 .f32) (harg10 : arg10.IsWhole) (arg11 : Memref sig .tc .vmem S1x2x64x4096 .f32) (harg11 : arg11.IsWhole) (arg12 : Memref sig .tc .vmem S1x32x64x256 .bf16) (harg12 : arg12.IsWhole) (arg13 : Memref sig .tc .vmem S2x1x4096 .f32) (harg13 : arg13.IsWhole) (arg14 : Memref sig .tc .vmem S2x1x4096 .f32) (harg14 : arg14.IsWhole) (arg15 : Memref sig .tc .vmem S2x64x4352 .f32) (harg15 : arg15.IsWhole) (arg16 : Memref sig .tc .vmem S2x64x1024 .bf16) (harg16 : arg16.IsWhole) (arg17 : Memref sig .tc .vmem S2x64x1024 .bf16) (harg17 : arg17.IsWhole)
    (v1 : Elt Ideal .i32) (k0_hw2 : k0_chk2 i v1) (k0_h3 : k0_cond3 i = 1#1) (hq : v1.toNat ≤ 256) (v36 v38 : BitVec 1) (h36 : v36 = Scalar.cmpi .ne (Scalar.subi (Scalar.extui (Scalar.cmpi .sgt (Scalar.addi v1 15#32) 0#32)) (Scalar.extui (Scalar.cmpi .slt (Scalar.addi v1 15#32) 0#32))) 1#32)
    (h38 : v38 = Scalar.cmpi .ne (Scalar.remsi (Scalar.addi v1 15#32) 16#32) 0#32) (X : BufTy.Contents (Elt Ideal) arg15.view.ty) {sig' : RefSig} {κ : Kind} {sp : Space} (v : View sig' κ sp S1x32x64x256 .bf16) (f : v.ty.Contents (Elt Ideal))
    (P : List (View.Piece (Elt Ideal) S1x32x64x256 .bf16)) (j : Fin 32) (d : Fin 64) (x : Fin 256) : ∀ (K : ℕ) (hK : K ≤ 16),
    v.read (Elt Ideal) (v.writes (Elt Ideal) f (pb_k0_t5 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1 k0_hw2 (Scalar.divsi (Scalar.addi v1 15#32) 16#32) v36 v38 k0_h3 X K ++ P)) (ix4 0 j d x)
      = if hj : 0 ≤ j.val ∧ j.val < 0 + K then if x.val < v1.toNat then arg15.view.read (Elt Ideal) X (ix3 0 d (⟨col0 v1.toNat (j.val - 0) + x.val, by have := col0_le (q := v1.toNat) (g := j.val - 0) hq (by omega); omega⟩ : Fin 4352)) else 0
        else v.read (Elt Ideal) (v.writes (Elt Ideal) f P) (ix4 0 j d x)
  | 0, _ => by
    rw [dif_neg (by omega)]; rfl
  | K + 1, hK => by
    have ih := t5_read c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1 k0_hw2 k0_h3 hq v36 v38 h36 h38 X v f P j d x K (by omega)
    have hs := pb_k0_t5_succ (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1 k0_hw2 (Scalar.divsi (Scalar.addi v1 15#32) 16#32) v36 v38 k0_h3 X ⟨K, Nat.lt_of_lt_of_eq (Nat.lt_of_succ_le hK) (by decide)⟩
    have e1 : k0_off15 (⟨K, Nat.lt_of_lt_of_eq (Nat.lt_of_succ_le hK) (by decide)⟩ : Fin k0_t5_loop.trips) = ![0, 0 + K, 0, 0] := by
      have := Cert.Words.iv_toNat (k := K) (by omega)
      show ![0, (Scalar.addi 0#32 (Scalar.addi 0#32 (Scalar.muli (Scf.iv 0#32 1#32 K) 1#32))).toNat, 0, 0] = _
      congr 2
      generalize Scalar.addi 0#32 (Scalar.muli (Scf.iv 0#32 1#32 K) 1#32) = z at this
      simp only [Scalar.addi, IntOp.addi, BitVec.toNat_add, BitVec.toNat_ofNat, this]; omega
    have e2 := Hyp.mult5 hq (⟨K, Nat.lt_of_lt_of_eq (Nat.lt_of_succ_le hK) (by decide)⟩ : Fin k0_t5_loop.trips)
    change (k0_mult5 v1 _).toNat = col0 v1.toNat K / 128 * 128 at e2
    have b := col0_le (q := v1.toNat) (g := K) hq (by omega)
    rw [hs]
    unfold tripL_k0_t5 trip_k0_t5
    refine (wr4 v f (off := k0_off15 (⟨K, Nat.lt_of_lt_of_eq (Nat.lt_of_succ_le hK) (by decide)⟩ : Fin k0_t5_loop.trips)) _ _ _ _ e1 j d x).trans ?_
    by_cases hj : j.val = 0 + K
    · rw [if_pos hj, dif_pos (by omega)]
      refine (pay8_apply hq v36 v38 h36 h38 _ _ d x).trans ?_
      by_cases hx : x.val < v1.toNat
      · rw [if_pos hx, if_pos hx]
        refine rd3 arg15.view X _ _ 0 d _ rfl ?_ ?_
        · show d.val = 0 + d.val; omega
        · show col0 v1.toNat (j.val - 0) + x.val = (k0_mult5 v1 _).toNat + (col0 v1.toNat K % 128 + x.val)
          rw [e2, show j.val - 0 = K by omega]; omega
      · rw [if_neg hx, if_neg hx]
    · rw [if_neg hj]
      refine ih.trans ?_
      by_cases hh : 0 ≤ j.val ∧ j.val < 0 + K
      · rw [dif_pos hh, dif_pos (by omega)]
      · rw [dif_neg hh, dif_neg (by omega)]

/-- The heads of group 1, laid out by their loop. -/
theorem t6_read (c : Dev nD) (i : grid0.Coords) (arg2 : Memref sig .tc .smem S4 .i32) (harg2 : arg2.IsWhole) (arg3 : Memref sig .tc .smem S4 .i32) (harg3 : arg3.IsWhole) (arg4 : Memref sig .tc .vmem S1x32x1024 .i32) (harg4 : arg4.IsWhole) (arg5 : Memref sig .tc .vmem S1x32x1024 .i32) (harg5 : arg5.IsWhole) (arg6 : Memref sig .tc .vmem S1x2x1024 .f32) (harg6 : arg6.IsWhole) (arg7 : Memref sig .tc .vmem S1x2x1024 .f32) (harg7 : arg7.IsWhole) (arg8 : Memref sig .tc .vmem S1x2x64x4096 .bf16) (harg8 : arg8.IsWhole) (arg9 : Memref sig .tc .vmem S1x2x1x4096 .f32) (harg9 : arg9.IsWhole) (arg10 : Memref sig .tc .vmem S1x2x1x4096 .f32) (harg10 : arg10.IsWhole) (arg11 : Memref sig .tc .vmem S1x2x64x4096 .f32) (harg11 : arg11.IsWhole) (arg12 : Memref sig .tc .vmem S1x32x64x256 .bf16) (harg12 : arg12.IsWhole) (arg13 : Memref sig .tc .vmem S2x1x4096 .f32) (harg13 : arg13.IsWhole) (arg14 : Memref sig .tc .vmem S2x1x4096 .f32) (harg14 : arg14.IsWhole) (arg15 : Memref sig .tc .vmem S2x64x4352 .f32) (harg15 : arg15.IsWhole) (arg16 : Memref sig .tc .vmem S2x64x1024 .bf16) (harg16 : arg16.IsWhole) (arg17 : Memref sig .tc .vmem S2x64x1024 .bf16) (harg17 : arg17.IsWhole)
    (v1 : Elt Ideal .i32) (k0_hw2 : k0_chk2 i v1) (k0_h3 : k0_cond3 i = 1#1) (hq : v1.toNat ≤ 256) (v36 v38 : BitVec 1) (h36 : v36 = Scalar.cmpi .ne (Scalar.subi (Scalar.extui (Scalar.cmpi .sgt (Scalar.addi v1 15#32) 0#32)) (Scalar.extui (Scalar.cmpi .slt (Scalar.addi v1 15#32) 0#32))) 1#32)
    (h38 : v38 = Scalar.cmpi .ne (Scalar.remsi (Scalar.addi v1 15#32) 16#32) 0#32) (X : BufTy.Contents (Elt Ideal) arg15.view.ty) {sig' : RefSig} {κ : Kind} {sp : Space} (v : View sig' κ sp S1x32x64x256 .bf16) (f : v.ty.Contents (Elt Ideal))
    (P : List (View.Piece (Elt Ideal) S1x32x64x256 .bf16)) (j : Fin 32) (d : Fin 64) (x : Fin 256) : ∀ (K : ℕ) (hK : K ≤ 16),
    v.read (Elt Ideal) (v.writes (Elt Ideal) f (pb_k0_t6 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1 k0_hw2 (Scalar.divsi (Scalar.addi v1 15#32) 16#32) v36 v38 k0_h3 X K ++ P)) (ix4 0 j d x)
      = if hj : 16 ≤ j.val ∧ j.val < 16 + K then if x.val < v1.toNat then arg15.view.read (Elt Ideal) X (ix3 1 d (⟨col0 v1.toNat (j.val - 16) + x.val, by have := col0_le (q := v1.toNat) (g := j.val - 16) hq (by omega); omega⟩ : Fin 4352)) else 0
        else v.read (Elt Ideal) (v.writes (Elt Ideal) f P) (ix4 0 j d x)
  | 0, _ => by
    rw [dif_neg (by omega)]; rfl
  | K + 1, hK => by
    have ih := t6_read c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1 k0_hw2 k0_h3 hq v36 v38 h36 h38 X v f P j d x K (by omega)
    have hs := pb_k0_t6_succ (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1 k0_hw2 (Scalar.divsi (Scalar.addi v1 15#32) 16#32) v36 v38 k0_h3 X ⟨K, Nat.lt_of_lt_of_eq (Nat.lt_of_succ_le hK) (by decide)⟩
    have e1 : k0_off17 (⟨K, Nat.lt_of_lt_of_eq (Nat.lt_of_succ_le hK) (by decide)⟩ : Fin k0_t6_loop.trips) = ![0, 16 + K, 0, 0] := by
      have := Cert.Words.iv_toNat (k := K) (by omega)
      show ![0, (Scalar.addi 16#32 (Scalar.addi 0#32 (Scalar.muli (Scf.iv 0#32 1#32 K) 1#32))).toNat, 0, 0] = _
      congr 2
      generalize Scalar.addi 0#32 (Scalar.muli (Scf.iv 0#32 1#32 K) 1#32) = z at this
      simp only [Scalar.addi, IntOp.addi, BitVec.toNat_add, BitVec.toNat_ofNat, this]; omega
    have e2 := Hyp.mult6 hq (⟨K, Nat.lt_of_lt_of_eq (Nat.lt_of_succ_le hK) (by decide)⟩ : Fin k0_t6_loop.trips)
    change (k0_mult6 v1 _).toNat = col0 v1.toNat K / 128 * 128 at e2
    have b := col0_le (q := v1.toNat) (g := K) hq (by omega)
    rw [hs]
    unfold tripL_k0_t6 trip_k0_t6
    refine (wr4 v f (off := k0_off17 (⟨K, Nat.lt_of_lt_of_eq (Nat.lt_of_succ_le hK) (by decide)⟩ : Fin k0_t6_loop.trips)) _ _ _ _ e1 j d x).trans ?_
    by_cases hj : j.val = 16 + K
    · rw [if_pos hj, dif_pos (by omega)]
      refine (pay10_apply hq v36 v38 h36 h38 _ _ d x).trans ?_
      by_cases hx : x.val < v1.toNat
      · rw [if_pos hx, if_pos hx]
        refine rd3 arg15.view X _ _ 1 d _ rfl ?_ ?_
        · show d.val = 0 + d.val; omega
        · show col0 v1.toNat (j.val - 16) + x.val = (k0_mult6 v1 _).toNat + (col0 v1.toNat K % 128 + x.val)
          rw [e2, show j.val - 16 = K by omega]; omega
      · rw [if_neg hx, if_neg hx]
    · rw [if_neg hj]
      refine ih.trans ?_
      by_cases hh : 16 ≤ j.val ∧ j.val < 16 + K
      · rw [dif_pos hh, dif_pos (by omega)]
      · rw [dif_neg hh, dif_neg (by omega)]

theorem pay7_apply (w : Vec Ideal S1x64x4096 .f32) (u : Vec Ideal S1x1x4096 .f32) (d : Fin 64) (x : Fin 4096) :
    k0_pay7 (F := Ideal) w u (ix3 0 d x) = w (ix3 0 d x) * Ideal.div 1 (u (ix3 0 0 x)) := by
  pointwise [k0_pay7]

/-- One head's stores of normalised columns, read back. -/
theorem wrO {sig' : RefSig} {κ : Kind} {sp : Space} (v : View sig' κ sp S2x64x4352 .f32) (f : v.ty.Contents (Elt Ideal)) {off : Fin 3 → ℕ}
    (inb : ∀ a, off a + (![1, 64, 4096] : Fin 3 → ℕ) a ≤ S2x64x4352.size a) (w : (Rect.unit (s := S2x64x4352) off ![1, 64, 4096] inb).shape.Idx → Elt Ideal .f32)
    (P : List (View.Piece (Elt Ideal) S2x64x4352 .f32)) (k : ℕ) (he : off = ![k, 0, 0]) (h : Fin 2) (d : Fin 64) (x : Fin 4096) :
    v.read (Elt Ideal) (v.writes (Elt Ideal) f (⟨Rect.unit (s := S2x64x4352) off ![1, 64, 4096] inb, w⟩ :: P)) (ix3 h d (⟨x.val, by omega⟩ : Fin 4352))
      = if h.val = k then w (ix3 (0 : Fin 1) d x) else v.read (Elt Ideal) (v.writes (Elt Ideal) f P) (ix3 h d (⟨x.val, by omega⟩ : Fin 4352)) := by
  split
  · rename_i hh
    subst hh
    refine View.read_writes_cons_unit_of_mem v f inb w P _ _ he fun a => ?_
    match a with
    | ⟨0, _⟩ => rfl
    | ⟨1, _⟩ => show d.val = 0 + d.val; omega
    | ⟨2, _⟩ => show x.val = 0 + x.val; omega
  · rename_i hh
    refine View.read_writes_cons_unit_of_not_mem v f inb w P _ he (0 : Fin 3) ?_
    show h.val < k ∨ k + 1 ≤ h.val
    omega

/-- A loaded row of normalisers or of outputs, by head. -/
theorem col_lt {q : ℕ} (hq : q ≤ 256) (j : Fin 32) (x : Fin 256) (hx : x.val < q) : col0 q (j.val % 16) + x.val < 4096 := by
  have := col0_le (q := q) (g := j.val % 16) hq (by omega)
  omega

/-- What the last point of a sequence leaves in the output block. -/
theorem norm_read (c : Dev nD) (i : grid0.Coords) (arg2 : Memref sig .tc .smem S4 .i32) (harg2 : arg2.IsWhole) (arg3 : Memref sig .tc .smem S4 .i32) (harg3 : arg3.IsWhole) (arg4 : Memref sig .tc .vmem S1x32x1024 .i32) (harg4 : arg4.IsWhole) (arg5 : Memref sig .tc .vmem S1x32x1024 .i32) (harg5 : arg5.IsWhole) (arg6 : Memref sig .tc .vmem S1x2x1024 .f32) (harg6 : arg6.IsWhole) (arg7 : Memref sig .tc .vmem S1x2x1024 .f32) (harg7 : arg7.IsWhole) (arg8 : Memref sig .tc .vmem S1x2x64x4096 .bf16) (harg8 : arg8.IsWhole) (arg9 : Memref sig .tc .vmem S1x2x1x4096 .f32) (harg9 : arg9.IsWhole) (arg10 : Memref sig .tc .vmem S1x2x1x4096 .f32) (harg10 : arg10.IsWhole) (arg11 : Memref sig .tc .vmem S1x2x64x4096 .f32) (harg11 : arg11.IsWhole) (arg12 : Memref sig .tc .vmem S1x32x64x256 .bf16) (harg12 : arg12.IsWhole) (arg13 : Memref sig .tc .vmem S2x1x4096 .f32) (harg13 : arg13.IsWhole) (arg14 : Memref sig .tc .vmem S2x1x4096 .f32) (harg14 : arg14.IsWhole) (arg15 : Memref sig .tc .vmem S2x64x4352 .f32) (harg15 : arg15.IsWhole) (arg16 : Memref sig .tc .vmem S2x64x1024 .bf16) (harg16 : arg16.IsWhole) (arg17 : Memref sig .tc .vmem S2x64x1024 .bf16) (harg17 : arg17.IsWhole)
    (v1 : Elt Ideal .i32) (k0_hw2 : k0_chk2 i v1) (k0_h3 : k0_cond3 i = 1#1) (hq : v1.toNat ≤ 256) (v36 v38 : BitVec 1) (h36 : v36 = Scalar.cmpi .ne (Scalar.subi (Scalar.extui (Scalar.cmpi .sgt (Scalar.addi v1 15#32) 0#32)) (Scalar.extui (Scalar.cmpi .slt (Scalar.addi v1 15#32) 0#32))) 1#32)
    (h38 : v38 = Scalar.cmpi .ne (Scalar.remsi (Scalar.addi v1 15#32) 16#32) 0#32)
    {sig' : RefSig} {κ : Kind} {sp : Space} (v : View sig' κ sp S1x32x64x256 .bf16) (f : v.ty.Contents (Elt Ideal))
    (G : arg15.view.ty.Contents (Elt Ideal)) (P : List (View.Piece (Elt Ideal) S2x64x4352 .f32))
    (w73 w85 : Vec Ideal S1x64x4096 .f32) (w75 w87 : Vec Ideal S1x1x4096 .f32) (O : Fin 2 → Fin 64 → Fin 4096 → EReal) (L : Fin 2 → Fin 4096 → EReal)
    (h73 : ∀ d x, w73 (ix3 0 d x) = O 0 d x) (h75 : ∀ x, w75 (ix3 0 0 x) = L 0 x) (h85 : ∀ d x, w85 (ix3 0 d x) = O 1 d x) (h87 : ∀ x, w87 (ix3 0 0 x) = L 1 x)
    (K5 K6 : ℕ) (e5 : K5 = 16) (e6 : K6 = 16) (j : Fin 32) (d : Fin 64) (x : Fin 256) :
    v.read (Elt Ideal) (v.writes (Elt Ideal) f
      (pb_k0_t6 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1 k0_hw2 (Scalar.divsi (Scalar.addi v1 15#32) 16#32) v36 v38 k0_h3 (arg15.view.writes (Elt Ideal) G (⟨(Rect.unit (s := S2x64x4352) ![1, 0, 0] ![1, 64, 4096] inb_S2x64x4352_S1x64x4096_1_0_0), k0_pay9 (F := Ideal) w85 w87⟩ :: ⟨(Rect.unit (s := S2x64x4352) ![0, 0, 0] ![1, 64, 4096] inb_S2x64x4352_S1x64x4096_0_0_0), k0_pay7 (F := Ideal) w73 w75⟩ :: P)) K6
        ++ pb_k0_t5 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1 k0_hw2 (Scalar.divsi (Scalar.addi v1 15#32) 16#32) v36 v38 k0_h3 (arg15.view.writes (Elt Ideal) G (⟨(Rect.unit (s := S2x64x4352) ![0, 0, 0] ![1, 64, 4096] inb_S2x64x4352_S1x64x4096_0_0_0), k0_pay7 (F := Ideal) w73 w75⟩ :: P)) K5)) (ix4 0 j d x)
      = if hx : x.val < v1.toNat then O (⟨j.val / 16, by omega⟩ : Fin 2) d ⟨col0 v1.toNat (j.val % 16) + x.val, col_lt hq j x hx⟩
          * Ideal.div 1 (L (⟨j.val / 16, by omega⟩ : Fin 2) ⟨col0 v1.toNat (j.val % 16) + x.val, col_lt hq j x hx⟩) else 0 := by
  subst e5 e6
  have hj := j.isLt
  refine (t6_read c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1 k0_hw2 k0_h3 hq v36 v38 h36 h38 _ v f _ j d x 16 le_rfl).trans ?_
  by_cases h6 : 16 ≤ j.val
  · rw [dif_pos (by omega)]
    by_cases hx : x.val < v1.toNat
    · rw [if_pos hx, dif_pos hx]
      have e : (⟨j.val / 16, by omega⟩ : Fin 2) = 1 := Fin.ext (by show j.val / 16 = 1; omega)
      have e' : j.val - 16 = j.val % 16 := by omega
      simp only [e']
      rw [e]
      refine (wrO arg15.view G (off := ![1, 0, 0]) _ _ _ 1 rfl 1 d (⟨col0 v1.toNat (j.val % 16) + x.val, col_lt hq j x hx⟩ : Fin 4096)).trans ?_
      refine (if_pos rfl).trans ((pay7_apply w85 w87 d _).trans ?_)
      rw [h85, h87]
    · rw [if_neg hx, dif_neg hx]
  · rw [dif_neg (by omega), ← List.append_nil (pb_k0_t5 _ _ _ _ _ _ _ _ _ _ _ _ _ _ _ _ _ _ _ _ _ _ _ _ _ _ _ _ _ _ _ _ _ _ _ _ _ _ _ _ _ _ _ _)]
    refine (t5_read c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1 k0_hw2 k0_h3 hq v36 v38 h36 h38 _ v f _ j d x 16 le_rfl).trans ?_
    rw [dif_pos (by omega)]
    by_cases hx : x.val < v1.toNat
    · rw [if_pos hx, dif_pos hx]
      have e : (⟨j.val / 16, by omega⟩ : Fin 2) = 0 := Fin.ext (by show j.val / 16 = 0; omega)
      have e' : j.val - 0 = j.val % 16 := by omega
      simp only [e']
      rw [e]
      refine (wrO arg15.view G (off := ![0, 0, 0]) _ _ _ 0 rfl 0 d (⟨col0 v1.toNat (j.val % 16) + x.val, col_lt hq j x hx⟩ : Fin 4096)).trans ?_
      refine (if_pos rfl).trans ((pay7_apply w73 w75 d _).trans ?_)
      rw [h73, h75]
    · rw [if_neg hx, dif_neg hx]

end Cert.KernelIdeal.Val
-- ==== Proof.Last.lean ====
/- The last grid point of a sequence, with a chunk of its own or without one: the output block it leaves. -/
module
public import proofs.«01_k».proof.Proof.Cases
public import proofs.«01_k».proof.Proof.Out
public import proofs.«01_k».proof.Proof.Gen.KernelIdeal.Frame.RunF
public import proofs.«01_k».proof.Proof.Gen.KernelIdeal.Frame.RunE
@[expose] public section
set_option maxRecDepth 16384
set_option maxHeartbeats 1000000
namespace Cert.KernelIdeal.Val
open Cert.KernelIdeal Cert.KernelIdeal.Gen
open Idealize.ShloMosaic Idealize.ShloMosaic.TcCoe
open Cert.Spec (Ok code)

/-- The output block made of the running sums and outputs. -/
def Laid (q : ℕ) (hq : q ≤ 256) (L : Fin 2 → Fin 4096 → EReal) (O : Fin 2 → Fin 64 → Fin 4096 → EReal) (B : Vec Ideal S1x32x64x256 .bf16) : Prop :=
  ∀ (j : Fin 32) (d : Fin 64) (x : Fin 256), B (ix4 0 j d x)
    = if hx : x.val < q then O (⟨j.val / 16, by omega⟩ : Fin 2) d ⟨col0 q (j.val % 16) + x.val, col_lt hq j x hx⟩
        * Ideal.div 1 (L (⟨j.val / 16, by omega⟩ : Fin 2) ⟨col0 q (j.val % 16) + x.val, col_lt hq j x hx⟩) else 0

theorem norm_laid (c : Dev nD) (i : grid0.Coords) (arg2 : Memref sig .tc .smem S4 .i32) (harg2 : arg2.IsWhole) (arg3 : Memref sig .tc .smem S4 .i32) (harg3 : arg3.IsWhole) (arg4 : Memref sig .tc .vmem S1x32x1024 .i32) (harg4 : arg4.IsWhole) (arg5 : Memref sig .tc .vmem S1x32x1024 .i32) (harg5 : arg5.IsWhole) (arg6 : Memref sig .tc .vmem S1x2x1024 .f32) (harg6 : arg6.IsWhole) (arg7 : Memref sig .tc .vmem S1x2x1024 .f32) (harg7 : arg7.IsWhole) (arg8 : Memref sig .tc .vmem S1x2x64x4096 .bf16) (harg8 : arg8.IsWhole) (arg9 : Memref sig .tc .vmem S1x2x1x4096 .f32) (harg9 : arg9.IsWhole) (arg10 : Memref sig .tc .vmem S1x2x1x4096 .f32) (harg10 : arg10.IsWhole) (arg11 : Memref sig .tc .vmem S1x2x64x4096 .f32) (harg11 : arg11.IsWhole) (arg12 : Memref sig .tc .vmem S1x32x64x256 .bf16) (harg12 : arg12.IsWhole) (arg13 : Memref sig .tc .vmem S2x1x4096 .f32) (harg13 : arg13.IsWhole) (arg14 : Memref sig .tc .vmem S2x1x4096 .f32) (harg14 : arg14.IsWhole) (arg15 : Memref sig .tc .vmem S2x64x4352 .f32) (harg15 : arg15.IsWhole) (arg16 : Memref sig .tc .vmem S2x64x1024 .bf16) (harg16 : arg16.IsWhole) (arg17 : Memref sig .tc .vmem S2x64x1024 .bf16) (harg17 : arg17.IsWhole)
    (v1 : Elt Ideal .i32) (k0_hw2 : k0_chk2 i v1) (k0_h3 : k0_cond3 i = 1#1) (hq : v1.toNat ≤ 256) (v36 v38 : BitVec 1) (h36 : v36 = Scalar.cmpi .ne (Scalar.subi (Scalar.extui (Scalar.cmpi .sgt (Scalar.addi v1 15#32) 0#32)) (Scalar.extui (Scalar.cmpi .slt (Scalar.addi v1 15#32) 0#32))) 1#32)
    (h38 : v38 = Scalar.cmpi .ne (Scalar.remsi (Scalar.addi v1 15#32) 16#32) 0#32)
    {sig' : RefSig} {κ : Kind} {sp : Space} (v : View sig' κ sp S1x32x64x256 .bf16) (f : v.ty.Contents (Elt Ideal))
    (G : arg15.view.ty.Contents (Elt Ideal)) (P : List (View.Piece (Elt Ideal) S2x64x4352 .f32))
    (w73 w85 : Vec Ideal S1x64x4096 .f32) (w75 w87 : Vec Ideal S1x1x4096 .f32) (O : Fin 2 → Fin 64 → Fin 4096 → EReal) (L : Fin 2 → Fin 4096 → EReal)
    (h73 : ∀ d x, w73 (ix3 0 d x) = O 0 d x) (h75 : ∀ x, w75 (ix3 0 0 x) = L 0 x) (h85 : ∀ d x, w85 (ix3 0 d x) = O 1 d x) (h87 : ∀ x, w87 (ix3 0 0 x) = L 1 x)
    (K5 K6 : ℕ) (e5 : K5 = 16) (e6 : K6 = 16) :
    Laid v1.toNat hq L O (v.read (Elt Ideal) (v.writes (Elt Ideal) f
      (pb_k0_t6 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1 k0_hw2 (Scalar.divsi (Scalar.addi v1 15#32) 16#32) v36 v38 k0_h3 (arg15.view.writes (Elt Ideal) G (⟨(Rect.unit (s := S2x64x4352) ![1, 0, 0] ![1, 64, 4096] inb_S2x64x4352_S1x64x4096_1_0_0), k0_pay9 (F := Ideal) w85 w87⟩ :: ⟨(Rect.unit (s := S2x64x4352) ![0, 0, 0] ![1, 64, 4096] inb_S2x64x4352_S1x64x4096_0_0_0), k0_pay7 (F := Ideal) w73 w75⟩ :: P)) K6
        ++ pb_k0_t5 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1 k0_hw2 (Scalar.divsi (Scalar.addi v1 15#32) 16#32) v36 v38 k0_h3 (arg15.view.writes (Elt Ideal) G (⟨(Rect.unit (s := S2x64x4352) ![0, 0, 0] ![1, 64, 4096] inb_S2x64x4352_S1x64x4096_0_0_0), k0_pay7 (F := Ideal) w73 w75⟩ :: P)) K5))) :=
  fun j d x => norm_read c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1 k0_hw2 k0_h3 hq v36 v38 h36 h38 v f G P w73 w85 w75 w87 O L h73 h75 h85 h87 K5 K6 e5 e6 j d x

section Rows
variable {sg : RefSig} {κ : Kind} {sp : Space}

/-- A loaded head of the running outputs. -/
theorem ldO (v : View sg κ sp S2x64x4352 .f32) (f : v.ty.Contents (Elt Ideal)) (h : Fin 2) {off : Fin 3 → ℕ} (he : off = ![h.val, 0, 0])
    (inb : ∀ a, off a + (![1, 64, 4096] : Fin 3 → ℕ) a ≤ S2x64x4352.size a) (d : Fin 64) (x : Fin 4096) :
    v.readAt (Elt Ideal) (Rect.unit (s := S2x64x4352) off ![1, 64, 4096] inb).toLoadRect f (ix3 0 d x)
      = v.read (Elt Ideal) f (ix3 h d (⟨x.val, by omega⟩ : Fin 4352)) := by
  subst he
  refine rd3 v f inb (ix3 0 d x) h d _ rfl ?_ ?_
  · show d.val = 0 + d.val; omega
  · show x.val = 0 + x.val; omega

/-- A loaded head of the running sums. -/
theorem ldL (v : View sg κ sp S2x1x4096 .f32) (f : v.ty.Contents (Elt Ideal)) (h : Fin 2) {off : Fin 3 → ℕ} (he : off = ![h.val, 0, 0])
    (inb : ∀ a, off a + (![1, 1, 4096] : Fin 3 → ℕ) a ≤ S2x1x4096.size a) (x : Fin 4096) :
    v.readAt (Elt Ideal) (Rect.unit (s := S2x1x4096) off ![1, 1, 4096] inb).toLoadRect f (ix3 0 0 x)
      = v.read (Elt Ideal) f (ix3 h 0 x) := by
  subst he
  refine rd3 v f inb (ix3 0 0 x) h 0 x rfl rfl ?_
  show x.val = 0 + x.val; omega
end Rows

theorem out_F (c : Dev nD) (i : grid0.Coords) (arg4 : Memref sig .tc .vmem S1x32x1024 .i32) (harg4 : arg4.IsWhole) (arg5 : Memref sig .tc .vmem S1x32x1024 .i32) (harg5 : arg5.IsWhole) (arg6 : Memref sig .tc .vmem S1x2x1024 .f32) (harg6 : arg6.IsWhole) (arg7 : Memref sig .tc .vmem S1x2x1024 .f32) (harg7 : arg7.IsWhole) (arg8 : Memref sig .tc .vmem S1x2x64x4096 .bf16) (harg8 : arg8.IsWhole) (arg9 : Memref sig .tc .vmem S1x2x1x4096 .f32) (harg9 : arg9.IsWhole) (arg10 : Memref sig .tc .vmem S1x2x1x4096 .f32) (harg10 : arg10.IsWhole) (arg11 : Memref sig .tc .vmem S1x2x64x4096 .f32) (harg11 : arg11.IsWhole) (arg12 : Memref sig .tc .vmem S1x32x64x256 .bf16) (harg12 : arg12.IsWhole) (arg13 : Memref sig .tc .vmem S2x1x4096 .f32) (harg13 : arg13.IsWhole) (arg14 : Memref sig .tc .vmem S2x1x4096 .f32) (harg14 : arg14.IsWhole) (arg15 : Memref sig .tc .vmem S2x64x4352 .f32) (harg15 : arg15.IsWhole) (arg16 : Memref sig .tc .vmem S2x64x1024 .bf16) (harg16 : arg16.IsWhole) (arg17 : Memref sig .tc .vmem S2x64x1024 .bf16) (harg17 : arg17.IsWhole) (hc0 : ¬cond0_0 i) (hc2 : cond0_2 i) (x0 : Vec Ideal S1x32x1024 .i32) (x1 : Vec Ideal S1x32x1024 .i32) (x2 : Vec Ideal S1x2x1024 .f32) (x3 : Vec Ideal S1x2x1024 .f32) (x4 : Vec Ideal S1x2x64x4096 .bf16) (x5 : Vec Ideal S1x2x1x4096 .f32) (x6 : Vec Ideal S1x2x1x4096 .f32) (x7 : Vec Ideal S1x2x64x4096 .f32) (xt0 : TbBuf0 (F := Ideal) c tbM0_0) (xt1 : TbBuf0 (F := Ideal) c tbM0_1) (xs0 : Vec Ideal S2x1x4096 .f32) (xs1 : Vec Ideal S2x1x4096 .f32) (xs2 : Vec Ideal S2x64x4352 .f32) (hc1 : ¬cond0_1 i (tbM0_1.view.readAt (Elt Ideal) (Rect.unit (s := S4) (k0_off1 i) S1.size (k0_off1_inb i)).toLoadRect xt1 (Shape.Idx.first (numel1_S1.symm ▸ Nat.one_pos)))) (k0_hw2 : k0_chk2 i (tbM0_0.view.readAt (Elt Ideal) (Rect.unit (s := S4) (k0_off1 i) S1.size (k0_off1_inb i)).toLoadRect xt0 (Shape.Idx.first (numel1_S1.symm ▸ Nat.one_pos)))) (k0_hw1 : k0_chk1 i (tbM0_0.view.readAt (Elt Ideal) (Rect.unit (s := S4) (k0_off1 i) S1.size (k0_off1_inb i)).toLoadRect xt0 (Shape.Idx.first (numel1_S1.symm ▸ Nat.one_pos))) (tbM0_1.view.readAt (Elt Ideal) (Rect.unit (s := S4) (k0_off1 i) S1.size (k0_off1_inb i)).toLoadRect xt1 (Shape.Idx.first (numel1_S1.symm ▸ Nat.one_pos))))
    {sig' : RefSig} {κ : Kind} {sp : Space} (v : View sig' κ sp S1x32x64x256 .bf16) (f : v.ty.Contents (Elt Ideal)) (q : ℕ) (hq : (tbM0_0.view.readAt (Elt Ideal) (Rect.unit (s := S4) (k0_off1 i) S1.size (k0_off1_inb i)).toLoadRect xt0 (Shape.Idx.first (numel1_S1.symm ▸ Nat.one_pos))).toNat = q) (hq' : q ≤ 256) :
    Laid q hq' (fun h x => xs1 (ix3 h 0 x)) (fun h d x => xs2 (ix3 h d (⟨x.val, by omega⟩ : Fin 4352)))
      (v.read (Elt Ideal) (v.writes (Elt Ideal) f (kernelRun0_F (F := Ideal) c i arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xt1 xs0 xs1 xs2 hc1 k0_hw2 k0_hw1).1)) := by
  subst hq
  unfold kernelRun0_F
  dsimp only
  refine norm_laid c i tbM0_0 htbM0_0 tbM0_1 htbM0_1 arg4 harg4 arg5 harg5 arg6 harg6 arg7 harg7 arg8 harg8 arg9 harg9 arg10 harg10 arg11 harg11 arg12 harg12 arg13 harg13 arg14 harg14 arg15 harg15 arg16 harg16 arg17 harg17 _ k0_hw2 _ hq' _ _ rfl rfl v f _ _ _ _ _ _
    _ _ ?_ ?_ ?_ ?_ _ _ ?_ ?_
  · intro d x; exact (ldO arg15.view _ 0 rfl _ d x).trans (congrFun (harg15.read_unread xs2) _)
  · intro x; exact (ldL arg14.view _ 0 rfl _ x).trans (congrFun (harg14.read_unread xs1) _)
  · intro d x; exact (ldO arg15.view _ 1 rfl _ d x).trans (congrFun (harg15.read_unread xs2) _)
  · intro x; exact (ldL arg14.view _ 1 rfl _ x).trans (congrFun (harg14.read_unread xs1) _)
  · decide
  · decide

theorem out_E (c : Dev nD) (i : grid0.Coords) (arg4 : Memref sig .tc .vmem S1x32x1024 .i32) (harg4 : arg4.IsWhole) (arg5 : Memref sig .tc .vmem S1x32x1024 .i32) (harg5 : arg5.IsWhole) (arg6 : Memref sig .tc .vmem S1x2x1024 .f32) (harg6 : arg6.IsWhole) (arg7 : Memref sig .tc .vmem S1x2x1024 .f32) (harg7 : arg7.IsWhole) (arg8 : Memref sig .tc .vmem S1x2x64x4096 .bf16) (harg8 : arg8.IsWhole) (arg9 : Memref sig .tc .vmem S1x2x1x4096 .f32) (harg9 : arg9.IsWhole) (arg10 : Memref sig .tc .vmem S1x2x1x4096 .f32) (harg10 : arg10.IsWhole) (arg11 : Memref sig .tc .vmem S1x2x64x4096 .f32) (harg11 : arg11.IsWhole) (arg12 : Memref sig .tc .vmem S1x32x64x256 .bf16) (harg12 : arg12.IsWhole) (arg13 : Memref sig .tc .vmem S2x1x4096 .f32) (harg13 : arg13.IsWhole) (arg14 : Memref sig .tc .vmem S2x1x4096 .f32) (harg14 : arg14.IsWhole) (arg15 : Memref sig .tc .vmem S2x64x4352 .f32) (harg15 : arg15.IsWhole) (arg16 : Memref sig .tc .vmem S2x64x1024 .bf16) (harg16 : arg16.IsWhole) (arg17 : Memref sig .tc .vmem S2x64x1024 .bf16) (harg17 : arg17.IsWhole) (hc0 : ¬cond0_0 i) (hc2 : cond0_2 i) (x0 : Vec Ideal S1x32x1024 .i32) (x1 : Vec Ideal S1x32x1024 .i32) (x2 : Vec Ideal S1x2x1024 .f32) (x3 : Vec Ideal S1x2x1024 .f32) (x4 : Vec Ideal S1x2x64x4096 .bf16) (x5 : Vec Ideal S1x2x1x4096 .f32) (x6 : Vec Ideal S1x2x1x4096 .f32) (x7 : Vec Ideal S1x2x64x4096 .f32) (xt0 : TbBuf0 (F := Ideal) c tbM0_0) (xt1 : TbBuf0 (F := Ideal) c tbM0_1) (xs0 : Vec Ideal S2x1x4096 .f32) (xs1 : Vec Ideal S2x1x4096 .f32) (xs2 : Vec Ideal S2x64x4352 .f32) (hc1 : cond0_1 i (tbM0_1.view.readAt (Elt Ideal) (Rect.unit (s := S4) (k0_off1 i) S1.size (k0_off1_inb i)).toLoadRect xt1 (Shape.Idx.first (numel1_S1.symm ▸ Nat.one_pos)))) (k0_hw2 : k0_chk2 i (tbM0_0.view.readAt (Elt Ideal) (Rect.unit (s := S4) (k0_off1 i) S1.size (k0_off1_inb i)).toLoadRect xt0 (Shape.Idx.first (numel1_S1.symm ▸ Nat.one_pos)))) (k0_hw1 : k0_chk1 i (tbM0_0.view.readAt (Elt Ideal) (Rect.unit (s := S4) (k0_off1 i) S1.size (k0_off1_inb i)).toLoadRect xt0 (Shape.Idx.first (numel1_S1.symm ▸ Nat.one_pos))) (tbM0_1.view.readAt (Elt Ideal) (Rect.unit (s := S4) (k0_off1 i) S1.size (k0_off1_inb i)).toLoadRect xt1 (Shape.Idx.first (numel1_S1.symm ▸ Nat.one_pos))))
    {sig' : RefSig} {κ : Kind} {sp : Space} (v : View sig' κ sp S1x32x64x256 .bf16) (f : v.ty.Contents (Elt Ideal)) (q cl n : ℕ) (hq : (tbM0_0.view.readAt (Elt Ideal) (Rect.unit (s := S4) (k0_off1 i) S1.size (k0_off1_inb i)).toLoadRect xt0 (Shape.Idx.first (numel1_S1.symm ▸ Nat.one_pos))).toNat = q) (hq' : q ≤ 256) (hcl : (tbM0_1.view.readAt (Elt Ideal) (Rect.unit (s := S4) (k0_off1 i) S1.size (k0_off1_inb i)).toLoadRect xt1 (Shape.Idx.first (numel1_S1.symm ▸ Nat.one_pos))).toNat = cl) (h1 : 1 ≤ cl) (hcl' : cl ≤ 131072) (hn : n = (cl + 2047) / 2048 * 128) :
    ∃ (M' L' : Vec Ideal S2x1x4096 .f32) (O' : Vec Ideal S2x64x4352 .f32),
      StepS ((q + 15) / 16) n cl (i 1).val x0 x1 x2 x3 x4 (fun h x => xs0 (ix3 h 0 x)) (fun h x => xs1 (ix3 h 0 x)) (fun h d x => xs2 (ix3 h d (⟨x.val, by omega⟩ : Fin 4352))) M' L' O'
      ∧ Laid q hq' (fun h x => L' (ix3 h 0 x)) (fun h d x => O' (ix3 h d (⟨x.val, by omega⟩ : Fin 4352)))
        (v.read (Elt Ideal) (v.writes (Elt Ideal) f (kernelRun0_E (F := Ideal) c i arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xt1 xs0 xs1 xs2 hc1 k0_hw2 k0_hw1).1)) := by
  have hA : At (i 1).val cl n (BitVec.ofNat 32 (i 1).val) (tbM0_1.view.readAt (Elt Ideal) (Rect.unit (s := S4) (k0_off1 i) S1.size (k0_off1_inb i)).toLoadRect xt1 (Shape.Idx.first (numel1_S1.symm ▸ Nat.one_pos))) (kernelRun0_E.sl.v23 c i xt1) :=
    ⟨(i 1).isLt, by omega, by omega, hcl', by rw [BitVec.toNat_ofNat]; exact Nat.mod_eq_of_lt (by have : (i 1).val < 128 := (i 1).isLt; omega), hcl,
      (Cert.Words.pages_toNat (hcl.symm ▸ h1) (hcl.symm ▸ hcl')).trans (Eq.trans (congrArg (fun z => (z + 2047) / 2048 * 128) hcl) hn.symm)⟩
  subst hq
  refine ⟨arg13.view.read (Elt Ideal) (arg13.view.writes (Elt Ideal) (harg13.unread xs0) (kernelRun0_E (F := Ideal) c i arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xt1 xs0 xs1 xs2 hc1 k0_hw2 k0_hw1).2.1), ?_⟩
  unfold kernelRun0_E
  dsimp only
  apply Exists.intro
  apply Exists.intro
  apply And.intro
  · refine stepS_of (n := n) (cl := cl) (c := (i 1).val) (x0 := x0) (x2 := x2) (x1 := x1) (x3 := x3) (fun j => pay47_apply hA j) ?_ ?_ (harg8.read_unread x4) (fun h x => congrFun (harg13.read_unread xs0) _) (fun h x => congrFun (harg14.read_unread xs1) _) (fun h d x => congrFun (harg15.read_unread xs2) _)
      (body_read c i tbM0_0 htbM0_0 tbM0_1 htbM0_1 arg4 harg4 arg5 harg5 arg6 harg6 arg7 harg7 arg8 harg8 arg9 harg9 arg10 harg10 arg11 harg11 arg12 harg12 arg13 harg13 arg14 harg14 arg15 harg15 arg16 harg16 arg17 harg17 _ _ _ _ _ _ _ _ _ _ _ _ _ _ _ _ _ _ _ _ _ _ _ _ _ _ _ _ rfl rfl rfl rfl hq' (Hyp.t1_trips hq').1 Hyp.t2_trips.1 (Hyp.t3_trips hq').1 Hyp.t4_trips.1)
    · intro h d j
      refine (pieces_read arg16.view _ _ _ _ _ h d j).trans ?_
      fin_cases h
      · exact (deq_pay41 hA _ _ d j).trans (deq_kval arg4 harg4 arg6 harg6 x0 x2 n cl (i 1).val 0 rfl rfl _ _ d j)
      · exact (deq_pay44 hA _ _ d j).trans (deq_kval arg4 harg4 arg6 harg6 x0 x2 n cl (i 1).val 1 rfl rfl _ _ d j)
    · intro h d j
      refine (pieces_read arg17.view _ _ _ _ _ h d j).trans ?_
      fin_cases h
      · exact (deq_pay43 hA _ _ d j).trans (deq_kval arg5 harg5 arg7 harg7 x1 x3 n cl (i 1).val 0 rfl rfl _ _ d j)
      · exact (deq_pay46 hA _ _ d j).trans (deq_kval arg5 harg5 arg7 harg7 x1 x3 n cl (i 1).val 1 rfl rfl _ _ d j)
  · refine norm_laid c i tbM0_0 htbM0_0 tbM0_1 htbM0_1 arg4 harg4 arg5 harg5 arg6 harg6 arg7 harg7 arg8 harg8 arg9 harg9 arg10 harg10 arg11 harg11 arg12 harg12 arg13 harg13 arg14 harg14 arg15 harg15 arg16 harg16 arg17 harg17 _ k0_hw2 _ hq' _ _ rfl rfl v f _ _ _ _ _ _
      _ _ ?_ ?_ ?_ ?_ _ _ ?_ ?_
    · intro d x; unfold kernelRun0_E.sl.v73; dsimp only; refine (ldO arg15.view _ 0 rfl _ d x).trans ?_
      refine congrArg (fun L => arg15.view.read (Elt Ideal) (arg15.view.writes (Elt Ideal) (harg15.unread xs2) L) _) ?_
      refine congr (congrArg HAppend.hAppend ?_) (congr (congrArg HAppend.hAppend ?_) (congr (congrArg HAppend.hAppend ?_) ?_))
      · refine congrArg (fun p : List (View.Piece (Elt Ideal) S2x1x4096 .f32) × List (View.Piece (Elt Ideal) S2x1x4096 .f32) × List (View.Piece (Elt Ideal) S2x64x4352 .f32) => p.2.2) ?_; congr 1
      · refine congrArg (fun p : List (View.Piece (Elt Ideal) S2x1x4096 .f32) × List (View.Piece (Elt Ideal) S2x1x4096 .f32) × List (View.Piece (Elt Ideal) S2x64x4352 .f32) => p.2.2) ?_; congr 1
      · refine congrArg (fun p : List (View.Piece (Elt Ideal) S2x1x4096 .f32) × List (View.Piece (Elt Ideal) S2x1x4096 .f32) × List (View.Piece (Elt Ideal) S2x64x4352 .f32) => p.2.2) ?_; congr 1
      · refine congrArg (fun p : List (View.Piece (Elt Ideal) S2x1x4096 .f32) × List (View.Piece (Elt Ideal) S2x1x4096 .f32) × List (View.Piece (Elt Ideal) S2x64x4352 .f32) => p.2.2) ?_; congr 1
    · intro x; unfold kernelRun0_E.sl.v75; dsimp only; refine (ldL arg14.view _ 0 rfl _ x).trans ?_
      refine congrArg (fun L => arg14.view.read (Elt Ideal) (arg14.view.writes (Elt Ideal) (harg14.unread xs1) L) _) ?_
      refine congr (congrArg HAppend.hAppend ?_) (congr (congrArg HAppend.hAppend ?_) (congr (congrArg HAppend.hAppend ?_) ?_))
      · refine congrArg (fun p : List (View.Piece (Elt Ideal) S2x1x4096 .f32) × List (View.Piece (Elt Ideal) S2x1x4096 .f32) × List (View.Piece (Elt Ideal) S2x64x4352 .f32) => p.2.1) ?_; congr 1
      · refine congrArg (fun p : List (View.Piece (Elt Ideal) S2x1x4096 .f32) × List (View.Piece (Elt Ideal) S2x1x4096 .f32) × List (View.Piece (Elt Ideal) S2x64x4352 .f32) => p.2.1) ?_; congr 1
      · refine congrArg (fun p : List (View.Piece (Elt Ideal) S2x1x4096 .f32) × List (View.Piece (Elt Ideal) S2x1x4096 .f32) × List (View.Piece (Elt Ideal) S2x64x4352 .f32) => p.2.1) ?_; congr 1
      · refine congrArg (fun p : List (View.Piece (Elt Ideal) S2x1x4096 .f32) × List (View.Piece (Elt Ideal) S2x1x4096 .f32) × List (View.Piece (Elt Ideal) S2x64x4352 .f32) => p.2.1) ?_; congr 1
    · intro d x; unfold kernelRun0_E.sl.v85; dsimp only; refine ((ldO arg15.view _ 1 rfl _ d x).trans ((wrO arg15.view _ (off := ![0, 0, 0]) _ _ _ 0 rfl 1 d x).trans (if_neg Nat.one_ne_zero))).trans ?_
      refine congrArg (fun L => arg15.view.read (Elt Ideal) (arg15.view.writes (Elt Ideal) (harg15.unread xs2) L) _) ?_
      refine congr (congrArg HAppend.hAppend ?_) (congr (congrArg HAppend.hAppend ?_) (congr (congrArg HAppend.hAppend ?_) ?_))
      · refine congrArg (fun p : List (View.Piece (Elt Ideal) S2x1x4096 .f32) × List (View.Piece (Elt Ideal) S2x1x4096 .f32) × List (View.Piece (Elt Ideal) S2x64x4352 .f32) => p.2.2) ?_; congr 1
      · refine congrArg (fun p : List (View.Piece (Elt Ideal) S2x1x4096 .f32) × List (View.Piece (Elt Ideal) S2x1x4096 .f32) × List (View.Piece (Elt Ideal) S2x64x4352 .f32) => p.2.2) ?_; congr 1
      · refine congrArg (fun p : List (View.Piece (Elt Ideal) S2x1x4096 .f32) × List (View.Piece (Elt Ideal) S2x1x4096 .f32) × List (View.Piece (Elt Ideal) S2x64x4352 .f32) => p.2.2) ?_; congr 1
      · refine congrArg (fun p : List (View.Piece (Elt Ideal) S2x1x4096 .f32) × List (View.Piece (Elt Ideal) S2x1x4096 .f32) × List (View.Piece (Elt Ideal) S2x64x4352 .f32) => p.2.2) ?_; congr 1
    · intro x; unfold kernelRun0_E.sl.v87; dsimp only; refine (ldL arg14.view _ 1 rfl _ x).trans ?_
      refine congrArg (fun L => arg14.view.read (Elt Ideal) (arg14.view.writes (Elt Ideal) (harg14.unread xs1) L) _) ?_
      refine congr (congrArg HAppend.hAppend ?_) (congr (congrArg HAppend.hAppend ?_) (congr (congrArg HAppend.hAppend ?_) ?_))
      · refine congrArg (fun p : List (View.Piece (Elt Ideal) S2x1x4096 .f32) × List (View.Piece (Elt Ideal) S2x1x4096 .f32) × List (View.Piece (Elt Ideal) S2x64x4352 .f32) => p.2.1) ?_; congr 1
      · refine congrArg (fun p : List (View.Piece (Elt Ideal) S2x1x4096 .f32) × List (View.Piece (Elt Ideal) S2x1x4096 .f32) × List (View.Piece (Elt Ideal) S2x64x4352 .f32) => p.2.1) ?_; congr 1
      · refine congrArg (fun p : List (View.Piece (Elt Ideal) S2x1x4096 .f32) × List (View.Piece (Elt Ideal) S2x1x4096 .f32) × List (View.Piece (Elt Ideal) S2x64x4352 .f32) => p.2.1) ?_; congr 1
      · refine congrArg (fun p : List (View.Piece (Elt Ideal) S2x1x4096 .f32) × List (View.Piece (Elt Ideal) S2x1x4096 .f32) × List (View.Piece (Elt Ideal) S2x64x4352 .f32) => p.2.1) ?_; congr 1
    · decide
    · decide

end Cert.KernelIdeal.Val
-- ==== Proof.Blocks.lean ====
/- The blocks a grid point reads, as parts of the argument arrays, and the words of its sequence. -/
module
public import proofs.«01_k».proof.Proof.Last
public import proofs.«01_k».proof.Proof.Gen.KernelIdeal.Frame
@[expose] public section
set_option maxRecDepth 16384
namespace Cert.KernelIdeal.Val
open Cert.KernelIdeal Cert.KernelIdeal.Gen Cert.KernelIdeal.Hyp
open Idealize.ShloMosaic Idealize.ShloMosaic.TcCoe
open Cert.Spec (Ok code)
open Cert.Words (chunks)

variable (m : (ℓ : Loc nD τ sig) → Buf (Elt Ideal) ℓ) (hP : Cert.Pre_KernelIdeal m) (hO : Gen.Ok m)

/-- The sequence of a grid point. -/
def seqOf (t : Fin grid0.N) : Fin 4 := ⟨t.val / 128, by have : t.val < 512 := Nat.lt_of_lt_of_eq t.isLt N_0; omega⟩

theorem coord0 (t : Fin grid0.N) : (grid0.coords t 0).val = t.val / 128 := by
  have ht : t.val < 512 := Nat.lt_of_lt_of_eq t.isLt N_0
  have e0 : (grid0.coords t 0).val = t.val / 128 % 4 := Pipeline.Grid.coords_val t 0 (by decide) rfl
  rw [e0]; omega

theorem coord1 (t : Fin grid0.N) : (grid0.coords t 1).val = t.val % 128 := by
  have e1 : (grid0.coords t 1).val = t.val / 1 % 128 := Pipeline.Grid.coords_val t 1 (by decide) rfl
  rw [e1, Nat.div_one]

theorem seqN (i : grid0.Coords) : (BitVec.ofNat 32 (i 0).val).toNat = (i 0).val := by
  have hi : (i 0).val < 4 := (i 0).isLt
  rw [BitVec.toNat_ofNat]; omega

/-- The chunks of sequence `b`. -/
def nch (b : Fin 4) : ℕ := ((cword m b).toNat + 2047) / 2048 * 2

include hP in
theorem nch_le (b : Fin 4) : 2 ≤ nch m b ∧ nch m b ≤ 128 := by
  have f := fits m hP b; have := f.one_le; have := f.cl_le
  unfold nch; omega

theorem eq_ix1 (w : S4.Idx) (b : Fin 4) (h : (w 0).val = b.val) : w = ix1 b := by
  funext a
  obtain rfl : a = 0 := Subsingleton.elim _ _
  exact Fin.ext h

/-- The chunk whose blocks a point is handed. -/
theorem at1 (t : Fin grid0.N) : (tbl m).at 1
    (Rect.unit (s := S4) ![(Scalar.indexCast (BitVec.ofNat 32 (grid0.coords t 0).val)).toNat] S1.size (k0_off1_inb (grid0.coords t))) numel1_S1 = cword m (seqOf t) := by
  refine congrArg (m (((0 : Dev nD) : Thread nD τ).loc main_arg1)) (eq_ix1 _ _ ?_)
  show (BitVec.ofNat 32 (grid0.coords t 0).val).toNat + 1 * 0 = t.val / 128
  rw [seqN, coord0]; omega

include hP in
theorem chunk_at (t : Fin grid0.N) : (Scalar.minsi (BitVec.ofNat 32 (grid0.coords t 1).val) (Scalar.subi (chunks ((tbl m).at 1
    (Rect.unit (s := S4) ![(Scalar.indexCast (BitVec.ofNat 32 (grid0.coords t 0).val)).toNat] S1.size (k0_off1_inb (grid0.coords t))) numel1_S1)) 1#32)).toNat
      = min (t.val % 128) (nch m (seqOf t) - 1) := by
  have f := fits m hP (seqOf t)
  rw [at1, chunk_toNat f.one_le f.cl_le (grid0.coords t 1).isLt, coord1]; rfl

theorem word0 (t : Fin grid0.N) : (tbM0_0.view.readAt (Elt Ideal) (Rect.unit (s := S4) (k0_off1 (grid0.coords t)) S1.size (k0_off1_inb (grid0.coords t))).toLoadRect (tbl m 0) (Shape.Idx.first (numel1_S1.symm ▸ Nat.one_pos))) = qword m (seqOf t) := by
  refine congrArg (m (((0 : Dev nD) : Thread nD τ).loc main_arg0)) (eq_ix1 _ _ ?_)
  show (BitVec.ofNat 32 (grid0.coords t 0).val).toNat + 1 * 0 = t.val / 128
  rw [seqN, coord0]; omega

theorem word1 (t : Fin grid0.N) : (tbM0_1.view.readAt (Elt Ideal) (Rect.unit (s := S4) (k0_off1 (grid0.coords t)) S1.size (k0_off1_inb (grid0.coords t))).toLoadRect (tbl m 1) (Shape.Idx.first (numel1_S1.symm ▸ Nat.one_pos))) = cword m (seqOf t) := by
  refine congrArg (m (((0 : Dev nD) : Thread nD τ).loc main_arg1)) (eq_ix1 _ _ ?_)
  show (BitVec.ofNat 32 (grid0.coords t 0).val).toNat + 1 * 0 = t.val / 128
  rw [seqN, coord0]; omega

/-- The fourth-axis column of a chunk's token. -/
def tok (k : Fin 128) (j : Fin 1024) : Fin 131072 := ⟨k.val * 1024 + j.val, by omega⟩

include hP in
theorem blk0 (t : Fin grid0.N) (k : Fin 128) (hk : k.val = min (t.val % 128) (nch m (seqOf t) - 1)) (r : Fin 32) (j : Fin 1024) :
    iblk m hO (0 : Dev nD) 0 t (ix3 0 r j) = m (((0 : Dev nD) : Thread nD τ).loc main_arg2) (ix3 (seqOf t) r (tok k j)) := by
  refine congrArg (m (((0 : Dev nD) : Thread nD τ).loc main_arg2)) (funext fun a => Fin.ext ?_)
  match a with
  | ⟨0, _⟩ =>
    have e : (BitVec.ofNat 32 (grid0.coords t 0).val).toNat * 1 + 1 * 0 = t.val / 128 := by rw [seqN, coord0]; omega
    exact e
  | ⟨1, _⟩ =>
    have e : 0 * 32 + 1 * r.val = r.val := by omega
    exact e
  | ⟨2, _⟩ =>
    have e := congrArg (fun z => z * 1024 + 1 * j.val) (chunk_at m hP t)
    exact e.trans (by show _ * 1024 + 1 * j.val = k.val * 1024 + j.val; omega)

include hP in
theorem blk1 (t : Fin grid0.N) (k : Fin 128) (hk : k.val = min (t.val % 128) (nch m (seqOf t) - 1)) (r : Fin 32) (j : Fin 1024) :
    iblk m hO (0 : Dev nD) 1 t (ix3 0 r j) = m (((0 : Dev nD) : Thread nD τ).loc main_arg3) (ix3 (seqOf t) r (tok k j)) := by
  refine congrArg (m (((0 : Dev nD) : Thread nD τ).loc main_arg3)) (funext fun a => Fin.ext ?_)
  match a with
  | ⟨0, _⟩ =>
    have e : (BitVec.ofNat 32 (grid0.coords t 0).val).toNat * 1 + 1 * 0 = t.val / 128 := by rw [seqN, coord0]; omega
    exact e
  | ⟨1, _⟩ =>
    have e : 0 * 32 + 1 * r.val = r.val := by omega
    exact e
  | ⟨2, _⟩ =>
    have e := congrArg (fun z => z * 1024 + 1 * j.val) (chunk_at m hP t)
    exact e.trans (by show _ * 1024 + 1 * j.val = k.val * 1024 + j.val; omega)

include hP in
theorem blk2 (t : Fin grid0.N) (k : Fin 128) (hk : k.val = min (t.val % 128) (nch m (seqOf t) - 1)) (r : Fin 2) (j : Fin 1024) :
    iblk m hO (0 : Dev nD) 2 t (ix3 0 r j) = m (((0 : Dev nD) : Thread nD τ).loc main_arg4) (ix3 (seqOf t) r (tok k j)) := by
  refine congrArg (m (((0 : Dev nD) : Thread nD τ).loc main_arg4)) (funext fun a => Fin.ext ?_)
  match a with
  | ⟨0, _⟩ =>
    have e : (BitVec.ofNat 32 (grid0.coords t 0).val).toNat * 1 + 1 * 0 = t.val / 128 := by rw [seqN, coord0]; omega
    exact e
  | ⟨1, _⟩ =>
    have e : 0 * 2 + 1 * r.val = r.val := by omega
    exact e
  | ⟨2, _⟩ =>
    have e := congrArg (fun z => z * 1024 + 1 * j.val) (chunk_at m hP t)
    exact e.trans (by show _ * 1024 + 1 * j.val = k.val * 1024 + j.val; omega)

include hP in
theorem blk3 (t : Fin grid0.N) (k : Fin 128) (hk : k.val = min (t.val % 128) (nch m (seqOf t) - 1)) (r : Fin 2) (j : Fin 1024) :
    iblk m hO (0 : Dev nD) 3 t (ix3 0 r j) = m (((0 : Dev nD) : Thread nD τ).loc main_arg5) (ix3 (seqOf t) r (tok k j)) := by
  refine congrArg (m (((0 : Dev nD) : Thread nD τ).loc main_arg5)) (funext fun a => Fin.ext ?_)
  match a with
  | ⟨0, _⟩ =>
    have e : (BitVec.ofNat 32 (grid0.coords t 0).val).toNat * 1 + 1 * 0 = t.val / 128 := by rw [seqN, coord0]; omega
    exact e
  | ⟨1, _⟩ =>
    have e : 0 * 2 + 1 * r.val = r.val := by omega
    exact e
  | ⟨2, _⟩ =>
    have e := congrArg (fun z => z * 1024 + 1 * j.val) (chunk_at m hP t)
    exact e.trans (by show _ * 1024 + 1 * j.val = k.val * 1024 + j.val; omega)

theorem blk4 (t : Fin grid0.N) (h : Fin 2) (d : Fin 64) (x : Fin 4096) :
    iblk m hO (0 : Dev nD) 4 t (ix4 0 h d x) = m (((0 : Dev nD) : Thread nD τ).loc main_arg6) (ix4 (seqOf t) h d x) := by
  refine congrArg (m (((0 : Dev nD) : Thread nD τ).loc main_arg6)) (funext fun a => Fin.ext ?_)
  match a with
  | ⟨0, _⟩ =>
    have e : (BitVec.ofNat 32 (grid0.coords t 0).val).toNat * 1 + 1 * 0 = t.val / 128 := by rw [seqN, coord0]; omega
    exact e
  | ⟨1, _⟩ =>
    have e : 0 * 2 + 1 * h.val = h.val := by omega
    exact e
  | ⟨2, _⟩ =>
    have e : 0 * 64 + 1 * d.val = d.val := by omega
    exact e
  | ⟨3, _⟩ =>
    have e : 0 * 4096 + 1 * x.val = x.val := by omega
    exact e

theorem blk5 (t : Fin grid0.N) (h : Fin 2) (d : Fin 1) (x : Fin 4096) :
    iblk m hO (0 : Dev nD) 5 t (ix4 0 h d x) = m (((0 : Dev nD) : Thread nD τ).loc main_arg7) (ix4 (seqOf t) h d x) := by
  refine congrArg (m (((0 : Dev nD) : Thread nD τ).loc main_arg7)) (funext fun a => Fin.ext ?_)
  match a with
  | ⟨0, _⟩ =>
    have e : (BitVec.ofNat 32 (grid0.coords t 0).val).toNat * 1 + 1 * 0 = t.val / 128 := by rw [seqN, coord0]; omega
    exact e
  | ⟨1, _⟩ =>
    have e : 0 * 2 + 1 * h.val = h.val := by omega
    exact e
  | ⟨2, _⟩ =>
    have e : 0 * 1 + 1 * d.val = d.val := by omega
    exact e
  | ⟨3, _⟩ =>
    have e : 0 * 4096 + 1 * x.val = x.val := by omega
    exact e

theorem blk6 (t : Fin grid0.N) (h : Fin 2) (d : Fin 1) (x : Fin 4096) :
    iblk m hO (0 : Dev nD) 6 t (ix4 0 h d x) = m (((0 : Dev nD) : Thread nD τ).loc main_arg8) (ix4 (seqOf t) h d x) := by
  refine congrArg (m (((0 : Dev nD) : Thread nD τ).loc main_arg8)) (funext fun a => Fin.ext ?_)
  match a with
  | ⟨0, _⟩ =>
    have e : (BitVec.ofNat 32 (grid0.coords t 0).val).toNat * 1 + 1 * 0 = t.val / 128 := by rw [seqN, coord0]; omega
    exact e
  | ⟨1, _⟩ =>
    have e : 0 * 2 + 1 * h.val = h.val := by omega
    exact e
  | ⟨2, _⟩ =>
    have e : 0 * 1 + 1 * d.val = d.val := by omega
    exact e
  | ⟨3, _⟩ =>
    have e : 0 * 4096 + 1 * x.val = x.val := by omega
    exact e

theorem blk7 (t : Fin grid0.N) (h : Fin 2) (d : Fin 64) (x : Fin 4096) :
    iblk m hO (0 : Dev nD) 7 t (ix4 0 h d x) = m (((0 : Dev nD) : Thread nD τ).loc main_arg9) (ix4 (seqOf t) h d x) := by
  refine congrArg (m (((0 : Dev nD) : Thread nD τ).loc main_arg9)) (funext fun a => Fin.ext ?_)
  match a with
  | ⟨0, _⟩ =>
    have e : (BitVec.ofNat 32 (grid0.coords t 0).val).toNat * 1 + 1 * 0 = t.val / 128 := by rw [seqN, coord0]; omega
    exact e
  | ⟨1, _⟩ =>
    have e : 0 * 2 + 1 * h.val = h.val := by omega
    exact e
  | ⟨2, _⟩ =>
    have e : 0 * 64 + 1 * d.val = d.val := by omega
    exact e
  | ⟨3, _⟩ =>
    have e : 0 * 4096 + 1 * x.val = x.val := by omega
    exact e

end Cert.KernelIdeal.Val
-- ==== Proof.Soft.lean ====
module
public import Idealize.ShloMosaic.PureOps.Ideal
@[expose] public section

/-! The online softmax on extended reals: a running maximum, the sum of exponentials against it and the
weighted sum, each advanced by a block of columns, are the maximum and the sums over all columns so far. -/
namespace Cert.Soft
open Idealize.ShloMosaic

/-- The largest of `m0` and the first `n` scores. -/
noncomputable def top (m0 : EReal) (s : ℕ → EReal) (n : ℕ) : EReal := (Finset.range n).fold max m0 s

/-- The denominator after `n` columns. -/
noncomputable def den (m0 l0 : EReal) (s : ℕ → EReal) (n : ℕ) : EReal :=
  l0 * Ideal.exp (m0 - top m0 s n) + ∑ x ∈ Finset.range n, Ideal.exp (s x - top m0 s n)

/-- The numerator after `n` columns. -/
noncomputable def num (m0 o0 : EReal) (s v : ℕ → EReal) (n : ℕ) : EReal :=
  o0 * Ideal.exp (m0 - top m0 s n) + ∑ x ∈ Finset.range n, v x * Ideal.exp (s x - top m0 s n)

theorem exp_nonneg (x : EReal) : 0 ≤ Ideal.exp x := by
  induction x with
  | bot => simp
  | top => simp
  | coe r => simpa using (Real.exp_pos r).le

theorem exp_mul {x M M' : EReal} (h : x ≤ M) (h' : M ≤ M') :
    Ideal.exp (x - M) * Ideal.exp (M - M') = Ideal.exp (x - M') := by
  induction M' with
  | bot =>
    have hM : M = ⊥ := le_bot_iff.mp h'
    subst hM
    have hx : x = ⊥ := le_bot_iff.mp h
    subst hx; simp
  | top => simp
  | coe c =>
    induction M with
    | top => exact absurd h' (by simp)
    | bot =>
      have hx : x = ⊥ := le_bot_iff.mp h
      subst hx; simp
    | coe b =>
      induction x with
      | top => exact absurd h (by simp)
      | bot => simp
      | coe a =>
        rw [← EReal.coe_sub, ← EReal.coe_sub, ← EReal.coe_sub, Ideal.exp_coe, Ideal.exp_coe, Ideal.exp_coe, ← EReal.coe_mul,
          ← Real.exp_add]
        congr 2; ring

theorem exp_sub_ne_top {M M' : EReal} (h : M ≤ M') : Ideal.exp (M - M') ≠ ⊤ := by
  induction M' with
  | bot =>
    have hM : M = ⊥ := le_bot_iff.mp h
    subst hM; simp
  | top => simp
  | coe c =>
    induction M with
    | top => exact absurd h (by simp)
    | bot => simp
    | coe b => rw [← EReal.coe_sub, Ideal.exp_coe]; exact EReal.coe_ne_top _

theorem sum_mul {ι : Type} (S : Finset ι) (f : ι → EReal) {a : EReal} (h0 : 0 ≤ a) (h1 : a ≠ ⊤) :
    (∑ x ∈ S, f x) * a = ∑ x ∈ S, f x * a := by
  classical
  induction S using Finset.induction_on with
  | empty => simp
  | insert x S hx ih => rw [Finset.sum_insert hx, Finset.sum_insert hx, EReal.right_distrib_of_nonneg_of_ne_top h0 h1, ih]

theorem le_top_start (m0 : EReal) (s : ℕ → EReal) (n : ℕ) : m0 ≤ top m0 s n := by
  unfold top; rw [Finset.le_fold_max]; exact Or.inl le_rfl

theorem le_top (m0 : EReal) (s : ℕ → EReal) {n x : ℕ} (h : x < n) : s x ≤ top m0 s n := by
  unfold top; rw [Finset.le_fold_max]; exact Or.inr ⟨x, Finset.mem_range.mpr h, le_rfl⟩

theorem top_zero (m0 : EReal) (s : ℕ → EReal) : top m0 s 0 = m0 := by simp [top]

theorem top_mono (m0 : EReal) (s : ℕ → EReal) {n n' : ℕ} (h : n ≤ n') : top m0 s n ≤ top m0 s n' := by
  unfold top
  rw [Finset.fold_max_le]
  refine ⟨le_top_start m0 s n', fun x hx => le_top m0 s (lt_of_lt_of_le (Finset.mem_range.mp hx) h)⟩

/-- The maximum over a further block. -/
theorem top_block (m0 : EReal) (s : ℕ → EReal) (n w : ℕ) :
    max (top m0 s n) ((Finset.univ : Finset (Fin w)).fold max ⊥ fun j => s (n + j.val)) = top m0 s (n + w) := by
  apply le_antisymm
  · refine max_le (top_mono m0 s (by omega)) ?_
    rw [Finset.fold_max_le]
    exact ⟨bot_le, fun j _ => le_top m0 s (by omega)⟩
  · unfold top
    rw [Finset.fold_max_le]
    refine ⟨le_max_of_le_left (le_top_start m0 s n), fun x hx => ?_⟩
    rw [Finset.mem_range] at hx
    by_cases h : x < n
    · exact le_max_of_le_left (le_top m0 s h)
    · refine le_max_of_le_right ?_
      rw [Finset.le_fold_max]
      refine Or.inr ⟨⟨x - n, by omega⟩, Finset.mem_univ _, ?_⟩
      show s x ≤ s (n + (x - n))
      rw [show n + (x - n) = x by omega]

/-- The running denominator: what the accumulator holds before column 0 is `l0`. -/
noncomputable def dens (m0 l0 : EReal) (s : ℕ → EReal) (n : ℕ) : EReal := if n = 0 then l0 else den m0 l0 s n

/-- The running numerator. -/
noncomputable def nums (m0 o0 : EReal) (s v : ℕ → EReal) (n : ℕ) : EReal := if n = 0 then o0 else num m0 o0 s v n

theorem range_block (f : ℕ → EReal) (n w : ℕ) :
    ∑ x ∈ Finset.range (n + w), f x = ∑ x ∈ Finset.range n, f x + ∑ j : Fin w, f (n + j.val) := by
  rw [Finset.sum_range_add, Finset.sum_range (fun x => f (n + x))]

theorem nums_block (m0 o0 : EReal) (s v : ℕ → EReal) (n w : ℕ) (hw : 0 < w) :
    nums m0 o0 s v n * Ideal.exp (top m0 s n - top m0 s (n + w))
        + ∑ j : Fin w, v (n + j.val) * Ideal.exp (s (n + j.val) - top m0 s (n + w))
      = nums m0 o0 s v (n + w) := by
  have hle : top m0 s n ≤ top m0 s (n + w) := top_mono m0 s (by omega)
  unfold nums
  rw [if_neg (show ¬ n + w = 0 by omega)]
  split
  · rename_i h; subst h
    rw [top_zero]; unfold num
    rw [range_block]; simp
  · unfold num
    rw [range_block, ← add_assoc]
    congr 1
    rw [EReal.right_distrib_of_nonneg_of_ne_top (exp_nonneg _) (exp_sub_ne_top hle),
      sum_mul _ _ (exp_nonneg _) (exp_sub_ne_top hle), mul_assoc, exp_mul (le_top_start m0 s n) hle]
    congr 1
    refine Finset.sum_congr rfl fun x hx => ?_
    rw [mul_assoc, exp_mul (le_top m0 s (Finset.mem_range.mp hx)) hle]

theorem dens_eq_nums (m0 l0 : EReal) (s : ℕ → EReal) (n : ℕ) : dens m0 l0 s n = nums m0 l0 s (fun _ => 1) n := by
  unfold dens nums den num; simp

theorem dens_block (m0 l0 : EReal) (s : ℕ → EReal) (n w : ℕ) (hw : 0 < w) :
    dens m0 l0 s n * Ideal.exp (top m0 s n - top m0 s (n + w))
        + ∑ j : Fin w, Ideal.exp (s (n + j.val) - top m0 s (n + w))
      = dens m0 l0 s (n + w) := by
  have h := nums_block m0 l0 s (fun _ => 1) n w hw
  simp only [one_mul] at h
  rw [dens_eq_nums, dens_eq_nums, h]

end Cert.Soft
-- ==== Proof.State.lean ====
/- The running maximum, denominator and numerator after every grid point of a sequence. -/
module
public import proofs.«01_k».proof.Proof.Blocks
public import proofs.«01_k».proof.Proof.Soft
@[expose] public section
set_option maxRecDepth 16384
namespace Cert.Spec
open Idealize.ShloMosaic

/-- A dequantised element of a cache: head `h`, channel `d`, column `J`. -/
noncomputable def cval (W : Fin 32 → Fin 131072 → BitVec 32) (S : Fin 2 → Fin 131072 → EReal) (n cl : ℕ) (h : Fin 2) (d : Fin 64) (J : ℕ) : EReal :=
  if hJ : J < 131072 then if Ok n cl J then code (W ⟨16 * h.val + d.val / 4, by omega⟩ ⟨J, hJ⟩) (d.val % 4) * S h ⟨J, hJ⟩ else 0 else 0

/-- The score of column `J`. -/
noncomputable def csco (W : Fin 32 → Fin 131072 → BitVec 32) (S : Fin 2 → Fin 131072 → EReal) (Q : Fin 2 → Fin 64 → Fin 4096 → EReal) (n cl : ℕ) (h : Fin 2) (x : Fin 4096) (J : ℕ) : EReal :=
  if Ok n cl J then ∑ d : Fin 64, cval W S n cl h d J * Q h d x else Ideal.ofBits .f32 0xF149F2CA#32

end Cert.Spec

namespace Cert.KernelIdeal.Val
open Cert.KernelIdeal Cert.KernelIdeal.Gen Cert.KernelIdeal.Hyp
open Idealize.ShloMosaic Idealize.ShloMosaic.TcCoe
open Cert.Spec (Ok code cval csco)

variable (m : (ℓ : Loc nD τ sig) → Buf (Elt Ideal) ℓ)

/-- The arguments of sequence `b`. -/
noncomputable def kW (b : Fin 4) (r : Fin 32) (J : Fin 131072) : BitVec 32 := m (((0 : Dev nD) : Thread nD τ).loc main_arg2) (ix3 b r J)
noncomputable def vW (b : Fin 4) (r : Fin 32) (J : Fin 131072) : BitVec 32 := m (((0 : Dev nD) : Thread nD τ).loc main_arg3) (ix3 b r J)
noncomputable def kS (b : Fin 4) (h : Fin 2) (J : Fin 131072) : EReal := m (((0 : Dev nD) : Thread nD τ).loc main_arg4) (ix3 b h J)
noncomputable def vS (b : Fin 4) (h : Fin 2) (J : Fin 131072) : EReal := m (((0 : Dev nD) : Thread nD τ).loc main_arg5) (ix3 b h J)
noncomputable def wQ (b : Fin 4) (h : Fin 2) (d : Fin 64) (x : Fin 4096) : EReal := m (((0 : Dev nD) : Thread nD τ).loc main_arg6) (ix4 b h d x)
noncomputable def m0 (b : Fin 4) (h : Fin 2) (x : Fin 4096) : EReal := m (((0 : Dev nD) : Thread nD τ).loc main_arg7) (ix4 b h 0 x)
noncomputable def l0 (b : Fin 4) (h : Fin 2) (x : Fin 4096) : EReal := m (((0 : Dev nD) : Thread nD τ).loc main_arg8) (ix4 b h 0 x)
noncomputable def o0 (b : Fin 4) (h : Fin 2) (d : Fin 64) (x : Fin 4096) : EReal := m (((0 : Dev nD) : Thread nD τ).loc main_arg9) (ix4 b h d x)

/-- The length of sequence `b`, its query count and its page columns. -/
def clen (b : Fin 4) : ℕ := (cword m b).toNat
def qlen (b : Fin 4) : ℕ := (qword m b).toNat
def npg (b : Fin 4) : ℕ := (clen m b + 2047) / 2048 * 128

/-- The scores and the values of sequence `b`. -/
noncomputable def sF (b : Fin 4) (h : Fin 2) (x : Fin 4096) (J : ℕ) : EReal := csco (kW m b) (kS m b) (wQ m b) (npg m b) (clen m b) h x J
noncomputable def vF (b : Fin 4) (h : Fin 2) (d : Fin 64) (J : ℕ) : EReal := cval (vW m b) (vS m b) (npg m b) (clen m b) h d J

/-- The three arrays after `n` columns, in the columns that hold a query. -/
def St (b : Fin 4) (n : ℕ) (M L : Fin 2 → Fin 4096 → EReal) (O : Fin 2 → Fin 64 → Fin 4096 → EReal) : Prop :=
  ∀ (h : Fin 2) (x : Fin 4096), x.val < 256 * ((qlen m b + 15) / 16) →
    M h x = Soft.top (m0 m b h x) (sF m b h x) n ∧ L h x = Soft.dens (m0 m b h x) (l0 m b h x) (sF m b h x) n
    ∧ ∀ d : Fin 64, O h d x = Soft.nums (m0 m b h x) (o0 m b h d x) (sF m b h x) (vF m b h d) n

variable (hP : Cert.Pre_KernelIdeal m) (hO : Gen.Ok m)

include hP in
theorem kval_k (t : Fin grid0.N) (hc : t.val % 128 < nch m (seqOf t)) (h : Fin 2) (d : Fin 64) (j : Fin 1024) :
    kval (iblk m hO (0 : Dev nD) 0 t) (iblk m hO (0 : Dev nD) 2 t) (npg m (seqOf t)) (clen m (seqOf t)) (t.val % 128) h d j
      = cval (kW m (seqOf t)) (kS m (seqOf t)) (npg m (seqOf t)) (clen m (seqOf t)) h d (t.val % 128 * 1024 + j.val) := by
  unfold kval cval
  rw [dif_pos (by omega)]
  refine if_congr Iff.rfl (congrArg₂ (· * ·) (congrArg (fun w => code w _) ?_) ?_) rfl
  · exact blk0 m hP hO t ⟨t.val % 128, by omega⟩ (by show t.val % 128 = _; omega) _ j
  · exact blk2 m hP hO t ⟨t.val % 128, by omega⟩ (by show t.val % 128 = _; omega) _ j

include hP in
theorem kval_v (t : Fin grid0.N) (hc : t.val % 128 < nch m (seqOf t)) (h : Fin 2) (d : Fin 64) (j : Fin 1024) :
    kval (iblk m hO (0 : Dev nD) 1 t) (iblk m hO (0 : Dev nD) 3 t) (npg m (seqOf t)) (clen m (seqOf t)) (t.val % 128) h d j
      = vF m (seqOf t) h d (t.val % 128 * 1024 + j.val) := by
  unfold kval vF cval
  rw [dif_pos (by omega)]
  refine if_congr Iff.rfl (congrArg₂ (· * ·) (congrArg (fun w => code w _) ?_) ?_) rfl
  · exact blk1 m hP hO t ⟨t.val % 128, by omega⟩ (by show t.val % 128 = _; omega) _ j
  · exact blk3 m hP hO t ⟨t.val % 128, by omega⟩ (by show t.val % 128 = _; omega) _ j

include hP in
theorem sco_s (t : Fin grid0.N) (hc : t.val % 128 < nch m (seqOf t)) (h : Fin 2) (x : Fin 4096) :
    sco (iblk m hO (0 : Dev nD) 0 t) (iblk m hO (0 : Dev nD) 2 t) (iblk m hO (0 : Dev nD) 4 t) (npg m (seqOf t)) (clen m (seqOf t)) (t.val % 128) h x
      = fun j : Fin 1024 => sF m (seqOf t) h x (t.val % 128 * 1024 + j.val) := by
  funext j
  unfold sco sF csco
  refine if_congr Iff.rfl (Finset.sum_congr rfl fun d _ => congrArg₂ (· * ·) (kval_k m hP hO t hc h d j) (blk4 m hO t h d x)) rfl

include hP in
/-- A point with a chunk carries the state one chunk further. -/
theorem state_step (t : Fin grid0.N) (hc : t.val % 128 < nch m (seqOf t)) {M L : Fin 2 → Fin 4096 → EReal} {O : Fin 2 → Fin 64 → Fin 4096 → EReal}
    {M' L' : Vec Ideal S2x1x4096 .f32} {O' : Vec Ideal S2x64x4352 .f32} (hS : St m (seqOf t) (t.val % 128 * 1024) M L O)
    (hs : StepS ((qlen m (seqOf t) + 15) / 16) (npg m (seqOf t)) (clen m (seqOf t)) (t.val % 128) (iblk m hO (0 : Dev nD) 0 t) (iblk m hO (0 : Dev nD) 1 t)
      (iblk m hO (0 : Dev nD) 2 t) (iblk m hO (0 : Dev nD) 3 t) (iblk m hO (0 : Dev nD) 4 t) M L O M' L' O') :
    St m (seqOf t) ((t.val % 128 + 1) * 1024) (fun h x => M' (ix3 h 0 x)) (fun h x => L' (ix3 h 0 x)) (fun h d x => O' (ix3 h d (⟨x.val, by omega⟩ : Fin 4352))) := by
  intro h x hx
  obtain ⟨s1, s2, s3⟩ := hs h x hx
  obtain ⟨p1, p2, p3⟩ := hS h x hx
  rw [sco_s m hP hO t hc h x, p1, Soft.top_block] at s1 s2 s3
  rw [show (t.val % 128 + 1) * 1024 = t.val % 128 * 1024 + 1024 by omega]
  refine ⟨s1, s2.trans ?_, fun d => (s3 d).trans ?_⟩
  · rw [p2, Soft.dens_block _ _ _ _ _ (by omega)]
  · rw [p3 d, ← Soft.nums_block _ _ _ _ _ _ (by omega)]
    exact congrArg (fun z => _ + z) (Finset.sum_congr rfl fun j _ => congrArg (fun z => z * _) (kval_v m hP hO t hc h d j))

/-- The state a sequence starts from. -/
theorem state_zero (t : Fin grid0.N) :
    St m (seqOf t) 0 (fun h x => iblk m hO (0 : Dev nD) 5 t (ix4 0 h 0 x)) (fun h x => iblk m hO (0 : Dev nD) 6 t (ix4 0 h 0 x)) (fun h d x => iblk m hO (0 : Dev nD) 7 t (ix4 0 h d x)) := by
  intro h x _
  refine ⟨(blk5 m hO t h 0 x).trans (Soft.top_zero _ _).symm, (blk6 m hO t h 0 x).trans ?_, fun d => (blk7 m hO t h d x).trans ?_⟩
  · unfold Soft.dens; rw [if_pos rfl]; rfl
  · unfold Soft.nums; rw [if_pos rfl]; rfl

end Cert.KernelIdeal.Val
-- ==== Proof.RefMask.lean ====
/- The reference's scores and values: the masks read as words, the dequantised caches, the scores. -/
module
public import proofs.«01_k».proof.Proof.Chunk
public import proofs.«01_k».proof.Proof.State
public import proofs.«01_k».proof.Proof.Gen.ReferenceIdeal.Frame
public import Idealize.ShloMosaic.Lib.StableHlo.RunRead
public import Idealize.ShloMosaic.Lib.StableHlo.ReadAt
@[expose] public section
set_option maxRecDepth 16384
set_option maxHeartbeats 1000000
namespace Cert.ReferenceIdeal.Val
open Cert.ReferenceIdeal Cert.ReferenceIdeal.Gen
open Idealize.ShloMosaic Idealize.ShloMosaic.TcCoe
open Cert.Spec (Ok code mask_word cval csco)

/-- The host's division of two words that are not negative. -/
theorem host_divsi {x d : BitVec 32} (hx : x.toNat < 2 ^ 31) (hd0 : 0 < d.toNat) (hd : d.toNat < 2 ^ 31) :
    (IntOp.divsi .host x d).toNat = x.toNat / d.toNat := by
  have hc : ¬IntOp.SDivCorner x d := by
    rintro (h | ⟨-, h⟩)
    · subst h; simp at hd0
    · subst h; revert hd; decide
  rw [IntOp.divsi, if_neg hc, BitVec.sdiv_eq, Cert.Words.msb_of_lt hx, Cert.Words.msb_of_lt hd]
  simp

/-- The host's remainder of two words that are not negative. -/
theorem host_remsi {x d : BitVec 32} (hx : x.toNat < 2 ^ 31) (hd0 : 0 < d.toNat) (hd : d.toNat < 2 ^ 31) :
    (IntOp.remsi .host x d).toNat = x.toNat % d.toNat := by
  have hc : ¬IntOp.SDivCorner x d := by
    rintro (h | ⟨-, h⟩)
    · subst h; simp at hd0
    · subst h; revert hd; decide
  rw [IntOp.remsi, if_neg hc, BitVec.srem_eq, Cert.Words.msb_of_lt hx, Cert.Words.msb_of_lt hd]
  simp

/-- The page columns of a sequence, as the reference computes them. -/
abbrev rpages (v : BitVec 32) : BitVec 32 := IntOp.muli (IntOp.divsi .host (IntOp.subi (IntOp.addi v 2048#32) 1#32) 2048#32) 128#32

theorem rpages_toNat {v : BitVec 32} (h1 : 1 ≤ v.toNat) (h2 : v.toNat ≤ 131072) : (rpages v).toNat = (v.toNat + 2047) / 2048 * 128 := by
  have e : (IntOp.subi (IntOp.addi v 2048#32) 1#32).toNat = v.toNat + 2047 := by
    simp only [IntOp.subi, IntOp.addi, BitVec.toNat_sub, BitVec.toNat_add, BitVec.toNat_ofNat]; omega
  have f : (IntOp.divsi .host (IntOp.subi (IntOp.addi v 2048#32) 1#32) 2048#32).toNat = (v.toNat + 2047) / 2048 := by
    rw [host_divsi (by rw [e]; omega) (by decide) (by decide), e]; rfl
  rw [rpages, IntOp.muli, BitVec.toNat_mul, f, BitVec.toNat_ofNat]; omega

/-- The mask of the places that hold a token. -/
theorem ok_word {v : BitVec 32} (h1 : 1 ≤ v.toNat) (h2 : v.toNat ≤ 131072) (J : Fin 131072) :
    IntOp.andi (IntOp.cmpi .slt (IntOp.divsi .host (BitVec.ofNat 32 J.val) (rpages v)) 16#32)
        (IntOp.cmpi .slt (IntOp.addi (IntOp.muli (IntOp.remsi .host (BitVec.ofNat 32 J.val) (rpages v)) 16#32)
          (IntOp.divsi .host (BitVec.ofNat 32 J.val) (rpages v))) v)
      = if Ok ((v.toNat + 2047) / 2048 * 128) v.toNat J.val then 1#1 else 0#1 := by
  have hr := rpages_toNat h1 h2
  have hJ : (BitVec.ofNat 32 J.val).toNat = J.val := by rw [BitVec.toNat_ofNat]; omega
  exact mask_word J.val ((v.toNat + 2047) / 2048 * 128) v.toNat (rpages v) v (BitVec.ofNat 32 J.val) (by omega) (by omega) (by omega) h2 hr rfl hJ
    _ (by rw [host_divsi (by omega) (by omega) (by omega), hJ, hr]) _ (by rw [host_remsi (by omega) (by omega) (by omega), hJ, hr])

/-- The mask of the places that are read. -/
theorem in_word {v : BitVec 32} (h1 : 1 ≤ v.toNat) (h2 : v.toNat ≤ 131072) (J : Fin 131072) :
    IntOp.cmpi .slt (BitVec.ofNat 32 J.val) (IntOp.muli 16#32 (rpages v))
      = if J.val < 16 * ((v.toNat + 2047) / 2048 * 128) then 1#1 else 0#1 := by
  have hr := rpages_toNat h1 h2
  have hJ : (BitVec.ofNat 32 J.val).toNat = J.val := by rw [BitVec.toNat_ofNat]; omega
  have e : (16#32 * rpages v).toNat = 16 * ((v.toNat + 2047) / 2048 * 128) := by
    rw [BitVec.toNat_mul, hr]; simp; omega
  show BitVec.ofBool ((BitVec.ofNat 32 J.val).slt (16#32 * rpages v)) = _
  have : (BitVec.ofNat 32 J.val).slt (16#32 * rpages v) = decide (J.val < 16 * ((v.toNat + 2047) / 2048 * 128)) := by
    rw [BitVec.slt, Cert.Words.toInt_of_lt (by omega), Cert.Words.toInt_of_lt (by omega), hJ, e]
    exact decide_eq_decide.2 Nat.cast_lt
  rw [this]
  by_cases h : J.val < 16 * ((v.toNat + 2047) / 2048 * 128) <;> simp [h]

theorem select_ite {α : Type} (c : Prop) [Decidable c] (a b : α) : Scalar.select (if c then 1#1 else 0#1) a b = if c then a else b := by
  by_cases h : c <;> simp [h, Scalar.select]

/-- The word a byte's row lies in. -/
theorem div4 (r : Fin 128) : r.val / 4 < 32 := by omega

/-- The host's operations that build the scores. -/
noncomputable abbrev scores : List (HloOp τ sig (Elt Ideal)) := [hostOps1, hostOps1_1, hostOps1_2, hostOps1_3, hostOps1_4, hostOps1_5, hostOps1_6, hostOps1_7].flatten

variable (W : Valuation τ sig (Elt Ideal)) (c : Fin 4 → BitVec 32) (h1 : ∀ b, 1 ≤ (c b).toNat) (h2 : ∀ b, (c b).toNat ≤ 131072)
  (hc : ∀ b, W (Proc.devRef .tc main_arg1) (ix1 b) = c b)
  (kw vw : Fin 4 → Fin 32 → Fin 131072 → BitVec 32) (ks vs : Fin 4 → Fin 2 → Fin 131072 → EReal) (q : Fin 4 → Fin 2 → Fin 64 → Fin 4096 → EReal)
  (hk : ∀ b (r : Fin 128) J, W (Proc.devRef .tc main_v0_0) (ix3 b r J) = code (kw b ⟨r.val / 4, div4 r⟩ J) (r.val % 4))
  (hv : ∀ b (r : Fin 128) J, W (Proc.devRef .tc main_v0_1) (ix3 b r J) = code (vw b ⟨r.val / 4, div4 r⟩ J) (r.val % 4))
  (hks : ∀ b h J, W (Proc.devRef .tc main_arg4) (ix3 b h J) = ks b h J)
  (hvs : ∀ b h J, W (Proc.devRef .tc main_arg5) (ix3 b h J) = vs b h J)
  (hq : ∀ b h d x, W (Proc.devRef .tc main_arg6) (ix4 b h d x) = q b h d x)

theorem zero_id : id (constant (F := Ideal) S_ FTy.f32 0#32) ix0 = (0 : EReal) := Ideal.ofBits_zero_f32

/-- A code times its scale, where the place holds a token. -/
theorem cval_eq (kw : Fin 32 → Fin 131072 → BitVec 32) (ks : Fin 2 → Fin 131072 → EReal) (n cl : ℕ) (h : Fin 2) (d : Fin 64) (J : Fin 131072)
    (p : (h.val * 64 + d.val) / 4 < 32) {z : EReal} (hz : z = 0) :
    (if Ok n cl J.val then code (kw ⟨(h.val * 64 + d.val) / 4, p⟩ J) ((h.val * 64 + d.val) % 4) * ks h J else z) = cval kw ks n cl h d J.val := by
  unfold cval
  rw [dif_pos J.isLt, hz]
  have e1 : (⟨(h.val * 64 + d.val) / 4, p⟩ : Fin 32) = ⟨16 * h.val + d.val / 4, by omega⟩ := Fin.ext (by show (h.val * 64 + d.val) / 4 = 16 * h.val + d.val / 4; omega)
  have e2 : (h.val * 64 + d.val) % 4 = d.val % 4 := by omega
  rw [e1, e2]

include h1 h2 hc hv hvs in
/-- The dequantised values. -/
theorem z40 (b : Fin 4) (h : Fin 2) (d : Fin 64) (J : Fin 131072) : StableHlo.after scores W (Proc.devRef .tc main_v40) (ix4 b h d J)
    = cval (vw b) (vs b) (((c b).toNat + 2047) / 2048 * 128) (c b).toNat h d J.val := by
  after_reads_at
  rw [hc, ok_word (h1 b) (h2 b), select_ite, hv, hvs]
  exact cval_eq (vw b) (vs b) _ _ h d J _ zero_id

include h1 h2 hc hk hks hq in
/-- The scores: minus infinity past the places read. -/
theorem z45 (b : Fin 4) (h : Fin 2) (J : Fin 131072) (x : Fin 4096) : StableHlo.after scores W (Proc.devRef .tc main_v45) (ix4 b h J x)
    = if J.val < 16 * (((c b).toNat + 2047) / 2048 * 128) then csco (kw b) (ks b) (q b) (((c b).toNat + 2047) / 2048 * 128) (c b).toNat h x J.val else ⊥ := by
  after_reads_at
  simp only [hc, ok_word (h1 b) (h2 b), in_word (h1 b) (h2 b), select_ite, hk, hks, hq]
  refine ite_congr rfl (fun _ => ?_) (fun _ => Cert.KernelIdeal.Val.negInf)
  refine ite_congr rfl (fun _ => Finset.sum_congr rfl fun d _ => ?_) (fun _ => rfl)
  exact congrArg (· * q b h d x) (cval_eq (kw b) (ks b) _ _ h d J _ zero_id)

end Cert.ReferenceIdeal.Val
-- ==== Proof.RefC.lean ====
/- The reference's result, read at an index: a gather along the last axis, masked. -/
module
public import proofs.«01_k».proof.Proof.RefMask
public import proofs.«01_k».proof.Proof.State
public import proofs.«01_k».proof.Proof.Gen.ReferenceIdeal.Frame
public import Idealize.ShloMosaic.Lib.StableHlo.RunRead
public import Idealize.ShloMosaic.Lib.StableHlo.ReadAt
@[expose] public section
set_option maxRecDepth 16384
set_option maxHeartbeats 1000000
namespace Cert.ReferenceIdeal.Val
open Cert.ReferenceIdeal Cert.ReferenceIdeal.Gen
open Idealize.ShloMosaic Idealize.ShloMosaic.TcCoe
open Cert.Spec (Ok code mask_word cval csco)

variable (W : Valuation τ sig (Elt Ideal))

/-- The host's operations that lay out the rows. -/
noncomputable abbrev rows : List (HloOp τ sig (Elt Ideal)) := [hostOps1_9, hostOps1_10, hostOps1_11, hostOps1_12].flatten

/-- The gather's dimension numbers. -/
abbrev gd := gather_S4x2x64x4096_S4x16x256x1_S4x2x64x16x256_12_3_0_0_3_3_12641

theorem gather_at {α : Type} (x : S4x2x64x4096.Idx → α) (idx : IVec S4x16x256x1 32) (b : Fin 4) (h : Fin 2) (d : Fin 64) (g : Fin 16) (t : Fin 256) :
    Host.gather gd x idx (ix5 b h d g t) = x (ix4 b h d ⟨min (idx (ix4 b g t 0)).toInt.toNat 4095, by omega⟩) := by
  unfold Host.gather
  congr 1
  funext a
  refine Fin.ext ?_
  show gd.start (ix5 b h d g t) idx a + gd.batchCoord (ix5 b h d g t) a + gd.offCoord (ix5 b h d g t) a = _
  match a with
  | ⟨0, _⟩ =>
    have h0 : (0 : Fin 4) ∈ gd.operandBatchingDims := List.mem_singleton.mpr rfl
    show gd.start (ix5 b h d g t) idx (0 : Fin 4) + gd.batchCoord (ix5 b h d g t) (0 : Fin 4) + gd.offCoord (ix5 b h d g t) (0 : Fin 4) = b.val
    rw [gd.start_batching _ _ _ h0, gd.offCoord_eq_zero _ _ (fun h => ((gd.mem_sKept _).mp h).2 h0)]
    simp only [Nat.zero_add, Nat.add_zero]
    unfold GatherDims.batchCoord
    rw [dif_pos h0]
    rfl
  | ⟨1, _⟩ =>
    have h0 : (1 : Fin 4) ∈ gd.sKept := (gd.mem_sKept _).mpr ⟨by decide, by decide⟩
    show gd.start (ix5 b h d g t) idx (1 : Fin 4) + gd.batchCoord (ix5 b h d g t) (1 : Fin 4) + gd.offCoord (ix5 b h d g t) (1 : Fin 4) = h.val
    rw [gd.batchCoord_eq_zero _ _ (by decide)]
    unfold GatherDims.start GatherDims.offCoord
    rw [dif_neg (by decide), dif_pos h0]
    simp only [Nat.zero_add]
    rfl
  | ⟨2, _⟩ =>
    have h0 : (2 : Fin 4) ∈ gd.sKept := (gd.mem_sKept _).mpr ⟨by decide, by decide⟩
    show gd.start (ix5 b h d g t) idx (2 : Fin 4) + gd.batchCoord (ix5 b h d g t) (2 : Fin 4) + gd.offCoord (ix5 b h d g t) (2 : Fin 4) = d.val
    rw [gd.batchCoord_eq_zero _ _ (by decide)]
    unfold GatherDims.start GatherDims.offCoord
    rw [dif_neg (by decide), dif_pos h0]
    simp only [Nat.zero_add]
    rfl
  | ⟨3, _⟩ =>
    have h0 : (3 : Fin 4) ∈ gd.collapsedSliceDims := List.mem_singleton.mpr rfl
    have h1 : (3 : Fin 4) ∈ gd.startIndexMap := List.mem_singleton.mpr rfl
    show gd.start (ix5 b h d g t) idx (3 : Fin 4) + gd.batchCoord (ix5 b h d g t) (3 : Fin 4) + gd.offCoord (ix5 b h d g t) (3 : Fin 4) = min (idx (ix4 b g t 0)).toInt.toNat 4095
    rw [gd.batchCoord_eq_zero _ _ (by decide), gd.offCoord_eq_zero _ _ (fun h => ((gd.mem_sKept _).mp h).1 h0)]
    simp only [Nat.add_zero]
    unfold GatherDims.start
    rw [dif_pos h1]
    have hsi : gd.siIdx (ix5 b h d g t) ⟨List.idxOf (3 : Fin 4) gd.startIndexMap, List.idxOf_lt_length_iff.2 h1⟩ = ix4 b g t 0 := by
      funext e; refine Fin.ext ?_
      match e with
      | ⟨0, _⟩ => rfl
      | ⟨1, _⟩ => rfl
      | ⟨2, _⟩ => rfl
      | ⟨3, _⟩ => rfl
    rw [hsi]
    rfl

/-- A column in range is gathered as it is. -/
theorem nowrap {w : BitVec 32} {col : ℕ} (hw : w.toNat = col) (hc : col < 4096) :
    min (Scalar.select (IntOp.cmpi .slt w 0#32) (IntOp.addi w 4096#32) w).toInt.toNat 4095 = col := by
  have hs : IntOp.cmpi .slt w 0#32 = 0#1 := by
    show BitVec.ofBool (w.slt 0#32) = _
    rw [BitVec.slt, Cert.Words.toInt_of_lt (by omega), show (0#32 : BitVec 32).toInt = 0 from rfl, decide_eq_false (by omega)]
    rfl
  rw [hs]
  show min w.toInt.toNat 4095 = col
  rw [Cert.Words.toInt_of_lt (by omega), hw]
  omega

/-- The result of sequence `b`, query head `j`, channel `d` and query `x`: the column gathered where the query exists, else zero. -/
theorem z95 (b : Fin 4) (j : Fin 32) (d : Fin 64) (x : Fin 256) (q : BitVec 32) (col : ℕ) (hcol : x.val < q.toNat → col < 4096) (hq : q.toNat ≤ 256)
    (e0 : W (Proc.devRef .tc main_arg0) (ix1 b) = q) (e73 : W (Proc.devRef .tc main_v73) (ix1 x) = BitVec.ofNat 32 x.val)
    (e85 : (W (Proc.devRef .tc main_v85) (ix5 b 0 0 ⟨j.val % 16, by omega⟩ x) : BitVec 32).toNat = col) :
    StableHlo.after rows W (Proc.devRef .tc main_v95) (ix4 b j d x)
      = (if hx : x.val < q.toNat then (W (Proc.devRef .tc main_v84) (ix5 b ⟨j.val / 16, by omega⟩ d 0 ⟨col, hcol hx⟩) : EReal) else 0 : EReal) := by
  after_reads_at
  rw [e0, e73]
  have hc : IntOp.cmpi .slt (BitVec.ofNat 32 x.val) q = if x.val < q.toNat then 1#1 else 0#1 := by
    have hX : (BitVec.ofNat 32 x.val).toNat = x.val := by rw [BitVec.toNat_ofNat]; omega
    show BitVec.ofBool ((BitVec.ofNat 32 x.val).slt q) = _
    have : (BitVec.ofNat 32 x.val).slt q = decide (x.val < q.toNat) := by
      rw [BitVec.slt, Cert.Words.toInt_of_lt (by omega), Cert.Words.toInt_of_lt (by omega), hX]
      exact decide_eq_decide.2 Nat.cast_lt
    rw [this]
    by_cases h : x.val < q.toNat <;> simp [h]
  rw [hc, select_ite]
  by_cases hx : x.val < q.toNat
  · rw [if_pos hx, dif_pos hx]
    have hl := hcol hx
    refine (gather_at _ _ b ⟨j.val / 16, by omega⟩ d ⟨j.val % 16, by omega⟩ x).trans ?_
    exact congrArg (fun k => W (Proc.devRef .tc main_v84) (ix5 b ⟨j.val / 16, by omega⟩ d 0 k)) (Fin.ext (nowrap e85 hl))
  · rw [if_neg hx, dif_neg hx]
    exact zero_id
end Cert.ReferenceIdeal.Val
-- ==== Proof.RefB.lean ====
/- The reference's normalised numerator, and the columns it gathers. -/
module
public import proofs.«01_k».proof.Proof.RefMask
public import proofs.«01_k».proof.Proof.State
public import proofs.«01_k».proof.Proof.Gen.ReferenceIdeal.Frame
public import Idealize.ShloMosaic.Lib.StableHlo.RunRead
public import Idealize.ShloMosaic.Lib.StableHlo.ReadAt
@[expose] public section
set_option maxRecDepth 16384
set_option maxHeartbeats 1000000
namespace Cert.ReferenceIdeal.Val
open Cert.ReferenceIdeal Cert.ReferenceIdeal.Gen
open Idealize.ShloMosaic Idealize.ShloMosaic.TcCoe
open Cert.Spec (Ok code mask_word cval csco)

/-- The maximum over all places is the one over the places read. -/
theorem top_cut (m0 : EReal) (s : ℕ → EReal) (n N : ℕ) (h : n ≤ N) :
    max m0 ((Finset.univ : Finset (Fin N)).fold max ⊥ fun k => if k.val < n then s k.val else ⊥) = Cert.Soft.top m0 s n := by
  apply le_antisymm
  · refine max_le (Cert.Soft.le_top_start m0 s n) ?_
    rw [Finset.fold_max_le]
    refine ⟨bot_le, fun j _ => ?_⟩
    by_cases hj : j.val < n
    · rw [if_pos hj]; exact Cert.Soft.le_top m0 s hj
    · rw [if_neg hj]; exact bot_le
  · unfold Cert.Soft.top
    rw [Finset.fold_max_le]
    refine ⟨le_max_left _ _, fun x hx => le_max_of_le_right ?_⟩
    rw [Finset.mem_range] at hx
    rw [Finset.le_fold_max]
    refine Or.inr ⟨⟨x, by omega⟩, Finset.mem_univ _, ?_⟩
    show s x ≤ if x < n then s x else ⊥
    rw [if_pos hx]

/-- A weighted sum of exponentials over all places is the one over the places read. -/
theorem sum_cut (s v : ℕ → EReal) (M : EReal) (n N : ℕ) (h : n ≤ N) :
    ∑ k : Fin N, v k.val * Ideal.exp ((if k.val < n then s k.val else ⊥) - M) = ∑ x ∈ Finset.range n, v x * Ideal.exp (s x - M) := by
  rw [← Finset.sum_range (fun x => v x * Ideal.exp ((if x < n then s x else ⊥) - M))]
  rw [← Finset.sum_subset (Finset.range_mono h)]
  · refine Finset.sum_congr rfl fun x hx => ?_
    rw [if_pos (Finset.mem_range.mp hx)]
  · intro x _ hx
    rw [Finset.mem_range] at hx
    rw [if_neg hx]
    simp

/-- The same without weights. -/
theorem sum_cut' (s : ℕ → EReal) (M : EReal) (n N : ℕ) (h : n ≤ N) :
    ∑ k : Fin N, Ideal.exp ((if k.val < n then s k.val else ⊥) - M) = ∑ x ∈ Finset.range n, Ideal.exp (s x - M) := by
  have := sum_cut s (fun _ => 1) M n N h
  simpa only [one_mul] using this

variable (W : Valuation τ sig (Elt Ideal))

/-- The numerator over the denominator. -/
theorem z84 (b : Fin 4) (h : Fin 2) (d : Fin 64) (x : Fin 4096) (s v : ℕ → EReal) (m0 l0 o0 : EReal) (n : ℕ) (hn : n ≤ 131072)
    (hs : ∀ J : Fin 131072, W (Proc.devRef .tc main_v45) (ix4 b h J x) = if J.val < n then s J.val else ⊥)
    (hv : ∀ J : Fin 131072, W (Proc.devRef .tc main_v40) (ix4 b h d J) = v J.val)
    (e7 : W (Proc.devRef .tc main_arg7) (ix4 b h 0 x) = m0) (e8 : W (Proc.devRef .tc main_arg8) (ix4 b h 0 x) = l0)
    (e9 : W (Proc.devRef .tc main_arg9) (ix4 b h d x) = o0) :
    StableHlo.after hostOps1_8 W (Proc.devRef .tc main_v84) (ix5 b h d 0 x) = Cert.Soft.num m0 o0 s v n * Ideal.div 1 (Cert.Soft.den m0 l0 s n) := by
  after_reads_at
  simp only [hs, hv, e7, e8, e9, Cert.KernelIdeal.Val.negInf]
  rw [top_cut m0 s n 131072 hn, sum_cut s v _ n 131072 hn, sum_cut' s _ n 131072 hn]
  rfl

theorem rpadded_toNat {q : BitVec 32} (h : q.toNat ≤ 256) : (IntOp.muli (IntOp.divsi .host (IntOp.addi q 15#32) 16#32) 16#32).toNat = (q.toNat + 15) / 16 * 16 := by
  have e : (IntOp.addi q 15#32).toNat = q.toNat + 15 := by
    simp only [IntOp.addi, BitVec.toNat_add, BitVec.toNat_ofNat]; omega
  have f : (IntOp.divsi .host (IntOp.addi q 15#32) 16#32).toNat = (q.toNat + 15) / 16 := by
    rw [host_divsi (by rw [e]; omega) (by decide) (by decide), e]; rfl
  rw [IntOp.muli, BitVec.toNat_mul, f, BitVec.toNat_ofNat]; omega

/-- The columns gathered. -/
theorem z85 (b : Fin 4) (g : Fin 16) (x : Fin 256) (q : BitVec 32) (hq : W (Proc.devRef .tc main_arg0) (ix1 b) = q) (h : q.toNat ≤ 256) :
    (StableHlo.after hostOps1_8 W (Proc.devRef .tc main_v85) (ix5 b 0 0 g x) : BitVec 32).toNat = Cert.KernelIdeal.Val.col0 q.toNat g.val + x.val := by
  after_reads_at
  rw [hq]
  have e := rpadded_toNat h
  generalize IntOp.muli (IntOp.divsi .host (IntOp.addi q 15#32) 16#32) 16#32 = w at e
  have : g.val * ((q.toNat + 15) / 16 * 16) ≤ 15 * 272 := Nat.mul_le_mul (by omega) (by omega)
  unfold Cert.KernelIdeal.Val.col0
  rw [IntOp.addi, IntOp.muli, BitVec.toNat_add, BitVec.toNat_mul, e, BitVec.toNat_ofNat, BitVec.toNat_ofNat, Nat.mod_eq_of_lt (show g.val < 2 ^ 32 by omega),
    Nat.mod_eq_of_lt (show x.val < 2 ^ 32 by omega)]
  omega

theorem z73 (x : Fin 256) : StableHlo.after hostOps1_8 W (Proc.devRef .tc main_v73) (ix1 x) = BitVec.ofNat 32 x.val := by
  after_reads_at
end Cert.ReferenceIdeal.Val
-- ==== Proof.RefRegion.lean ====
/- The two tables of decoded codes the reference's launch leaves. -/
module
public import proofs.«01_k».proof.Proof.RefC
public import proofs.«01_k».proof.Proof.RefB
public import Idealize.ShloMosaic.Lib.Pipeline.ValueKit
public import proofs.«01_k».proof.Proof.State
public import proofs.«01_k».proof.Proof.Gen.ReferenceIdeal.Frame
public import Idealize.ShloMosaic.Lib.StableHlo.RunRead
public import Idealize.ShloMosaic.Lib.StableHlo.ReadAt
@[expose] public section
set_option maxRecDepth 16384
set_option maxHeartbeats 1000000
namespace Cert.ReferenceIdeal.Val
open Cert.ReferenceIdeal Cert.ReferenceIdeal.Gen
open Idealize.ShloMosaic Idealize.ShloMosaic.TcCoe
open Cert.Spec (Ok code mask_word cval csco)

variable (m : (ℓ : Loc nD τ sig) → Buf (Elt Ideal) ℓ) (c : Dev nD)

theorem blk0 (t : Fin cfg0.N) : iblk m c 0 t = V m c main_arg2 := by
  funext y
  refine congrArg (V m c main_arg2) (funext fun a => Fin.ext ?_)
  match a with
  | ⟨0, _⟩ => exact (by omega : 0 * 4 + 1 * (y (0 : Fin 3)).val = (y (0 : Fin 3)).val)
  | ⟨1, _⟩ => exact (by omega : 0 * 32 + 1 * (y (1 : Fin 3)).val = (y (1 : Fin 3)).val)
  | ⟨2, _⟩ => exact (by omega : 0 * 131072 + 1 * (y (2 : Fin 3)).val = (y (2 : Fin 3)).val)

theorem blk1 (t : Fin cfg0.N) : iblk m c 1 t = V m c main_arg3 := by
  funext y
  refine congrArg (V m c main_arg3) (funext fun a => Fin.ext ?_)
  match a with
  | ⟨0, _⟩ => exact (by omega : 0 * 4 + 1 * (y (0 : Fin 3)).val = (y (0 : Fin 3)).val)
  | ⟨1, _⟩ => exact (by omega : 0 * 32 + 1 * (y (1 : Fin 3)).val = (y (1 : Fin 3)).val)
  | ⟨2, _⟩ => exact (by omega : 0 * 131072 + 1 * (y (2 : Fin 3)).val = (y (2 : Fin 3)).val)

theorem arr2 : (dats m 0 c).arrAt 2 cfg0.N = k0_pay1 (F := Ideal) (V m c main_arg2) := by
  refine (dats m 0 c).arrAt_eq_of_covers 2 (k0_pay1 (F := Ideal) (V m c main_arg2)) (by decide +kernel) fun t hf y => ?_
  blk_simp
  rw [after0_2]
  frame_out
  rw [blk0]
  refine congrArg (k0_pay1 (F := Ideal) (V m c main_arg2)) (funext fun a => Fin.ext ?_)
  match a with
  | ⟨0, _⟩ => exact (by omega : (y (0 : Fin 3)).val = 0 * 4 + 1 * (y (0 : Fin 3)).val)
  | ⟨1, _⟩ => exact (by omega : (y (1 : Fin 3)).val = 0 * 128 + 1 * (y (1 : Fin 3)).val)
  | ⟨2, _⟩ => exact (by omega : (y (2 : Fin 3)).val = 0 * 131072 + 1 * (y (2 : Fin 3)).val)

theorem arr3 : (dats m 0 c).arrAt 3 cfg0.N = k0_pay2 (F := Ideal) (V m c main_arg3) := by
  refine (dats m 0 c).arrAt_eq_of_covers 3 (k0_pay2 (F := Ideal) (V m c main_arg3)) (by decide +kernel) fun t hf y => ?_
  blk_simp
  rw [after0_3]
  frame_out
  rw [blk1]
  refine congrArg (k0_pay2 (F := Ideal) (V m c main_arg3)) (funext fun a => Fin.ext ?_)
  match a with
  | ⟨0, _⟩ => exact (by omega : (y (0 : Fin 3)).val = 0 * 4 + 1 * (y (0 : Fin 3)).val)
  | ⟨1, _⟩ => exact (by omega : (y (1 : Fin 3)).val = 0 * 128 + 1 * (y (1 : Fin 3)).val)
  | ⟨2, _⟩ => exact (by omega : (y (2 : Fin 3)).val = 0 * 131072 + 1 * (y (2 : Fin 3)).val)

theorem byte_all (w : IVec S4x32x131072 32) (b : Fin 4) (r : Fin 128) (J : Fin 131072) :
    bitcast S4x128x131072 8 w bitcasts_S4x32x131072_w32_S4x128x131072_w8 (ix3 b r J) = ((w (ix3 b ⟨r.val / 4, div4 r⟩ J)) >>> (8 * (r.val % 4))).setWidth 8 := by
  have hr : S4x128x131072.row (ix3 b r J) = r.val := rfl
  rw [Cert.Spec.bitcast_byte w _ (ix3 b r J) (fun a ha => by
    have e : a = 1 := Fin.ext (by show a.val = 1; have : S4x32x131072.rank = 3 := rfl; omega)
    subst e; show r.val / 4 < 32; omega)]
  congr 3
  funext a
  match a with
  | ⟨0, _⟩ => exact Fin.ext (Shape.Bitcasts.srcIdx_other _ _ _ _ ⟨0, by decide⟩ (by show ¬ 0 + 2 = 3; omega))
  | ⟨1, _⟩ => exact Fin.ext (Shape.Bitcasts.srcIdx_row _ _ _ _ ⟨1, by decide⟩ rfl)
  | ⟨2, _⟩ => exact Fin.ext (Shape.Bitcasts.srcIdx_other _ _ _ _ ⟨2, by decide⟩ (by show ¬ 2 + 2 = 3; omega))

theorem dec2 (w : Vec Ideal S4x32x131072 .i32) (b : Fin 4) (r : Fin 128) (J : Fin 131072) :
    k0_pay1 (F := Ideal) w (ix3 b r J) = code (w (ix3 b ⟨r.val / 4, div4 r⟩ J)) (r.val % 4) :=
  congrArg (Ideal.ofBits .fp8e4m3) (byte_all w b r J)

theorem dec3 (w : Vec Ideal S4x32x131072 .i32) (b : Fin 4) (r : Fin 128) (J : Fin 131072) :
    k0_pay2 (F := Ideal) w (ix3 b r J) = code (w (ix3 b ⟨r.val / 4, div4 r⟩ J)) (r.val % 4) :=
  congrArg (Ideal.ofBits .fp8e4m3) (byte_all w b r J)

/-- The buffers when the host's operations after the launch begin. -/
noncomputable def W0 : Valuation τ sig (Elt Ideal) := Pipeline.withArrays spec0 c (V0 m c) fun w => (dats m 0 c).arrAt w cfg0.N

theorem W0_v0 : W0 m c (Proc.devRef .tc main_v0_0) = k0_pay1 (F := Ideal) (V m c main_arg2) :=
  (Pipeline.withArrays_arr spec0 (by decide +kernel) c (V0 m c) (fun w => (dats m 0 c).arrAt w cfg0.N) 2).trans (arr2 m c)
theorem W0_v1 : W0 m c (Proc.devRef .tc main_v0_1) = k0_pay2 (F := Ideal) (V m c main_arg3) :=
  (Pipeline.withArrays_arr spec0 (by decide +kernel) c (V0 m c) (fun w => (dats m 0 c).arrAt w cfg0.N) 3).trans (arr3 m c)
theorem W0_arg (b : Ref sig .tc) (hb : ∀ w, Pipeline.arrRef spec0 w ≠ b) : W0 m c (Proc.devRef .tc b) = m ((c : Thread nD τ).loc b) :=
  Pipeline.withArrays_of_ne spec0 c (V0 m c) (fun w => (dats m 0 c).arrAt w cfg0.N) b hb

/-- What the reference's run leaves in its result buffer, stage by stage. -/
theorem run_ref (ρ : Dev nD → PrngReg) : θ_run (defs (F := Ideal)) (onTc (τ := τ) (main (F := Ideal))) ⟨m, fun _ => 0, ρ⟩
    (fun r => r.2.mem (((0 : Dev nD) : Thread nD τ).loc main_v95)
      = StableHlo.after rows (StableHlo.after hostOps1_8 (StableHlo.after scores (W0 m 0))) (Proc.devRef .tc main_v95)) := by
  refine (θ_run defs _ _).mono (fun r h => ?_) (run_main m ρ)
  refine ((h 0).2 main_v95 (by decide +kernel)).trans ?_
  show StableHlo.after [hostOps1, hostOps1_1, hostOps1_2, hostOps1_3, hostOps1_4, hostOps1_5, hostOps1_6, hostOps1_7, hostOps1_8, hostOps1_9, hostOps1_10, hostOps1_11, hostOps1_12].flatten (W0 m 0) (Proc.devRef .tc main_v95) = _
  rw [show ([hostOps1, hostOps1_1, hostOps1_2, hostOps1_3, hostOps1_4, hostOps1_5, hostOps1_6, hostOps1_7, hostOps1_8, hostOps1_9, hostOps1_10, hostOps1_11, hostOps1_12].flatten : List (HloOp τ sig (Elt Ideal))) = scores ++ (hostOps1_8 ++ rows) by
    simp only [scores, rows, List.flatten_cons, List.append_assoc, List.flatten_nil, List.append_nil, List.nil_append]]
  rw [StableHlo.after_append, StableHlo.after_append]
end Cert.ReferenceIdeal.Val
-- ==== Proof.Points.lean ====
/- The running arrays after every grid point of a sequence but its last, and the block its last point leaves. -/
module
public import proofs.«01_k».proof.Proof.State
@[expose] public section
set_option maxRecDepth 16384
set_option maxHeartbeats 1000000
namespace Cert.KernelIdeal.Val
open Cert.KernelIdeal Cert.KernelIdeal.Gen Cert.KernelIdeal.Hyp
open Idealize.ShloMosaic Idealize.ShloMosaic.TcCoe
open Cert.Spec (Ok code cval csco)
open Cert.Words (chunks)

variable (m : (ℓ : Loc nD τ sig) → Buf (Elt Ideal) ℓ)

theorem cond2_iff (i : grid0.Coords) (v : BitVec 32) (h1 : 1 ≤ v.toNat) (h2 : v.toNat ≤ 131072) :
    cond0_1 i v ↔ (i 1).val < (v.toNat + 2047) / 2048 * 2 := by
  have e := Cert.Words.chunks_toNat h1 h2
  have hi : (i 1).val < 128 := (i 1).isLt
  have en : (BitVec.ofNat 32 (i 1).val).toNat = (i 1).val := by rw [BitVec.toNat_ofNat]; omega
  have key : ∀ p : Bool, IntOp.cmpi .ne (Scalar.extui (BitVec.ofBool p)) 0#32 = 1#1 ↔ p = true := by decide
  refine (key ((BitVec.ofNat 32 (i 1).val).slt (chunks v))).trans ?_
  rw [BitVec.slt, Cert.Words.toInt_of_lt (by omega), Cert.Words.toInt_of_lt (by omega), en, e, decide_eq_true_eq]
  exact Int.ofNat_lt

variable (hP : Cert.Pre_KernelIdeal m) (hO : Gen.Ok m) (hH : Gen.Hyps m hO)

include hP in
theorem cond1_iff (t : Fin grid0.N) : cond0_1 (grid0.coords t) (tbM0_1.view.readAt (Elt Ideal) (Rect.unit (s := S4) (k0_off1 (grid0.coords t)) S1.size (k0_off1_inb (grid0.coords t))).toLoadRect (tbl m 1) (Shape.Idx.first (numel1_S1.symm ▸ Nat.one_pos)))
    ↔ t.val % 128 < nch m (seqOf t) := by
  have f := fits m hP (seqOf t)
  rw [word1, cond2_iff _ _ f.one_le f.cl_le, coord1]; rfl

theorem stepS_cast {T n cl c c' : ℕ} (e : c = c') {x0 x1 : Vec Ideal S1x32x1024 .i32} {x2 x3 : Vec Ideal S1x2x1024 .f32} {x4 : Vec Ideal S1x2x64x4096 .bf16}
    {M L : Fin 2 → Fin 4096 → EReal} {O : Fin 2 → Fin 64 → Fin 4096 → EReal} {M' L' : Vec Ideal S2x1x4096 .f32} {O' : Vec Ideal S2x64x4352 .f32}
    (s : StepS T n cl c x0 x1 x2 x3 x4 M L O M' L' O') : StepS T n cl c' x0 x1 x2 x3 x4 M L O M' L' O' := e ▸ s

/-- The state a point leaves. -/
def After (n : ℕ) (hn : n < (cfgM m hO).N) (k : ℕ) : Prop :=
  St m (seqOf ⟨n, hn⟩) k (fun h x => (outsAt0 m hO hH 0 n hn).2.1 (ix3 h 0 x)) (fun h x => (outsAt0 m hO hH 0 n hn).2.2.1 (ix3 h 0 x))
    (fun h d x => (outsAt0 m hO hH 0 n hn).2.2.2 (ix3 h d (⟨x.val, by omega⟩ : Fin 4352)))

include hP in
theorem after_A (t : Fin (cfgM m hO).N) (h0 : t.val % 128 = 0) : After m hO hH t.val t.isLt 1024 := by
  have f := fits m hP (seqOf t)
  have hc := nch_le m hP (seqOf t)
  have h1 := (cond1_iff m hP t).mpr (by omega)
  unfold After
  rw [outsAt0_A m hO hH 0 t h0 h1 (by omega)]
  rw [show 1024 = (t.val % 128 + 1) * 1024 by omega]
  refine state_step m hP hO t (by omega) (by rw [h0, Nat.zero_mul]; exact state_zero m hO t) (stepS_cast (coord1 t) ?_)
  exact step_A 0 (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) scM0_1 (Memref.isWhole_whole _) scM0_2 (Memref.isWhole_whole _) scM0_3 (Memref.isWhole_whole _) scM0_4 (Memref.isWhole_whole _) ((hcond0_0 t).mpr h0) (fun h => absurd ((hcond0_2 t).mp h) (by omega)) (iblk m hO 0 0 t) (iblk m hO 0 1 t) (iblk m hO 0 2 t) (iblk m hO 0 3 t) (iblk m hO 0 4 t) (iblk m hO 0 5 t) (iblk m hO 0 6 t) (iblk m hO 0 7 t) (tbl m 0) (tbl m 1) h1 (Hyps.c0 hH 0 t) (Hyps.c1 hH 0 t) (qlen m (seqOf t)) (clen m (seqOf t)) (npg m (seqOf t)) (congrArg BitVec.toNat (word0 m t)) f.q_le
    (congrArg BitVec.toNat (word1 m t)) f.one_le f.cl_le rfl

theorem seq_pred (t : Fin grid0.N) (h0 : ¬ t.val % 128 = 0) : seqOf ⟨t.val - 1, Nat.lt_of_le_of_lt (Nat.sub_le _ _) t.isLt⟩ = seqOf t :=
  Fin.ext (by show (t.val - 1) / 128 = t.val / 128; omega)

include hP in
theorem after_C (t : Fin (cfgM m hO).N) (h0 : ¬ t.val % 128 = 0) (h2 : ¬ t.val % 128 = 127) (hc : t.val % 128 < nch m (seqOf t))
    (ih : After m hO hH (t.val - 1) (Nat.lt_of_le_of_lt (Nat.sub_le _ _) t.isLt) (t.val % 128 * 1024)) : After m hO hH t.val t.isLt ((t.val % 128 + 1) * 1024) := by
  have f := fits m hP (seqOf t)
  have h1 := (cond1_iff m hP t).mpr hc
  unfold After at ih ⊢
  rw [seq_pred t h0] at ih
  rw [outsAt0_C m hO hH 0 t h0 h1 h2]
  refine state_step m hP hO t hc ih (stepS_cast (coord1 t) ?_)
  exact step_C 0 (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h2 ((hcond0_2 t).mp h)) (iblk m hO 0 0 t) (iblk m hO 0 1 t) (iblk m hO 0 2 t) (iblk m hO 0 3 t) (iblk m hO 0 4 t) (iblk m hO 0 5 t) (iblk m hO 0 6 t) (iblk m hO 0 7 t) (tbl m 0) (tbl m 1) (outsAt0 m hO hH 0 (t.val - 1) (Nat.lt_of_le_of_lt (Nat.sub_le _ _) t.isLt)).2.1 (outsAt0 m hO hH 0 (t.val - 1) (Nat.lt_of_le_of_lt (Nat.sub_le _ _) t.isLt)).2.2.1 (outsAt0 m hO hH 0 (t.val - 1) (Nat.lt_of_le_of_lt (Nat.sub_le _ _) t.isLt)).2.2.2 h1 (Hyps.c0 hH 0 t) (Hyps.c1 hH 0 t) (qlen m (seqOf t)) (clen m (seqOf t)) (npg m (seqOf t)) (congrArg BitVec.toNat (word0 m t)) f.q_le
    (congrArg BitVec.toNat (word1 m t)) f.one_le f.cl_le rfl

include hP in
theorem after_D (t : Fin (cfgM m hO).N) (h0 : ¬ t.val % 128 = 0) (h2 : ¬ t.val % 128 = 127) (hc : ¬ t.val % 128 < nch m (seqOf t)) {k : ℕ}
    (ih : After m hO hH (t.val - 1) (Nat.lt_of_le_of_lt (Nat.sub_le _ _) t.isLt) k) : After m hO hH t.val t.isLt k := by
  have h1 := fun h => hc ((cond1_iff m hP t).mp h)
  unfold After at ih ⊢
  rw [seq_pred t h0] at ih
  rw [outsAt0_D m hO hH 0 t h0 h1 h2]
  exact ih

include hP in
theorem after_all : ∀ (n : ℕ) (hn : n < (cfgM m hO).N), n % 128 ≠ 127 → After m hO hH n hn (min (n % 128 + 1) (nch m (seqOf ⟨n, hn⟩)) * 1024) := by
  intro n
  induction n with
  | zero =>
    intro hn _
    have hc := nch_le m hP (seqOf ⟨0, hn⟩)
    have e : min (0 % 128 + 1) (nch m (seqOf ⟨0, hn⟩)) * 1024 = 1024 := by omega
    rw [e]
    exact after_A m hP hO hH ⟨0, hn⟩ rfl
  | succ n ih =>
    intro hn h2
    have hc := nch_le m hP (seqOf ⟨n + 1, hn⟩)
    by_cases h0 : (n + 1) % 128 = 0
    · have e : min ((n + 1) % 128 + 1) (nch m (seqOf ⟨n + 1, hn⟩)) * 1024 = 1024 := by omega
      rw [e]
      exact after_A m hP hO hH ⟨n + 1, hn⟩ h0
    · have hn' : n < (cfgM m hO).N := Nat.lt_of_succ_lt hn
      have es : seqOf ⟨n, hn'⟩ = seqOf ⟨n + 1, hn⟩ := seq_pred ⟨n + 1, hn⟩ h0
      have ih' := ih hn' (by omega)
      rw [es] at ih'
      by_cases hc' : (n + 1) % 128 < nch m (seqOf ⟨n + 1, hn⟩)
      · have e : min (n % 128 + 1) (nch m (seqOf ⟨n + 1, hn⟩)) * 1024 = (n + 1) % 128 * 1024 := by omega
        have e' : min ((n + 1) % 128 + 1) (nch m (seqOf ⟨n + 1, hn⟩)) * 1024 = ((n + 1) % 128 + 1) * 1024 := by omega
        rw [e] at ih'; rw [e']
        exact after_C m hP hO hH ⟨n + 1, hn⟩ h0 h2 hc' ih'
      · have e : min (n % 128 + 1) (nch m (seqOf ⟨n + 1, hn⟩)) * 1024 = nch m (seqOf ⟨n + 1, hn⟩) * 1024 := by omega
        have e' : min ((n + 1) % 128 + 1) (nch m (seqOf ⟨n + 1, hn⟩)) * 1024 = nch m (seqOf ⟨n + 1, hn⟩) * 1024 := by omega
        rw [e] at ih'; rw [e']
        exact after_D m hP hO hH ⟨n + 1, hn⟩ h0 h2 hc' ih'

end Cert.KernelIdeal.Val
-- ==== Proof.Result.lean ====
/- The array the kernel leaves. -/
module
public import proofs.«01_k».proof.Proof.Points
@[expose] public section
set_option maxRecDepth 16384
set_option maxHeartbeats 1000000
namespace Cert.KernelIdeal.Val
open Cert.KernelIdeal Cert.KernelIdeal.Gen Cert.KernelIdeal.Hyp
open Idealize.ShloMosaic Idealize.ShloMosaic.TcCoe
open Cert.Spec (Ok code cval csco)

variable (m : (ℓ : Loc nD τ sig) → Buf (Elt Ideal) ℓ) (hP : Cert.Pre_KernelIdeal m) (hO : Gen.Ok m) (hH : Gen.Hyps m hO)

/-- The element the kernel leaves for sequence `b`, query head `j`, channel `d` and query `x`. -/
noncomputable def outK (b : Fin 4) (j : Fin 32) (d : Fin 64) (x : Fin 256) : EReal :=
  if hx : x.val < qlen m b then
    Soft.nums (m0 m b (⟨j.val / 16, by omega⟩ : Fin 2) ⟨col0 (qlen m b) (j.val % 16) + x.val, col_lt (fits m hP b).q_le j x hx⟩)
        (o0 m b (⟨j.val / 16, by omega⟩ : Fin 2) d ⟨col0 (qlen m b) (j.val % 16) + x.val, col_lt (fits m hP b).q_le j x hx⟩)
        (sF m b (⟨j.val / 16, by omega⟩ : Fin 2) ⟨col0 (qlen m b) (j.val % 16) + x.val, col_lt (fits m hP b).q_le j x hx⟩) (vF m b (⟨j.val / 16, by omega⟩ : Fin 2) d) (nch m b * 1024)
      * Ideal.div 1 (Soft.dens (m0 m b (⟨j.val / 16, by omega⟩ : Fin 2) ⟨col0 (qlen m b) (j.val % 16) + x.val, col_lt (fits m hP b).q_le j x hx⟩)
        (l0 m b (⟨j.val / 16, by omega⟩ : Fin 2) ⟨col0 (qlen m b) (j.val % 16) + x.val, col_lt (fits m hP b).q_le j x hx⟩)
        (sF m b (⟨j.val / 16, by omega⟩ : Fin 2) ⟨col0 (qlen m b) (j.val % 16) + x.val, col_lt (fits m hP b).q_le j x hx⟩) (nch m b * 1024))
  else 0

/-- A query's column is one of those the body updates. -/
theorem col_used {q : ℕ} (j : Fin 32) (x : ℕ) (hx : x < q) : col0 q (j.val % 16) + x < 256 * ((q + 15) / 16) := by
  have h : (j.val % 16) * ((q + 15) / 16 * 16) ≤ 15 * ((q + 15) / 16 * 16) := Nat.mul_le_mul_right _ (by omega)
  unfold col0
  omega

theorem laid_out (b : Fin 4) {M L : Fin 2 → Fin 4096 → EReal} {O : Fin 2 → Fin 64 → Fin 4096 → EReal} {B : Vec Ideal S1x32x64x256 .bf16}
    (hS : St m b (nch m b * 1024) M L O) (hL : Laid (qlen m b) (fits m hP b).q_le L O B) (j : Fin 32) (d : Fin 64) (x : Fin 256) :
    B (ix4 0 j d x) = outK m hP b j d x := by
  rw [hL j d x]
  unfold outK
  by_cases hx : x.val < qlen m b
  · rw [dif_pos hx, dif_pos hx]
    obtain ⟨_, s2, s3⟩ := hS (⟨j.val / 16, by omega⟩ : Fin 2) ⟨col0 (qlen m b) (j.val % 16) + x.val, col_lt (fits m hP b).q_le j x hx⟩ (col_used j x.val hx)
    rw [s2, s3 d]
  · rw [dif_neg hx, dif_neg hx]

theorem last_F (t : Fin (cfgM m hO).N) (h2 : t.val % 128 = 127) (hc : ¬ t.val % 128 < nch m (seqOf t)) (j : Fin 32) (d : Fin 64) (x : Fin 256) :
    (outsAt0 m hO hH 0 t.val t.isLt).1 (ix4 0 j d x) = outK m hP (seqOf t) j d x := by
  have f := fits m hP (seqOf t)
  have h0 : ¬ t.val % 128 = 0 := by omega
  have h1 := fun h => hc ((cond1_iff m hP t).mp h)
  have hp := nch_le m hP (seqOf t)
  have ih := after_all m hP hO hH (t.val - 1) (Nat.lt_of_le_of_lt (Nat.sub_le _ _) t.isLt) (by omega)
  rw [seq_pred t h0, show min ((t.val - 1) % 128 + 1) (nch m (seqOf t)) = nch m (seqOf t) by omega] at ih
  unfold After at ih
  rw [seq_pred t h0] at ih
  refine laid_out m hP (seqOf t) ih ?_ j d x
  rw [outsAt0_F m hO hH 0 t h0 h1 h2]
  exact out_F 0 (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_2 t).mpr h2) (iblk m hO 0 0 t) (iblk m hO 0 1 t) (iblk m hO 0 2 t) (iblk m hO 0 3 t) (iblk m hO 0 4 t) (iblk m hO 0 5 t) (iblk m hO 0 6 t) (iblk m hO 0 7 t) (tbl m 0) (tbl m 1) (outsAt0 m hO hH 0 (t.val - 1) (Nat.lt_of_le_of_lt (Nat.sub_le _ _) t.isLt)).2.1 (outsAt0 m hO hH 0 (t.val - 1) (Nat.lt_of_le_of_lt (Nat.sub_le _ _) t.isLt)).2.2.1 (outsAt0 m hO hH 0 (t.val - 1) (Nat.lt_of_le_of_lt (Nat.sub_le _ _) t.isLt)).2.2.2 h1 (Hyps.c0 hH 0 t) (Hyps.c1 hH 0 t) VO0_8 VO0_8.junk (qlen m (seqOf t)) (congrArg BitVec.toNat (word0 m t)) f.q_le

theorem last_E (t : Fin (cfgM m hO).N) (h2 : t.val % 128 = 127) (hc : t.val % 128 < nch m (seqOf t)) (j : Fin 32) (d : Fin 64) (x : Fin 256) :
    (outsAt0 m hO hH 0 t.val t.isLt).1 (ix4 0 j d x) = outK m hP (seqOf t) j d x := by
  have f := fits m hP (seqOf t)
  have h0 : ¬ t.val % 128 = 0 := by omega
  have h1 := (cond1_iff m hP t).mpr hc
  have hp := nch_le m hP (seqOf t)
  have ih := after_all m hP hO hH (t.val - 1) (Nat.lt_of_le_of_lt (Nat.sub_le _ _) t.isLt) (by omega)
  rw [seq_pred t h0, show min ((t.val - 1) % 128 + 1) (nch m (seqOf t)) = t.val % 128 by omega] at ih
  unfold After at ih
  rw [seq_pred t h0] at ih
  obtain ⟨M', L', O', hs, hl⟩ := out_E 0 (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_2 t).mpr h2) (iblk m hO 0 0 t) (iblk m hO 0 1 t) (iblk m hO 0 2 t) (iblk m hO 0 3 t) (iblk m hO 0 4 t) (iblk m hO 0 5 t) (iblk m hO 0 6 t) (iblk m hO 0 7 t) (tbl m 0) (tbl m 1) (outsAt0 m hO hH 0 (t.val - 1) (Nat.lt_of_le_of_lt (Nat.sub_le _ _) t.isLt)).2.1 (outsAt0 m hO hH 0 (t.val - 1) (Nat.lt_of_le_of_lt (Nat.sub_le _ _) t.isLt)).2.2.1 (outsAt0 m hO hH 0 (t.val - 1) (Nat.lt_of_le_of_lt (Nat.sub_le _ _) t.isLt)).2.2.2 h1 (Hyps.c0 hH 0 t) (Hyps.c1 hH 0 t) VO0_8 VO0_8.junk (qlen m (seqOf t)) (clen m (seqOf t)) (npg m (seqOf t)) (congrArg BitVec.toNat (word0 m t)) f.q_le
    (congrArg BitVec.toNat (word1 m t)) f.one_le f.cl_le rfl
  have hS := state_step m hP hO t hc ih (stepS_cast (coord1 t) hs)
  rw [show (t.val % 128 + 1) * 1024 = nch m (seqOf t) * 1024 by omega] at hS
  refine laid_out m hP (seqOf t) hS ?_ j d x
  rw [outsAt0_E m hO hH 0 t h0 h1 h2]
  exact hl

theorem last_all (t : Fin (cfgM m hO).N) (h2 : t.val % 128 = 127) (j : Fin 32) (d : Fin 64) (x : Fin 256) :
    (outsAt0 m hO hH 0 t.val t.isLt).1 (ix4 0 j d x) = outK m hP (seqOf t) j d x := by
  by_cases hc : t.val % 128 < nch m (seqOf t)
  · exact last_E m hP hO hH t h2 hc j d x
  · exact last_F m hP hO hH t h2 hc j d x

end Cert.KernelIdeal.Val
-- ==== Proof.Final.lean ====
/- The kernel's result array after the run. -/
module
public import proofs.«01_k».proof.Proof.Result
public import proofs.«01_k».proof.Proof.Gen.KernelIdeal.Points
public import Idealize.ShloMosaic.Lib.Pipeline.ValueKit
@[expose] public section
set_option maxRecDepth 16384
set_option maxHeartbeats 1000000
namespace Cert.KernelIdeal.Val
open Cert.KernelIdeal Cert.KernelIdeal.Gen Cert.KernelIdeal.Hyp
open Idealize.ShloMosaic Idealize.ShloMosaic.TcCoe Idealize.SL.Sem

variable (m : (ℓ : Loc nD τ sig) → Buf (Elt Ideal) ℓ) (hP : Cert.Pre_KernelIdeal m) (hO : Gen.Ok m) (hH : Gen.Hyps m hO)

theorem cover8 : ((cfgM m hO).win 8).Covers := by
  refine ⟨fun a => ?_, fun β => ?_⟩
  · match a with
    | ⟨0, _⟩ => exact (by omega : 0 < 1)
    | ⟨1, _⟩ => exact (by omega : 0 < 32)
    | ⟨2, _⟩ => exact (by omega : 0 < 64)
    | ⟨3, _⟩ => exact (by omega : 0 < 256)
  have h0 : (β (0 : Fin 4)).val < 4 := (β (0 : Fin 4)).isLt.trans_eq (by unfold Pipeline.Window.nblk; show (4 + 1 - 1) / 1 = 4; rfl)
  have h1 : (β (1 : Fin 4)).val < 1 := (β (1 : Fin 4)).isLt.trans_eq (by unfold Pipeline.Window.nblk; show (32 + 32 - 1) / 32 = 1; rfl)
  have h2 : (β (2 : Fin 4)).val < 1 := (β (2 : Fin 4)).isLt.trans_eq (by unfold Pipeline.Window.nblk; show (64 + 64 - 1) / 64 = 1; rfl)
  have h3 : (β (3 : Fin 4)).val < 1 := (β (3 : Fin 4)).isLt.trans_eq (by unfold Pipeline.Window.nblk; show (256 + 256 - 1) / 256 = 1; rfl)
  have hN : grid0.N = 512 := N_0
  have ht : 128 * (β (0 : Fin 4)).val + 127 < grid0.N := by omega
  refine ⟨⟨128 * (β (0 : Fin 4)).val + 127, ht⟩, (flush0_8 (adm m hO) ⟨128 * (β (0 : Fin 4)).val + 127, ht⟩).mpr (by show (128 * (β (0 : Fin 4)).val + 127) % 128 = 127; omega), fun a => ⟨?_, Or.inl rfl⟩⟩
  have e : (BitVec.ofNat 32 (grid0.coords ⟨128 * (β (0 : Fin 4)).val + 127, ht⟩ 0).val).toNat = (β (0 : Fin 4)).val := by
    rw [seqN, coord0]; show (128 * (β (0 : Fin 4)).val + 127) / 128 = _; omega
  match a with
  | ⟨0, _⟩ => exact e
  | ⟨1, _⟩ => exact (Nat.lt_one_iff.mp h1).symm
  | ⟨2, _⟩ => exact (Nat.lt_one_iff.mp h2).symm
  | ⟨3, _⟩ => exact (Nat.lt_one_iff.mp h3).symm

/-- The result array. -/
noncomputable def resK : Vec Ideal S4x32x64x256 .bf16 := fun i => outK m hP (i 0) (i 1) (i 2) (i 3)

theorem final : (dats m hO hH 0 0).arrAt 8 (cfgM m hO).N = resK m hP := by
  refine (dats m hO hH 0 0).arrAt_eq_of_covers 8 (resK m hP) (cover8 m hO) fun t hf y => ?_
  have h2 : t.val % 128 = 127 := (flush0_8 (adm m hO) t).mp hf
  rw [after0_8]
  have hy0 : (y (0 : Fin 4)).val < 1 := (y (0 : Fin 4)).isLt
  have key := last_all m hP hO hH t h2 (y (1 : Fin 4)) (y (2 : Fin 4)) (y (3 : Fin 4))
  have ey : ((cfgM m hO).win 8).xinj ((cfgM m hO).grid.coords t) y = ix4 0 (y (1 : Fin 4)) (y (2 : Fin 4)) (y (3 : Fin 4)) := by
    funext a
    refine Fin.ext ?_
    match a with
    | ⟨0, _⟩ => exact Nat.lt_one_iff.mp hy0
    | ⟨1, _⟩ => rfl
    | ⟨2, _⟩ => rfl
    | ⟨3, _⟩ => rfl
  refine (congrArg (outsAt0 m hO hH 0 t.val t.isLt).1 ey).trans (key.trans ?_)
  have ee : (((cfgM m hO).win 8).blk t).view.emb y = ix4 (seqOf t) (y (1 : Fin 4)) (y (2 : Fin 4)) (y (3 : Fin 4)) := by
    funext a
    refine Fin.ext ?_
    match a with
    | ⟨0, _⟩ =>
      have e : (BitVec.ofNat 32 (grid0.coords t 0).val).toNat * 1 + 1 * (y (0 : Fin 4)).val = t.val / 128 := by rw [seqN, coord0]; omega
      exact e
    | ⟨1, _⟩ =>
      have e : 0 * 32 + 1 * (y (1 : Fin 4)).val = (y (1 : Fin 4)).val := by omega
      exact e
    | ⟨2, _⟩ =>
      have e : 0 * 64 + 1 * (y (2 : Fin 4)).val = (y (2 : Fin 4)).val := by omega
      exact e
    | ⟨3, _⟩ =>
      have e : 0 * 256 + 1 * (y (3 : Fin 4)).val = (y (3 : Fin 4)).val := by omega
      exact e
  exact (congrArg (resK m hP) ee).symm

/-- Every run of the kernel ends with the result array at `resK`. -/
theorem run_value (g : Dev nD → PrngReg) : θ_run (defs (F := Ideal)) (onTc (τ := τ) (main (F := Ideal))) ⟨m, fun _ => 0, g⟩
    (fun r => r.2.mem (((0 : Dev nD) : Thread nD τ).loc main_v0) = resK m hP) := by
  have hO := ok_of_pre m hP
  have hH := hyps_of_pre m hP hO
  refine (θ_run defs _ _).mono (fun r h => ?_) (run_main m g hO hH)
  exact ((h 0).1 8).trans (final m hP hO hH)

end Cert.KernelIdeal.Val
-- ==== Proof.Meet.lean ====
/- The reference's result is the kernel's: element by element, then array by array. -/
module
public import proofs.«01_k».proof.Proof.RefRegion
public import proofs.«01_k».proof.Proof.Final
public import proofs.«01_k».proof.Proof.State
public import proofs.«01_k».proof.Proof.Gen.ReferenceIdeal.Frame
public import Idealize.ShloMosaic.Lib.StableHlo.RunRead
public import Idealize.ShloMosaic.Lib.StableHlo.ReadAt
@[expose] public section
set_option maxRecDepth 16384
set_option maxHeartbeats 1000000
namespace Cert.ReferenceIdeal.Val
open Cert.ReferenceIdeal Cert.ReferenceIdeal.Gen
open Idealize.ShloMosaic Idealize.ShloMosaic.TcCoe
open Cert.Spec (Ok code mask_word cval csco)

open Cert.KernelIdeal.Val (outK resK kW vW kS vS wQ m0 l0 o0 clen qlen npg sF vF nch nch_le col_lt)
open Cert.KernelIdeal.Hyp (fits cword qword)

theorem keep0 (W : Valuation τ sig (Elt Ideal)) : StableHlo.after scores W (Proc.devRef .tc main_arg0) = W (Proc.devRef .tc main_arg0) := by after_reads_simp
theorem keep7 (W : Valuation τ sig (Elt Ideal)) : StableHlo.after scores W (Proc.devRef .tc main_arg7) = W (Proc.devRef .tc main_arg7) := by after_reads_simp
theorem keep8 (W : Valuation τ sig (Elt Ideal)) : StableHlo.after scores W (Proc.devRef .tc main_arg8) = W (Proc.devRef .tc main_arg8) := by after_reads_simp
theorem keep9 (W : Valuation τ sig (Elt Ideal)) : StableHlo.after scores W (Proc.devRef .tc main_arg9) = W (Proc.devRef .tc main_arg9) := by after_reads_simp
theorem keep0' (W : Valuation τ sig (Elt Ideal)) : StableHlo.after hostOps1_8 W (Proc.devRef .tc main_arg0) = W (Proc.devRef .tc main_arg0) := by after_reads_simp

variable (m : (ℓ : Loc Cert.KernelIdeal.nD Cert.KernelIdeal.τ Cert.KernelIdeal.sig) → Buf (Elt Ideal) ℓ) (hP : Cert.Pre_KernelIdeal m)
  (m' : (ℓ : Loc nD τ sig) → Buf (Elt Ideal) ℓ)

/-- Both programs are given the same arguments. -/
def Agree : Prop :=
     m' (((0 : Dev nD) : Thread nD τ).loc main_arg0) = m (((0 : Dev Cert.KernelIdeal.nD) : Thread Cert.KernelIdeal.nD Cert.KernelIdeal.τ).loc Cert.KernelIdeal.main_arg0)
    ∧ m' (((0 : Dev nD) : Thread nD τ).loc main_arg1) = m (((0 : Dev Cert.KernelIdeal.nD) : Thread Cert.KernelIdeal.nD Cert.KernelIdeal.τ).loc Cert.KernelIdeal.main_arg1)
    ∧ m' (((0 : Dev nD) : Thread nD τ).loc main_arg2) = m (((0 : Dev Cert.KernelIdeal.nD) : Thread Cert.KernelIdeal.nD Cert.KernelIdeal.τ).loc Cert.KernelIdeal.main_arg2)
    ∧ m' (((0 : Dev nD) : Thread nD τ).loc main_arg3) = m (((0 : Dev Cert.KernelIdeal.nD) : Thread Cert.KernelIdeal.nD Cert.KernelIdeal.τ).loc Cert.KernelIdeal.main_arg3)
    ∧ m' (((0 : Dev nD) : Thread nD τ).loc main_arg4) = m (((0 : Dev Cert.KernelIdeal.nD) : Thread Cert.KernelIdeal.nD Cert.KernelIdeal.τ).loc Cert.KernelIdeal.main_arg4)
    ∧ m' (((0 : Dev nD) : Thread nD τ).loc main_arg5) = m (((0 : Dev Cert.KernelIdeal.nD) : Thread Cert.KernelIdeal.nD Cert.KernelIdeal.τ).loc Cert.KernelIdeal.main_arg5)
    ∧ m' (((0 : Dev nD) : Thread nD τ).loc main_arg6) = m (((0 : Dev Cert.KernelIdeal.nD) : Thread Cert.KernelIdeal.nD Cert.KernelIdeal.τ).loc Cert.KernelIdeal.main_arg6)
    ∧ m' (((0 : Dev nD) : Thread nD τ).loc main_arg7) = m (((0 : Dev Cert.KernelIdeal.nD) : Thread Cert.KernelIdeal.nD Cert.KernelIdeal.τ).loc Cert.KernelIdeal.main_arg7)
    ∧ m' (((0 : Dev nD) : Thread nD τ).loc main_arg8) = m (((0 : Dev Cert.KernelIdeal.nD) : Thread Cert.KernelIdeal.nD Cert.KernelIdeal.τ).loc Cert.KernelIdeal.main_arg8)
    ∧ m' (((0 : Dev nD) : Thread nD τ).loc main_arg9) = m (((0 : Dev Cert.KernelIdeal.nD) : Thread Cert.KernelIdeal.nD Cert.KernelIdeal.τ).loc Cert.KernelIdeal.main_arg9)

variable (hA : Agree m m')

theorem nch_npg (b : Fin 4) : nch m b * 1024 = 16 * npg m b := by
  unfold nch npg clen; omega

include hA in
theorem meet (b : Fin 4) (j : Fin 32) (d : Fin 64) (x : Fin 256) :
    StableHlo.after rows (StableHlo.after hostOps1_8 (StableHlo.after scores (W0 m' 0))) (Proc.devRef .tc main_v95) (ix4 b j d x) = outK m hP b j d x := by
  obtain ⟨a0, a1, a2, a3, a4, a5, a6, a7, a8, a9⟩ := hA
  have f := fits m hP b
  have w0 : W0 m' 0 (Proc.devRef .tc main_arg0) (ix1 b) = qword m b := congrFun ((W0_arg m' 0 main_arg0 (by decide +kernel)).trans a0) (ix1 b)
  have w1 : ∀ b, W0 m' 0 (Proc.devRef .tc main_arg1) (ix1 b) = cword m b := fun b => congrFun ((W0_arg m' 0 main_arg1 (by decide +kernel)).trans a1) (ix1 b)
  have w4 : ∀ b h J, W0 m' 0 (Proc.devRef .tc main_arg4) (ix3 b h J) = kS m b h J := fun b h J => congrFun ((W0_arg m' 0 main_arg4 (by decide +kernel)).trans a4) (ix3 b h J)
  have w5 : ∀ b h J, W0 m' 0 (Proc.devRef .tc main_arg5) (ix3 b h J) = vS m b h J := fun b h J => congrFun ((W0_arg m' 0 main_arg5 (by decide +kernel)).trans a5) (ix3 b h J)
  have w6 : ∀ b h d x, W0 m' 0 (Proc.devRef .tc main_arg6) (ix4 b h d x) = wQ m b h d x := fun b h d x => congrFun ((W0_arg m' 0 main_arg6 (by decide +kernel)).trans a6) (ix4 b h d x)
  have w7 : ∀ h x, W0 m' 0 (Proc.devRef .tc main_arg7) (ix4 b h 0 x) = m0 m b h x := fun h x => congrFun ((W0_arg m' 0 main_arg7 (by decide +kernel)).trans a7) (ix4 b h 0 x)
  have w8 : ∀ h x, W0 m' 0 (Proc.devRef .tc main_arg8) (ix4 b h 0 x) = l0 m b h x := fun h x => congrFun ((W0_arg m' 0 main_arg8 (by decide +kernel)).trans a8) (ix4 b h 0 x)
  have w9 : ∀ h x, W0 m' 0 (Proc.devRef .tc main_arg9) (ix4 b h d x) = o0 m b h d x := fun h x => congrFun ((W0_arg m' 0 main_arg9 (by decide +kernel)).trans a9) (ix4 b h d x)
  have wk : ∀ b (r : Fin 128) J, W0 m' 0 (Proc.devRef .tc main_v0_0) (ix3 b r J) = code (kW m b ⟨r.val / 4, div4 r⟩ J) (r.val % 4) := fun b r J =>
    (congrFun (W0_v0 m' 0) (ix3 b r J)).trans ((dec2 _ b r J).trans (congrArg (fun w => code w (r.val % 4)) (congrFun a2 (ix3 b ⟨r.val / 4, div4 r⟩ J))))
  have wv : ∀ b (r : Fin 128) J, W0 m' 0 (Proc.devRef .tc main_v0_1) (ix3 b r J) = code (vW m b ⟨r.val / 4, div4 r⟩ J) (r.val % 4) := fun b r J =>
    (congrFun (W0_v1 m' 0) (ix3 b r J)).trans ((dec3 _ b r J).trans (congrArg (fun w => code w (r.val % 4)) (congrFun a3 (ix3 b ⟨r.val / 4, div4 r⟩ J))))
  generalize W0 m' 0 = W at w0 w1 w4 w5 w6 w7 w8 w9 wk wv ⊢
  have c1 : ∀ b, 1 ≤ (cword m b).toNat := fun b => (fits m hP b).one_le
  have c2 : ∀ b, (cword m b).toNat ≤ 131072 := fun b => (fits m hP b).cl_le
  have sv := z40 W (cword m) c1 c2 w1 (vW m) (vS m) wv w5
  have ss := z45 W (cword m) c1 c2 w1 (kW m) (kS m) (wQ m) wk w4 w6
  have hn : 16 * npg m b ≤ 131072 := by have := c2 b; unfold npg clen; omega
  have hn0 : ¬ 16 * npg m b = 0 := by have := c1 b; unfold npg clen; omega
  refine (z95 (StableHlo.after hostOps1_8 (StableHlo.after scores W)) b j d x (qword m b) (Cert.KernelIdeal.Val.col0 (qword m b).toNat (j.val % 16) + x.val)
    (fun hx => col_lt f.q_le j x hx) f.q_le (by rw [keep0', keep0]; exact w0) (z73 (StableHlo.after scores W) x)
    (z85 (StableHlo.after scores W) b ⟨j.val % 16, by omega⟩ x (qword m b) (by rw [keep0]; exact w0) f.q_le)).trans ?_
  unfold outK
  refine dite_congr rfl (fun hx => ?_) (fun _ => rfl)
  rw [nch_npg]
  refine (z84 (StableHlo.after scores W) b ⟨j.val / 16, by omega⟩ d ⟨_, col_lt f.q_le j x hx⟩ (sF m b ⟨j.val / 16, by omega⟩ ⟨_, col_lt f.q_le j x hx⟩)
    (vF m b ⟨j.val / 16, by omega⟩ d) (m0 m b ⟨j.val / 16, by omega⟩ ⟨_, col_lt f.q_le j x hx⟩) (l0 m b ⟨j.val / 16, by omega⟩ ⟨_, col_lt f.q_le j x hx⟩)
    (o0 m b ⟨j.val / 16, by omega⟩ d ⟨_, col_lt f.q_le j x hx⟩) (16 * npg m b) hn (fun J => ss b _ J _) (fun J => sv b _ d J)
    (by rw [keep7]; exact w7 _ _) (by rw [keep8]; exact w8 _ _) (by rw [keep9]; exact w9 _ _)).trans ?_
  unfold Cert.Soft.nums Cert.Soft.dens
  rw [if_neg hn0, if_neg hn0]
  rfl

include hA in
/-- Every run of the reference ends with its result array at the kernel's. -/
theorem run_same (ρ : Dev nD → PrngReg) : θ_run (defs (F := Ideal)) (onTc (τ := τ) (main (F := Ideal))) ⟨m', fun _ => 0, ρ⟩
    (fun r => r.2.mem (((0 : Dev nD) : Thread nD τ).loc main_v95) = resK m hP) := by
  refine (θ_run defs _ _).mono (fun r h => h.trans ?_) (run_ref m' ρ)
  funext i
  exact (congrArg _ (eq_ix4 i)).trans (meet m hP m' hA (i 0) (i 1) (i 2) (i 3))
end Cert.ReferenceIdeal.Val
-- ==== Proof.lean ====
module

public import proofs.«01_k».proof.Defs
public import proofs.«01_k».proof.Proof.Gen.Kernel.Frame
public import proofs.«01_k».proof.Proof.Gen.KernelIdeal.Frame
public import proofs.«01_k».proof.Proof.Gen.ReferenceIdeal.Frame
public import proofs.«01_k».proof.Proof.Gen.Pre_lens_fit
public import proofs.«01_k».proof.Proof.Hyps
public import proofs.«01_k».proof.Proof.HypsIdeal
public import proofs.«01_k».proof.Proof.Meet
public import Idealize.ShloMosaic.Adequacy
public import Idealize.ShloMosaic.Init

@[expose] public section

noncomputable section

namespace Cert.Proof

open Idealize.ShloMosaic Idealize.SL.Sem

/-- Over the extended reals the kernel and the reference end with the same result. -/
theorem same : Cert.algebraic_KernelIdeal_ReferenceIdeal (hKernelIdeal := Cert.KernelIdeal.Gen.facts) (hReferenceIdeal := Cert.ReferenceIdeal.Gen.facts)
    (hPre_lens_fit := Cert.Pre_lens_fit.Gen.facts) := by
  intro m g m' g' h ha
  refine ⟨fun _ => Cert.KernelIdeal.Val.resK m h, ?_, ?_⟩
  · refine (θ_run _ _ _).mono (fun r hr c => ?_) (θ_run_and (Cert.KernelIdeal.Val.run_value m h g)
      (Cert.KernelIdeal.Gen.unchanged m g (Cert.KernelIdeal.Hyp.ok_of_pre m h) (Cert.KernelIdeal.Hyp.hyps_of_pre m h _)))
    obtain rfl : c = 0 := Subsingleton.elim _ _
    exact ⟨hr.1, hr.2 0⟩
  · refine (θ_run _ _ _).mono (fun r hr c => ?_) (θ_run_and (Cert.ReferenceIdeal.Val.run_same m h m' (ha 0) g') (Cert.ReferenceIdeal.Gen.unchanged m' g'))
    obtain rfl : c = 0 := Subsingleton.elim _ _
    exact ⟨hr.1, hr.2 0⟩

theorem claim : Cert.Claim :=
  ⟨Cert.Kernel.Gen.facts, Cert.KernelIdeal.Gen.facts, Cert.ReferenceIdeal.Gen.facts, Cert.Pre_lens_fit.Gen.facts,
    fun m ρ h => Cert.Kernel.Gen.frame m ρ (Cert.Kernel.Hyp.ok_of_pre m h) (Cert.Kernel.Hyp.hyps_of_pre m h _),
    fun m ρ h => Cert.KernelIdeal.Gen.frame m ρ (Cert.KernelIdeal.Hyp.ok_of_pre m h) (Cert.KernelIdeal.Hyp.hyps_of_pre m h _),
    fun m ρ _ => Cert.ReferenceIdeal.Gen.frame m ρ, fun m ρ _ => Cert.ReferenceIdeal.Gen.frame m ρ, trivial, same⟩

end Cert.Proof

end
